-- ==== Defs.lean ====
def Pre_RetK (m : (ℓ : Loc Cert.RetK.nD Cert.RetK.τ Cert.RetK.sig) → Buf (Elt Bits) ℓ) : Prop :=
  True

def Pre_RetKIdeal (m : (ℓ : Loc Cert.RetKIdeal.nD Cert.RetKIdeal.τ Cert.RetKIdeal.sig) → Buf (Elt Ideal) ℓ) : Prop :=
  True

def Pre_RetKIdeal_finite_retention [hPre_finite_retention : Cert.Pre_finite_retention.Facts] (m : (ℓ : Loc Cert.RetKIdeal.nD Cert.RetKIdeal.τ Cert.RetKIdeal.sig) → Buf (Elt Ideal) ℓ) : Prop :=
  ∀ c : Dev Cert.RetKIdeal.nD,
    (Cert.Pre_finite_retention.fn (F := Ideal) (m ((c.tc : Thread Cert.RetKIdeal.nD Cert.RetKIdeal.τ).loc Cert.RetKIdeal.main_arg0)) (m ((c.tc : Thread Cert.RetKIdeal.nD Cert.RetKIdeal.τ).loc Cert.RetKIdeal.main_arg1)) (m ((c.tc : Thread Cert.RetKIdeal.nD Cert.RetKIdeal.τ).loc Cert.RetKIdeal.main_arg2)) (m ((c.tc : Thread Cert.RetKIdeal.nD Cert.RetKIdeal.τ).loc Cert.RetKIdeal.main_arg3)) (m ((c.tc : Thread Cert.RetKIdeal.nD Cert.RetKIdeal.τ).loc Cert.RetKIdeal.main_arg4)) (m ((c.tc : Thread Cert.RetKIdeal.nD Cert.RetKIdeal.τ).loc Cert.RetKIdeal.main_arg5))) = (fun _ => 1#1)

def Pre_RetRIdeal (m : (ℓ : Loc Cert.RetRIdeal.nD Cert.RetRIdeal.τ Cert.RetRIdeal.sig) → Buf (Elt Ideal) ℓ) : Prop :=
  True

def Pre_RetRIdeal_finite_retention [hPre_finite_retention : Cert.Pre_finite_retention.Facts] (m : (ℓ : Loc Cert.RetRIdeal.nD Cert.RetRIdeal.τ Cert.RetRIdeal.sig) → Buf (Elt Ideal) ℓ) : Prop :=
  ∀ c : Dev Cert.RetRIdeal.nD,
    (Cert.Pre_finite_retention.fn (F := Ideal) (m ((c.tc : Thread Cert.RetRIdeal.nD Cert.RetRIdeal.τ).loc Cert.RetRIdeal.main_arg0)) (m ((c.tc : Thread Cert.RetRIdeal.nD Cert.RetRIdeal.τ).loc Cert.RetRIdeal.main_arg1)) (m ((c.tc : Thread Cert.RetRIdeal.nD Cert.RetRIdeal.τ).loc Cert.RetRIdeal.main_arg2)) (m ((c.tc : Thread Cert.RetRIdeal.nD Cert.RetRIdeal.τ).loc Cert.RetRIdeal.main_arg3)) (m ((c.tc : Thread Cert.RetRIdeal.nD Cert.RetRIdeal.τ).loc Cert.RetRIdeal.main_arg4)) (m ((c.tc : Thread Cert.RetRIdeal.nD Cert.RetRIdeal.τ).loc Cert.RetRIdeal.main_arg5))) = (fun _ => 1#1)

def Pre_MemK (m : (ℓ : Loc Cert.MemK.nD Cert.MemK.τ Cert.MemK.sig) → Buf (Elt Bits) ℓ) : Prop :=
  True

def Pre_MemKIdeal (m : (ℓ : Loc Cert.MemKIdeal.nD Cert.MemKIdeal.τ Cert.MemKIdeal.sig) → Buf (Elt Ideal) ℓ) : Prop :=
  True

def Pre_MemKIdeal_finite_attention [hPre_finite_attention : Cert.Pre_finite_attention.Facts] (m : (ℓ : Loc Cert.MemKIdeal.nD Cert.MemKIdeal.τ Cert.MemKIdeal.sig) → Buf (Elt Ideal) ℓ) : Prop :=
  ∀ c : Dev Cert.MemKIdeal.nD,
    (Cert.Pre_finite_attention.fn (F := Ideal) (m ((c.tc : Thread Cert.MemKIdeal.nD Cert.MemKIdeal.τ).loc Cert.MemKIdeal.main_arg0)) (m ((c.tc : Thread Cert.MemKIdeal.nD Cert.MemKIdeal.τ).loc Cert.MemKIdeal.main_arg1)) (m ((c.tc : Thread Cert.MemKIdeal.nD Cert.MemKIdeal.τ).loc Cert.MemKIdeal.main_arg2)) (m ((c.tc : Thread Cert.MemKIdeal.nD Cert.MemKIdeal.τ).loc Cert.MemKIdeal.main_arg3))) = (fun _ => 1#1)

def Pre_MemRIdeal (m : (ℓ : Loc Cert.MemRIdeal.nD Cert.MemRIdeal.τ Cert.MemRIdeal.sig) → Buf (Elt Ideal) ℓ) : Prop :=
  True

def Pre_MemRIdeal_finite_attention [hPre_finite_attention : Cert.Pre_finite_attention.Facts] (m : (ℓ : Loc Cert.MemRIdeal.nD Cert.MemRIdeal.τ Cert.MemRIdeal.sig) → Buf (Elt Ideal) ℓ) : Prop :=
  ∀ c : Dev Cert.MemRIdeal.nD,
    (Cert.Pre_finite_attention.fn (F := Ideal) (m ((c.tc : Thread Cert.MemRIdeal.nD Cert.MemRIdeal.τ).loc Cert.MemRIdeal.main_arg0)) (m ((c.tc : Thread Cert.MemRIdeal.nD Cert.MemRIdeal.τ).loc Cert.MemRIdeal.main_arg1)) (m ((c.tc : Thread Cert.MemRIdeal.nD Cert.MemRIdeal.τ).loc Cert.MemRIdeal.main_arg2)) (m ((c.tc : Thread Cert.MemRIdeal.nD Cert.MemRIdeal.τ).loc Cert.MemRIdeal.main_arg3))) = (fun _ => 1#1)

def Pre_PrjK (m : (ℓ : Loc Cert.PrjK.nD Cert.PrjK.τ Cert.PrjK.sig) → Buf (Elt Bits) ℓ) : Prop :=
  True

def Pre_PrjKIdeal (m : (ℓ : Loc Cert.PrjKIdeal.nD Cert.PrjKIdeal.τ Cert.PrjKIdeal.sig) → Buf (Elt Ideal) ℓ) : Prop :=
  True

def Pre_PrjRIdeal (m : (ℓ : Loc Cert.PrjRIdeal.nD Cert.PrjRIdeal.τ Cert.PrjRIdeal.sig) → Buf (Elt Ideal) ℓ) : Prop :=
  True

def Pre_PreK (m : (ℓ : Loc Cert.PreK.nD Cert.PreK.τ Cert.PreK.sig) → Buf (Elt Bits) ℓ) : Prop :=
  True

def Pre_PreKIdeal (m : (ℓ : Loc Cert.PreKIdeal.nD Cert.PreKIdeal.τ Cert.PreKIdeal.sig) → Buf (Elt Ideal) ℓ) : Prop :=
  True

def Pre_PreRIdeal (m : (ℓ : Loc Cert.PreRIdeal.nD Cert.PreRIdeal.τ Cert.PreRIdeal.sig) → Buf (Elt Ideal) ℓ) : Prop :=
  True

def Pre_MrgK (m : (ℓ : Loc Cert.MrgK.nD Cert.MrgK.τ Cert.MrgK.sig) → Buf (Elt Bits) ℓ) : Prop :=
  True

def Pre_MrgKIdeal (m : (ℓ : Loc Cert.MrgKIdeal.nD Cert.MrgKIdeal.τ Cert.MrgKIdeal.sig) → Buf (Elt Ideal) ℓ) : Prop :=
  True

def Pre_MrgRIdeal (m : (ℓ : Loc Cert.MrgRIdeal.nD Cert.MrgRIdeal.τ Cert.MrgRIdeal.sig) → Buf (Elt Ideal) ℓ) : Prop :=
  True

def Pre_OutK (m : (ℓ : Loc Cert.OutK.nD Cert.OutK.τ Cert.OutK.sig) → Buf (Elt Bits) ℓ) : Prop :=
  True

def Pre_OutKIdeal (m : (ℓ : Loc Cert.OutKIdeal.nD Cert.OutKIdeal.τ Cert.OutKIdeal.sig) → Buf (Elt Ideal) ℓ) : Prop :=
  True

def Pre_OutRIdeal (m : (ℓ : Loc Cert.OutRIdeal.nD Cert.OutRIdeal.τ Cert.OutRIdeal.sig) → Buf (Elt Ideal) ℓ) : Prop :=
  True

def quiescent_RetK [hRetK : Cert.RetK.Facts] : Prop :=
  ∀ (m : (ℓ : Loc Cert.RetK.nD Cert.RetK.τ Cert.RetK.sig) → Buf (Elt Bits) ℓ) (g : Dev Cert.RetK.nD → PrngReg), Pre_RetK m →
    θ_run (Cert.RetK.defs (F := Bits)) (onTc (τ := Cert.RetK.τ) (Cert.RetK.main (F := Bits))) ⟨m, fun _ => 0, g⟩ (fun r => (∀ c : Dev Cert.RetK.nD,
      r.2.mem ((c.tc : Thread Cert.RetK.nD Cert.RetK.τ).loc Cert.RetK.main_arg0) = m ((c.tc : Thread Cert.RetK.nD Cert.RetK.τ).loc Cert.RetK.main_arg0)
      ∧ r.2.mem ((c.tc : Thread Cert.RetK.nD Cert.RetK.τ).loc Cert.RetK.main_arg1) = m ((c.tc : Thread Cert.RetK.nD Cert.RetK.τ).loc Cert.RetK.main_arg1)
      ∧ r.2.mem ((c.tc : Thread Cert.RetK.nD Cert.RetK.τ).loc Cert.RetK.main_arg2) = m ((c.tc : Thread Cert.RetK.nD Cert.RetK.τ).loc Cert.RetK.main_arg2)
      ∧ r.2.mem ((c.tc : Thread Cert.RetK.nD Cert.RetK.τ).loc Cert.RetK.main_arg3) = m ((c.tc : Thread Cert.RetK.nD Cert.RetK.τ).loc Cert.RetK.main_arg3)
      ∧ r.2.mem ((c.tc : Thread Cert.RetK.nD Cert.RetK.τ).loc Cert.RetK.main_arg4) = m ((c.tc : Thread Cert.RetK.nD Cert.RetK.τ).loc Cert.RetK.main_arg4)
      ∧ r.2.mem ((c.tc : Thread Cert.RetK.nD Cert.RetK.τ).loc Cert.RetK.main_arg5) = m ((c.tc : Thread Cert.RetK.nD Cert.RetK.τ).loc Cert.RetK.main_arg5))
      ∧ r.2.sem = fun _ => 0)

def quiescent_RetKIdeal [hRetKIdeal : Cert.RetKIdeal.Facts] : Prop :=
  ∀ (m : (ℓ : Loc Cert.RetKIdeal.nD Cert.RetKIdeal.τ Cert.RetKIdeal.sig) → Buf (Elt Ideal) ℓ) (g : Dev Cert.RetKIdeal.nD → PrngReg), Pre_RetKIdeal m →
    θ_run (Cert.RetKIdeal.defs (F := Ideal)) (onTc (τ := Cert.RetKIdeal.τ) (Cert.RetKIdeal.main (F := Ideal))) ⟨m, fun _ => 0, g⟩ (fun r => (∀ c : Dev Cert.RetKIdeal.nD,
      r.2.mem ((c.tc : Thread Cert.RetKIdeal.nD Cert.RetKIdeal.τ).loc Cert.RetKIdeal.main_arg0) = m ((c.tc : Thread Cert.RetKIdeal.nD Cert.RetKIdeal.τ).loc Cert.RetKIdeal.main_arg0)
      ∧ r.2.mem ((c.tc : Thread Cert.RetKIdeal.nD Cert.RetKIdeal.τ).loc Cert.RetKIdeal.main_arg1) = m ((c.tc : Thread Cert.RetKIdeal.nD Cert.RetKIdeal.τ).loc Cert.RetKIdeal.main_arg1)
      ∧ r.2.mem ((c.tc : Thread Cert.RetKIdeal.nD Cert.RetKIdeal.τ).loc Cert.RetKIdeal.main_arg2) = m ((c.tc : Thread Cert.RetKIdeal.nD Cert.RetKIdeal.τ).loc Cert.RetKIdeal.main_arg2)
      ∧ r.2.mem ((c.tc : Thread Cert.RetKIdeal.nD Cert.RetKIdeal.τ).loc Cert.RetKIdeal.main_arg3) = m ((c.tc : Thread Cert.RetKIdeal.nD Cert.RetKIdeal.τ).loc Cert.RetKIdeal.main_arg3)
      ∧ r.2.mem ((c.tc : Thread Cert.RetKIdeal.nD Cert.RetKIdeal.τ).loc Cert.RetKIdeal.main_arg4) = m ((c.tc : Thread Cert.RetKIdeal.nD Cert.RetKIdeal.τ).loc Cert.RetKIdeal.main_arg4)
      ∧ r.2.mem ((c.tc : Thread Cert.RetKIdeal.nD Cert.RetKIdeal.τ).loc Cert.RetKIdeal.main_arg5) = m ((c.tc : Thread Cert.RetKIdeal.nD Cert.RetKIdeal.τ).loc Cert.RetKIdeal.main_arg5))
      ∧ r.2.sem = fun _ => 0)

def quiescent_RetKIdeal_pre_finite_retention [hRetKIdeal : Cert.RetKIdeal.Facts] [hPre_finite_retention : Cert.Pre_finite_retention.Facts] : Prop :=
  ∀ (m : (ℓ : Loc Cert.RetKIdeal.nD Cert.RetKIdeal.τ Cert.RetKIdeal.sig) → Buf (Elt Ideal) ℓ) (g : Dev Cert.RetKIdeal.nD → PrngReg), Pre_RetKIdeal_finite_retention m →
    θ_run (Cert.RetKIdeal.defs (F := Ideal)) (onTc (τ := Cert.RetKIdeal.τ) (Cert.RetKIdeal.main (F := Ideal))) ⟨m, fun _ => 0, g⟩ (fun r => (∀ c : Dev Cert.RetKIdeal.nD,
      r.2.mem ((c.tc : Thread Cert.RetKIdeal.nD Cert.RetKIdeal.τ).loc Cert.RetKIdeal.main_arg0) = m ((c.tc : Thread Cert.RetKIdeal.nD Cert.RetKIdeal.τ).loc Cert.RetKIdeal.main_arg0)
      ∧ r.2.mem ((c.tc : Thread Cert.RetKIdeal.nD Cert.RetKIdeal.τ).loc Cert.RetKIdeal.main_arg1) = m ((c.tc : Thread Cert.RetKIdeal.nD Cert.RetKIdeal.τ).loc Cert.RetKIdeal.main_arg1)
      ∧ r.2.mem ((c.tc : Thread Cert.RetKIdeal.nD Cert.RetKIdeal.τ).loc Cert.RetKIdeal.main_arg2) = m ((c.tc : Thread Cert.RetKIdeal.nD Cert.RetKIdeal.τ).loc Cert.RetKIdeal.main_arg2)
      ∧ r.2.mem ((c.tc : Thread Cert.RetKIdeal.nD Cert.RetKIdeal.τ).loc Cert.RetKIdeal.main_arg3) = m ((c.tc : Thread Cert.RetKIdeal.nD Cert.RetKIdeal.τ).loc Cert.RetKIdeal.main_arg3)
      ∧ r.2.mem ((c.tc : Thread Cert.RetKIdeal.nD Cert.RetKIdeal.τ).loc Cert.RetKIdeal.main_arg4) = m ((c.tc : Thread Cert.RetKIdeal.nD Cert.RetKIdeal.τ).loc Cert.RetKIdeal.main_arg4)
      ∧ r.2.mem ((c.tc : Thread Cert.RetKIdeal.nD Cert.RetKIdeal.τ).loc Cert.RetKIdeal.main_arg5) = m ((c.tc : Thread Cert.RetKIdeal.nD Cert.RetKIdeal.τ).loc Cert.RetKIdeal.main_arg5))
      ∧ r.2.sem = fun _ => 0)

def quiescent_RetRIdeal [hRetRIdeal : Cert.RetRIdeal.Facts] : Prop :=
  ∀ (m : (ℓ : Loc Cert.RetRIdeal.nD Cert.RetRIdeal.τ Cert.RetRIdeal.sig) → Buf (Elt Ideal) ℓ) (g : Dev Cert.RetRIdeal.nD → PrngReg), Pre_RetRIdeal m →
    θ_run (Cert.RetRIdeal.defs (F := Ideal)) (onTc (τ := Cert.RetRIdeal.τ) (Cert.RetRIdeal.main (F := Ideal))) ⟨m, fun _ => 0, g⟩ (fun r => (∀ c : Dev Cert.RetRIdeal.nD,
      r.2.mem ((c.tc : Thread Cert.RetRIdeal.nD Cert.RetRIdeal.τ).loc Cert.RetRIdeal.main_arg0) = m ((c.tc : Thread Cert.RetRIdeal.nD Cert.RetRIdeal.τ).loc Cert.RetRIdeal.main_arg0)
      ∧ r.2.mem ((c.tc : Thread Cert.RetRIdeal.nD Cert.RetRIdeal.τ).loc Cert.RetRIdeal.main_arg1) = m ((c.tc : Thread Cert.RetRIdeal.nD Cert.RetRIdeal.τ).loc Cert.RetRIdeal.main_arg1)
      ∧ r.2.mem ((c.tc : Thread Cert.RetRIdeal.nD Cert.RetRIdeal.τ).loc Cert.RetRIdeal.main_arg2) = m ((c.tc : Thread Cert.RetRIdeal.nD Cert.RetRIdeal.τ).loc Cert.RetRIdeal.main_arg2)
      ∧ r.2.mem ((c.tc : Thread Cert.RetRIdeal.nD Cert.RetRIdeal.τ).loc Cert.RetRIdeal.main_arg3) = m ((c.tc : Thread Cert.RetRIdeal.nD Cert.RetRIdeal.τ).loc Cert.RetRIdeal.main_arg3)
      ∧ r.2.mem ((c.tc : Thread Cert.RetRIdeal.nD Cert.RetRIdeal.τ).loc Cert.RetRIdeal.main_arg4) = m ((c.tc : Thread Cert.RetRIdeal.nD Cert.RetRIdeal.τ).loc Cert.RetRIdeal.main_arg4)
      ∧ r.2.mem ((c.tc : Thread Cert.RetRIdeal.nD Cert.RetRIdeal.τ).loc Cert.RetRIdeal.main_arg5) = m ((c.tc : Thread Cert.RetRIdeal.nD Cert.RetRIdeal.τ).loc Cert.RetRIdeal.main_arg5))
      ∧ r.2.sem = fun _ => 0)

def quiescent_RetRIdeal_pre_finite_retention [hRetRIdeal : Cert.RetRIdeal.Facts] [hPre_finite_retention : Cert.Pre_finite_retention.Facts] : Prop :=
  ∀ (m : (ℓ : Loc Cert.RetRIdeal.nD Cert.RetRIdeal.τ Cert.RetRIdeal.sig) → Buf (Elt Ideal) ℓ) (g : Dev Cert.RetRIdeal.nD → PrngReg), Pre_RetRIdeal_finite_retention m →
    θ_run (Cert.RetRIdeal.defs (F := Ideal)) (onTc (τ := Cert.RetRIdeal.τ) (Cert.RetRIdeal.main (F := Ideal))) ⟨m, fun _ => 0, g⟩ (fun r => (∀ c : Dev Cert.RetRIdeal.nD,
      r.2.mem ((c.tc : Thread Cert.RetRIdeal.nD Cert.RetRIdeal.τ).loc Cert.RetRIdeal.main_arg0) = m ((c.tc : Thread Cert.RetRIdeal.nD Cert.RetRIdeal.τ).loc Cert.RetRIdeal.main_arg0)
      ∧ r.2.mem ((c.tc : Thread Cert.RetRIdeal.nD Cert.RetRIdeal.τ).loc Cert.RetRIdeal.main_arg1) = m ((c.tc : Thread Cert.RetRIdeal.nD Cert.RetRIdeal.τ).loc Cert.RetRIdeal.main_arg1)
      ∧ r.2.mem ((c.tc : Thread Cert.RetRIdeal.nD Cert.RetRIdeal.τ).loc Cert.RetRIdeal.main_arg2) = m ((c.tc : Thread Cert.RetRIdeal.nD Cert.RetRIdeal.τ).loc Cert.RetRIdeal.main_arg2)
      ∧ r.2.mem ((c.tc : Thread Cert.RetRIdeal.nD Cert.RetRIdeal.τ).loc Cert.RetRIdeal.main_arg3) = m ((c.tc : Thread Cert.RetRIdeal.nD Cert.RetRIdeal.τ).loc Cert.RetRIdeal.main_arg3)
      ∧ r.2.mem ((c.tc : Thread Cert.RetRIdeal.nD Cert.RetRIdeal.τ).loc Cert.RetRIdeal.main_arg4) = m ((c.tc : Thread Cert.RetRIdeal.nD Cert.RetRIdeal.τ).loc Cert.RetRIdeal.main_arg4)
      ∧ r.2.mem ((c.tc : Thread Cert.RetRIdeal.nD Cert.RetRIdeal.τ).loc Cert.RetRIdeal.main_arg5) = m ((c.tc : Thread Cert.RetRIdeal.nD Cert.RetRIdeal.τ).loc Cert.RetRIdeal.main_arg5))
      ∧ r.2.sem = fun _ => 0)

def quiescent_MemK [hMemK : Cert.MemK.Facts] : Prop :=
  ∀ (m : (ℓ : Loc Cert.MemK.nD Cert.MemK.τ Cert.MemK.sig) → Buf (Elt Bits) ℓ) (g : Dev Cert.MemK.nD → PrngReg), Pre_MemK m →
    θ_run (Cert.MemK.defs (F := Bits)) (onTc (τ := Cert.MemK.τ) (Cert.MemK.main (F := Bits))) ⟨m, fun _ => 0, g⟩ (fun r => (∀ c : Dev Cert.MemK.nD,
      r.2.mem ((c.tc : Thread Cert.MemK.nD Cert.MemK.τ).loc Cert.MemK.main_arg0) = m ((c.tc : Thread Cert.MemK.nD Cert.MemK.τ).loc Cert.MemK.main_arg0)
      ∧ r.2.mem ((c.tc : Thread Cert.MemK.nD Cert.MemK.τ).loc Cert.MemK.main_arg1) = m ((c.tc : Thread Cert.MemK.nD Cert.MemK.τ).loc Cert.MemK.main_arg1)
      ∧ r.2.mem ((c.tc : Thread Cert.MemK.nD Cert.MemK.τ).loc Cert.MemK.main_arg2) = m ((c.tc : Thread Cert.MemK.nD Cert.MemK.τ).loc Cert.MemK.main_arg2)
      ∧ r.2.mem ((c.tc : Thread Cert.MemK.nD Cert.MemK.τ).loc Cert.MemK.main_arg3) = m ((c.tc : Thread Cert.MemK.nD Cert.MemK.τ).loc Cert.MemK.main_arg3))
      ∧ r.2.sem = fun _ => 0)

def quiescent_MemKIdeal [hMemKIdeal : Cert.MemKIdeal.Facts] : Prop :=
  ∀ (m : (ℓ : Loc Cert.MemKIdeal.nD Cert.MemKIdeal.τ Cert.MemKIdeal.sig) → Buf (Elt Ideal) ℓ) (g : Dev Cert.MemKIdeal.nD → PrngReg), Pre_MemKIdeal m →
    θ_run (Cert.MemKIdeal.defs (F := Ideal)) (onTc (τ := Cert.MemKIdeal.τ) (Cert.MemKIdeal.main (F := Ideal))) ⟨m, fun _ => 0, g⟩ (fun r => (∀ c : Dev Cert.MemKIdeal.nD,
      r.2.mem ((c.tc : Thread Cert.MemKIdeal.nD Cert.MemKIdeal.τ).loc Cert.MemKIdeal.main_arg0) = m ((c.tc : Thread Cert.MemKIdeal.nD Cert.MemKIdeal.τ).loc Cert.MemKIdeal.main_arg0)
      ∧ r.2.mem ((c.tc : Thread Cert.MemKIdeal.nD Cert.MemKIdeal.τ).loc Cert.MemKIdeal.main_arg1) = m ((c.tc : Thread Cert.MemKIdeal.nD Cert.MemKIdeal.τ).loc Cert.MemKIdeal.main_arg1)
      ∧ r.2.mem ((c.tc : Thread Cert.MemKIdeal.nD Cert.MemKIdeal.τ).loc Cert.MemKIdeal.main_arg2) = m ((c.tc : Thread Cert.MemKIdeal.nD Cert.MemKIdeal.τ).loc Cert.MemKIdeal.main_arg2)
      ∧ r.2.mem ((c.tc : Thread Cert.MemKIdeal.nD Cert.MemKIdeal.τ).loc Cert.MemKIdeal.main_arg3) = m ((c.tc : Thread Cert.MemKIdeal.nD Cert.MemKIdeal.τ).loc Cert.MemKIdeal.main_arg3))
      ∧ r.2.sem = fun _ => 0)

def quiescent_MemKIdeal_pre_finite_attention [hMemKIdeal : Cert.MemKIdeal.Facts] [hPre_finite_attention : Cert.Pre_finite_attention.Facts] : Prop :=
  ∀ (m : (ℓ : Loc Cert.MemKIdeal.nD Cert.MemKIdeal.τ Cert.MemKIdeal.sig) → Buf (Elt Ideal) ℓ) (g : Dev Cert.MemKIdeal.nD → PrngReg), Pre_MemKIdeal_finite_attention m →
    θ_run (Cert.MemKIdeal.defs (F := Ideal)) (onTc (τ := Cert.MemKIdeal.τ) (Cert.MemKIdeal.main (F := Ideal))) ⟨m, fun _ => 0, g⟩ (fun r => (∀ c : Dev Cert.MemKIdeal.nD,
      r.2.mem ((c.tc : Thread Cert.MemKIdeal.nD Cert.MemKIdeal.τ).loc Cert.MemKIdeal.main_arg0) = m ((c.tc : Thread Cert.MemKIdeal.nD Cert.MemKIdeal.τ).loc Cert.MemKIdeal.main_arg0)
      ∧ r.2.mem ((c.tc : Thread Cert.MemKIdeal.nD Cert.MemKIdeal.τ).loc Cert.MemKIdeal.main_arg1) = m ((c.tc : Thread Cert.MemKIdeal.nD Cert.MemKIdeal.τ).loc Cert.MemKIdeal.main_arg1)
      ∧ r.2.mem ((c.tc : Thread Cert.MemKIdeal.nD Cert.MemKIdeal.τ).loc Cert.MemKIdeal.main_arg2) = m ((c.tc : Thread Cert.MemKIdeal.nD Cert.MemKIdeal.τ).loc Cert.MemKIdeal.main_arg2)
      ∧ r.2.mem ((c.tc : Thread Cert.MemKIdeal.nD Cert.MemKIdeal.τ).loc Cert.MemKIdeal.main_arg3) = m ((c.tc : Thread Cert.MemKIdeal.nD Cert.MemKIdeal.τ).loc Cert.MemKIdeal.main_arg3))
      ∧ r.2.sem = fun _ => 0)

def quiescent_MemRIdeal [hMemRIdeal : Cert.MemRIdeal.Facts] : Prop :=
  ∀ (m : (ℓ : Loc Cert.MemRIdeal.nD Cert.MemRIdeal.τ Cert.MemRIdeal.sig) → Buf (Elt Ideal) ℓ) (g : Dev Cert.MemRIdeal.nD → PrngReg), Pre_MemRIdeal m →
    θ_run (Cert.MemRIdeal.defs (F := Ideal)) (onTc (τ := Cert.MemRIdeal.τ) (Cert.MemRIdeal.main (F := Ideal))) ⟨m, fun _ => 0, g⟩ (fun r => (∀ c : Dev Cert.MemRIdeal.nD,
      r.2.mem ((c.tc : Thread Cert.MemRIdeal.nD Cert.MemRIdeal.τ).loc Cert.MemRIdeal.main_arg0) = m ((c.tc : Thread Cert.MemRIdeal.nD Cert.MemRIdeal.τ).loc Cert.MemRIdeal.main_arg0)
      ∧ r.2.mem ((c.tc : Thread Cert.MemRIdeal.nD Cert.MemRIdeal.τ).loc Cert.MemRIdeal.main_arg1) = m ((c.tc : Thread Cert.MemRIdeal.nD Cert.MemRIdeal.τ).loc Cert.MemRIdeal.main_arg1)
      ∧ r.2.mem ((c.tc : Thread Cert.MemRIdeal.nD Cert.MemRIdeal.τ).loc Cert.MemRIdeal.main_arg2) = m ((c.tc : Thread Cert.MemRIdeal.nD Cert.MemRIdeal.τ).loc Cert.MemRIdeal.main_arg2)
      ∧ r.2.mem ((c.tc : Thread Cert.MemRIdeal.nD Cert.MemRIdeal.τ).loc Cert.MemRIdeal.main_arg3) = m ((c.tc : Thread Cert.MemRIdeal.nD Cert.MemRIdeal.τ).loc Cert.MemRIdeal.main_arg3))
      ∧ r.2.sem = fun _ => 0)

def quiescent_MemRIdeal_pre_finite_attention [hMemRIdeal : Cert.MemRIdeal.Facts] [hPre_finite_attention : Cert.Pre_finite_attention.Facts] : Prop :=
  ∀ (m : (ℓ : Loc Cert.MemRIdeal.nD Cert.MemRIdeal.τ Cert.MemRIdeal.sig) → Buf (Elt Ideal) ℓ) (g : Dev Cert.MemRIdeal.nD → PrngReg), Pre_MemRIdeal_finite_attention m →
    θ_run (Cert.MemRIdeal.defs (F := Ideal)) (onTc (τ := Cert.MemRIdeal.τ) (Cert.MemRIdeal.main (F := Ideal))) ⟨m, fun _ => 0, g⟩ (fun r => (∀ c : Dev Cert.MemRIdeal.nD,
      r.2.mem ((c.tc : Thread Cert.MemRIdeal.nD Cert.MemRIdeal.τ).loc Cert.MemRIdeal.main_arg0) = m ((c.tc : Thread Cert.MemRIdeal.nD Cert.MemRIdeal.τ).loc Cert.MemRIdeal.main_arg0)
      ∧ r.2.mem ((c.tc : Thread Cert.MemRIdeal.nD Cert.MemRIdeal.τ).loc Cert.MemRIdeal.main_arg1) = m ((c.tc : Thread Cert.MemRIdeal.nD Cert.MemRIdeal.τ).loc Cert.MemRIdeal.main_arg1)
      ∧ r.2.mem ((c.tc : Thread Cert.MemRIdeal.nD Cert.MemRIdeal.τ).loc Cert.MemRIdeal.main_arg2) = m ((c.tc : Thread Cert.MemRIdeal.nD Cert.MemRIdeal.τ).loc Cert.MemRIdeal.main_arg2)
      ∧ r.2.mem ((c.tc : Thread Cert.MemRIdeal.nD Cert.MemRIdeal.τ).loc Cert.MemRIdeal.main_arg3) = m ((c.tc : Thread Cert.MemRIdeal.nD Cert.MemRIdeal.τ).loc Cert.MemRIdeal.main_arg3))
      ∧ r.2.sem = fun _ => 0)

def quiescent_PrjK [hPrjK : Cert.PrjK.Facts] : Prop :=
  ∀ (m : (ℓ : Loc Cert.PrjK.nD Cert.PrjK.τ Cert.PrjK.sig) → Buf (Elt Bits) ℓ) (g : Dev Cert.PrjK.nD → PrngReg), Pre_PrjK m →
    θ_run (Cert.PrjK.defs (F := Bits)) (onTc (τ := Cert.PrjK.τ) (Cert.PrjK.main (F := Bits))) ⟨m, fun _ => 0, g⟩ (fun r => (∀ c : Dev Cert.PrjK.nD,
      r.2.mem ((c.tc : Thread Cert.PrjK.nD Cert.PrjK.τ).loc Cert.PrjK.main_arg0) = m ((c.tc : Thread Cert.PrjK.nD Cert.PrjK.τ).loc Cert.PrjK.main_arg0)
      ∧ r.2.mem ((c.tc : Thread Cert.PrjK.nD Cert.PrjK.τ).loc Cert.PrjK.main_arg1) = m ((c.tc : Thread Cert.PrjK.nD Cert.PrjK.τ).loc Cert.PrjK.main_arg1))
      ∧ r.2.sem = fun _ => 0)

def quiescent_PrjKIdeal [hPrjKIdeal : Cert.PrjKIdeal.Facts] : Prop :=
  ∀ (m : (ℓ : Loc Cert.PrjKIdeal.nD Cert.PrjKIdeal.τ Cert.PrjKIdeal.sig) → Buf (Elt Ideal) ℓ) (g : Dev Cert.PrjKIdeal.nD → PrngReg), Pre_PrjKIdeal m →
    θ_run (Cert.PrjKIdeal.defs (F := Ideal)) (onTc (τ := Cert.PrjKIdeal.τ) (Cert.PrjKIdeal.main (F := Ideal))) ⟨m, fun _ => 0, g⟩ (fun r => (∀ c : Dev Cert.PrjKIdeal.nD,
      r.2.mem ((c.tc : Thread Cert.PrjKIdeal.nD Cert.PrjKIdeal.τ).loc Cert.PrjKIdeal.main_arg0) = m ((c.tc : Thread Cert.PrjKIdeal.nD Cert.PrjKIdeal.τ).loc Cert.PrjKIdeal.main_arg0)
      ∧ r.2.mem ((c.tc : Thread Cert.PrjKIdeal.nD Cert.PrjKIdeal.τ).loc Cert.PrjKIdeal.main_arg1) = m ((c.tc : Thread Cert.PrjKIdeal.nD Cert.PrjKIdeal.τ).loc Cert.PrjKIdeal.main_arg1))
      ∧ r.2.sem = fun _ => 0)

def quiescent_PrjRIdeal [hPrjRIdeal : Cert.PrjRIdeal.Facts] : Prop :=
  ∀ (m : (ℓ : Loc Cert.PrjRIdeal.nD Cert.PrjRIdeal.τ Cert.PrjRIdeal.sig) → Buf (Elt Ideal) ℓ) (g : Dev Cert.PrjRIdeal.nD → PrngReg), Pre_PrjRIdeal m →
    θ_run (Cert.PrjRIdeal.defs (F := Ideal)) (onTc (τ := Cert.PrjRIdeal.τ) (Cert.PrjRIdeal.main (F := Ideal))) ⟨m, fun _ => 0, g⟩ (fun r => (∀ c : Dev Cert.PrjRIdeal.nD,
      r.2.mem ((c.tc : Thread Cert.PrjRIdeal.nD Cert.PrjRIdeal.τ).loc Cert.PrjRIdeal.main_arg0) = m ((c.tc : Thread Cert.PrjRIdeal.nD Cert.PrjRIdeal.τ).loc Cert.PrjRIdeal.main_arg0)
      ∧ r.2.mem ((c.tc : Thread Cert.PrjRIdeal.nD Cert.PrjRIdeal.τ).loc Cert.PrjRIdeal.main_arg1) = m ((c.tc : Thread Cert.PrjRIdeal.nD Cert.PrjRIdeal.τ).loc Cert.PrjRIdeal.main_arg1))
      ∧ r.2.sem = fun _ => 0)

def quiescent_PreK [hPreK : Cert.PreK.Facts] : Prop :=
  ∀ (m : (ℓ : Loc Cert.PreK.nD Cert.PreK.τ Cert.PreK.sig) → Buf (Elt Bits) ℓ) (g : Dev Cert.PreK.nD → PrngReg), Pre_PreK m →
    θ_run (Cert.PreK.defs (F := Bits)) (onTc (τ := Cert.PreK.τ) (Cert.PreK.main (F := Bits))) ⟨m, fun _ => 0, g⟩ (fun r => (∀ c : Dev Cert.PreK.nD,
      r.2.mem ((c.tc : Thread Cert.PreK.nD Cert.PreK.τ).loc Cert.PreK.main_arg0) = m ((c.tc : Thread Cert.PreK.nD Cert.PreK.τ).loc Cert.PreK.main_arg0)
      ∧ r.2.mem ((c.tc : Thread Cert.PreK.nD Cert.PreK.τ).loc Cert.PreK.main_arg1) = m ((c.tc : Thread Cert.PreK.nD Cert.PreK.τ).loc Cert.PreK.main_arg1)
      ∧ r.2.mem ((c.tc : Thread Cert.PreK.nD Cert.PreK.τ).loc Cert.PreK.main_arg2) = m ((c.tc : Thread Cert.PreK.nD Cert.PreK.τ).loc Cert.PreK.main_arg2))
      ∧ r.2.sem = fun _ => 0)

def quiescent_PreKIdeal [hPreKIdeal : Cert.PreKIdeal.Facts] : Prop :=
  ∀ (m : (ℓ : Loc Cert.PreKIdeal.nD Cert.PreKIdeal.τ Cert.PreKIdeal.sig) → Buf (Elt Ideal) ℓ) (g : Dev Cert.PreKIdeal.nD → PrngReg), Pre_PreKIdeal m →
    θ_run (Cert.PreKIdeal.defs (F := Ideal)) (onTc (τ := Cert.PreKIdeal.τ) (Cert.PreKIdeal.main (F := Ideal))) ⟨m, fun _ => 0, g⟩ (fun r => (∀ c : Dev Cert.PreKIdeal.nD,
      r.2.mem ((c.tc : Thread Cert.PreKIdeal.nD Cert.PreKIdeal.τ).loc Cert.PreKIdeal.main_arg0) = m ((c.tc : Thread Cert.PreKIdeal.nD Cert.PreKIdeal.τ).loc Cert.PreKIdeal.main_arg0)
      ∧ r.2.mem ((c.tc : Thread Cert.PreKIdeal.nD Cert.PreKIdeal.τ).loc Cert.PreKIdeal.main_arg1) = m ((c.tc : Thread Cert.PreKIdeal.nD Cert.PreKIdeal.τ).loc Cert.PreKIdeal.main_arg1)
      ∧ r.2.mem ((c.tc : Thread Cert.PreKIdeal.nD Cert.PreKIdeal.τ).loc Cert.PreKIdeal.main_arg2) = m ((c.tc : Thread Cert.PreKIdeal.nD Cert.PreKIdeal.τ).loc Cert.PreKIdeal.main_arg2))
      ∧ r.2.sem = fun _ => 0)

def quiescent_PreRIdeal [hPreRIdeal : Cert.PreRIdeal.Facts] : Prop :=
  ∀ (m : (ℓ : Loc Cert.PreRIdeal.nD Cert.PreRIdeal.τ Cert.PreRIdeal.sig) → Buf (Elt Ideal) ℓ) (g : Dev Cert.PreRIdeal.nD → PrngReg), Pre_PreRIdeal m →
    θ_run (Cert.PreRIdeal.defs (F := Ideal)) (onTc (τ := Cert.PreRIdeal.τ) (Cert.PreRIdeal.main (F := Ideal))) ⟨m, fun _ => 0, g⟩ (fun r => (∀ c : Dev Cert.PreRIdeal.nD,
      r.2.mem ((c.tc : Thread Cert.PreRIdeal.nD Cert.PreRIdeal.τ).loc Cert.PreRIdeal.main_arg0) = m ((c.tc : Thread Cert.PreRIdeal.nD Cert.PreRIdeal.τ).loc Cert.PreRIdeal.main_arg0)
      ∧ r.2.mem ((c.tc : Thread Cert.PreRIdeal.nD Cert.PreRIdeal.τ).loc Cert.PreRIdeal.main_arg1) = m ((c.tc : Thread Cert.PreRIdeal.nD Cert.PreRIdeal.τ).loc Cert.PreRIdeal.main_arg1)
      ∧ r.2.mem ((c.tc : Thread Cert.PreRIdeal.nD Cert.PreRIdeal.τ).loc Cert.PreRIdeal.main_arg2) = m ((c.tc : Thread Cert.PreRIdeal.nD Cert.PreRIdeal.τ).loc Cert.PreRIdeal.main_arg2))
      ∧ r.2.sem = fun _ => 0)

def quiescent_MrgK [hMrgK : Cert.MrgK.Facts] : Prop :=
  ∀ (m : (ℓ : Loc Cert.MrgK.nD Cert.MrgK.τ Cert.MrgK.sig) → Buf (Elt Bits) ℓ) (g : Dev Cert.MrgK.nD → PrngReg), Pre_MrgK m →
    θ_run (Cert.MrgK.defs (F := Bits)) (onTc (τ := Cert.MrgK.τ) (Cert.MrgK.main (F := Bits))) ⟨m, fun _ => 0, g⟩ (fun r => (∀ c : Dev Cert.MrgK.nD,
      r.2.mem ((c.tc : Thread Cert.MrgK.nD Cert.MrgK.τ).loc Cert.MrgK.main_arg0) = m ((c.tc : Thread Cert.MrgK.nD Cert.MrgK.τ).loc Cert.MrgK.main_arg0)
      ∧ r.2.mem ((c.tc : Thread Cert.MrgK.nD Cert.MrgK.τ).loc Cert.MrgK.main_arg1) = m ((c.tc : Thread Cert.MrgK.nD Cert.MrgK.τ).loc Cert.MrgK.main_arg1)
      ∧ r.2.mem ((c.tc : Thread Cert.MrgK.nD Cert.MrgK.τ).loc Cert.MrgK.main_arg2) = m ((c.tc : Thread Cert.MrgK.nD Cert.MrgK.τ).loc Cert.MrgK.main_arg2)
      ∧ r.2.mem ((c.tc : Thread Cert.MrgK.nD Cert.MrgK.τ).loc Cert.MrgK.main_arg3) = m ((c.tc : Thread Cert.MrgK.nD Cert.MrgK.τ).loc Cert.MrgK.main_arg3)
      ∧ r.2.mem ((c.tc : Thread Cert.MrgK.nD Cert.MrgK.τ).loc Cert.MrgK.main_arg4) = m ((c.tc : Thread Cert.MrgK.nD Cert.MrgK.τ).loc Cert.MrgK.main_arg4)
      ∧ r.2.mem ((c.tc : Thread Cert.MrgK.nD Cert.MrgK.τ).loc Cert.MrgK.main_arg5) = m ((c.tc : Thread Cert.MrgK.nD Cert.MrgK.τ).loc Cert.MrgK.main_arg5)
      ∧ r.2.mem ((c.tc : Thread Cert.MrgK.nD Cert.MrgK.τ).loc Cert.MrgK.main_arg6) = m ((c.tc : Thread Cert.MrgK.nD Cert.MrgK.τ).loc Cert.MrgK.main_arg6))
      ∧ r.2.sem = fun _ => 0)

def quiescent_MrgKIdeal [hMrgKIdeal : Cert.MrgKIdeal.Facts] : Prop :=
  ∀ (m : (ℓ : Loc Cert.MrgKIdeal.nD Cert.MrgKIdeal.τ Cert.MrgKIdeal.sig) → Buf (Elt Ideal) ℓ) (g : Dev Cert.MrgKIdeal.nD → PrngReg), Pre_MrgKIdeal m →
    θ_run (Cert.MrgKIdeal.defs (F := Ideal)) (onTc (τ := Cert.MrgKIdeal.τ) (Cert.MrgKIdeal.main (F := Ideal))) ⟨m, fun _ => 0, g⟩ (fun r => (∀ c : Dev Cert.MrgKIdeal.nD,
      r.2.mem ((c.tc : Thread Cert.MrgKIdeal.nD Cert.MrgKIdeal.τ).loc Cert.MrgKIdeal.main_arg0) = m ((c.tc : Thread Cert.MrgKIdeal.nD Cert.MrgKIdeal.τ).loc Cert.MrgKIdeal.main_arg0)
      ∧ r.2.mem ((c.tc : Thread Cert.MrgKIdeal.nD Cert.MrgKIdeal.τ).loc Cert.MrgKIdeal.main_arg1) = m ((c.tc : Thread Cert.MrgKIdeal.nD Cert.MrgKIdeal.τ).loc Cert.MrgKIdeal.main_arg1)
      ∧ r.2.mem ((c.tc : Thread Cert.MrgKIdeal.nD Cert.MrgKIdeal.τ).loc Cert.MrgKIdeal.main_arg2) = m ((c.tc : Thread Cert.MrgKIdeal.nD Cert.MrgKIdeal.τ).loc Cert.MrgKIdeal.main_arg2)
      ∧ r.2.mem ((c.tc : Thread Cert.MrgKIdeal.nD Cert.MrgKIdeal.τ).loc Cert.MrgKIdeal.main_arg3) = m ((c.tc : Thread Cert.MrgKIdeal.nD Cert.MrgKIdeal.τ).loc Cert.MrgKIdeal.main_arg3)
      ∧ r.2.mem ((c.tc : Thread Cert.MrgKIdeal.nD Cert.MrgKIdeal.τ).loc Cert.MrgKIdeal.main_arg4) = m ((c.tc : Thread Cert.MrgKIdeal.nD Cert.MrgKIdeal.τ).loc Cert.MrgKIdeal.main_arg4)
      ∧ r.2.mem ((c.tc : Thread Cert.MrgKIdeal.nD Cert.MrgKIdeal.τ).loc Cert.MrgKIdeal.main_arg5) = m ((c.tc : Thread Cert.MrgKIdeal.nD Cert.MrgKIdeal.τ).loc Cert.MrgKIdeal.main_arg5)
      ∧ r.2.mem ((c.tc : Thread Cert.MrgKIdeal.nD Cert.MrgKIdeal.τ).loc Cert.MrgKIdeal.main_arg6) = m ((c.tc : Thread Cert.MrgKIdeal.nD Cert.MrgKIdeal.τ).loc Cert.MrgKIdeal.main_arg6))
      ∧ r.2.sem = fun _ => 0)

def quiescent_MrgRIdeal [hMrgRIdeal : Cert.MrgRIdeal.Facts] : Prop :=
  ∀ (m : (ℓ : Loc Cert.MrgRIdeal.nD Cert.MrgRIdeal.τ Cert.MrgRIdeal.sig) → Buf (Elt Ideal) ℓ) (g : Dev Cert.MrgRIdeal.nD → PrngReg), Pre_MrgRIdeal m →
    θ_run (Cert.MrgRIdeal.defs (F := Ideal)) (onTc (τ := Cert.MrgRIdeal.τ) (Cert.MrgRIdeal.main (F := Ideal))) ⟨m, fun _ => 0, g⟩ (fun r => (∀ c : Dev Cert.MrgRIdeal.nD,
      r.2.mem ((c.tc : Thread Cert.MrgRIdeal.nD Cert.MrgRIdeal.τ).loc Cert.MrgRIdeal.main_arg0) = m ((c.tc : Thread Cert.MrgRIdeal.nD Cert.MrgRIdeal.τ).loc Cert.MrgRIdeal.main_arg0)
      ∧ r.2.mem ((c.tc : Thread Cert.MrgRIdeal.nD Cert.MrgRIdeal.τ).loc Cert.MrgRIdeal.main_arg1) = m ((c.tc : Thread Cert.MrgRIdeal.nD Cert.MrgRIdeal.τ).loc Cert.MrgRIdeal.main_arg1)
      ∧ r.2.mem ((c.tc : Thread Cert.MrgRIdeal.nD Cert.MrgRIdeal.τ).loc Cert.MrgRIdeal.main_arg2) = m ((c.tc : Thread Cert.MrgRIdeal.nD Cert.MrgRIdeal.τ).loc Cert.MrgRIdeal.main_arg2)
      ∧ r.2.mem ((c.tc : Thread Cert.MrgRIdeal.nD Cert.MrgRIdeal.τ).loc Cert.MrgRIdeal.main_arg3) = m ((c.tc : Thread Cert.MrgRIdeal.nD Cert.MrgRIdeal.τ).loc Cert.MrgRIdeal.main_arg3)
      ∧ r.2.mem ((c.tc : Thread Cert.MrgRIdeal.nD Cert.MrgRIdeal.τ).loc Cert.MrgRIdeal.main_arg4) = m ((c.tc : Thread Cert.MrgRIdeal.nD Cert.MrgRIdeal.τ).loc Cert.MrgRIdeal.main_arg4)
      ∧ r.2.mem ((c.tc : Thread Cert.MrgRIdeal.nD Cert.MrgRIdeal.τ).loc Cert.MrgRIdeal.main_arg5) = m ((c.tc : Thread Cert.MrgRIdeal.nD Cert.MrgRIdeal.τ).loc Cert.MrgRIdeal.main_arg5)
      ∧ r.2.mem ((c.tc : Thread Cert.MrgRIdeal.nD Cert.MrgRIdeal.τ).loc Cert.MrgRIdeal.main_arg6) = m ((c.tc : Thread Cert.MrgRIdeal.nD Cert.MrgRIdeal.τ).loc Cert.MrgRIdeal.main_arg6))
      ∧ r.2.sem = fun _ => 0)

def quiescent_OutK [hOutK : Cert.OutK.Facts] : Prop :=
  ∀ (m : (ℓ : Loc Cert.OutK.nD Cert.OutK.τ Cert.OutK.sig) → Buf (Elt Bits) ℓ) (g : Dev Cert.OutK.nD → PrngReg), Pre_OutK m →
    θ_run (Cert.OutK.defs (F := Bits)) (onTc (τ := Cert.OutK.τ) (Cert.OutK.main (F := Bits))) ⟨m, fun _ => 0, g⟩ (fun r => (∀ c : Dev Cert.OutK.nD,
      r.2.mem ((c.tc : Thread Cert.OutK.nD Cert.OutK.τ).loc Cert.OutK.main_arg0) = m ((c.tc : Thread Cert.OutK.nD Cert.OutK.τ).loc Cert.OutK.main_arg0)
      ∧ r.2.mem ((c.tc : Thread Cert.OutK.nD Cert.OutK.τ).loc Cert.OutK.main_arg1) = m ((c.tc : Thread Cert.OutK.nD Cert.OutK.τ).loc Cert.OutK.main_arg1)
      ∧ r.2.mem ((c.tc : Thread Cert.OutK.nD Cert.OutK.τ).loc Cert.OutK.main_arg2) = m ((c.tc : Thread Cert.OutK.nD Cert.OutK.τ).loc Cert.OutK.main_arg2)
      ∧ r.2.mem ((c.tc : Thread Cert.OutK.nD Cert.OutK.τ).loc Cert.OutK.main_arg3) = m ((c.tc : Thread Cert.OutK.nD Cert.OutK.τ).loc Cert.OutK.main_arg3))
      ∧ r.2.sem = fun _ => 0)

def quiescent_OutKIdeal [hOutKIdeal : Cert.OutKIdeal.Facts] : Prop :=
  ∀ (m : (ℓ : Loc Cert.OutKIdeal.nD Cert.OutKIdeal.τ Cert.OutKIdeal.sig) → Buf (Elt Ideal) ℓ) (g : Dev Cert.OutKIdeal.nD → PrngReg), Pre_OutKIdeal m →
    θ_run (Cert.OutKIdeal.defs (F := Ideal)) (onTc (τ := Cert.OutKIdeal.τ) (Cert.OutKIdeal.main (F := Ideal))) ⟨m, fun _ => 0, g⟩ (fun r => (∀ c : Dev Cert.OutKIdeal.nD,
      r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
      ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
      ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
      ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3))
      ∧ r.2.sem = fun _ => 0)

def quiescent_OutRIdeal [hOutRIdeal : Cert.OutRIdeal.Facts] : Prop :=
  ∀ (m : (ℓ : Loc Cert.OutRIdeal.nD Cert.OutRIdeal.τ Cert.OutRIdeal.sig) → Buf (Elt Ideal) ℓ) (g : Dev Cert.OutRIdeal.nD → PrngReg), Pre_OutRIdeal m →
    θ_run (Cert.OutRIdeal.defs (F := Ideal)) (onTc (τ := Cert.OutRIdeal.τ) (Cert.OutRIdeal.main (F := Ideal))) ⟨m, fun _ => 0, g⟩ (fun r => (∀ c : Dev Cert.OutRIdeal.nD,
      r.2.mem ((c.tc : Thread Cert.OutRIdeal.nD Cert.OutRIdeal.τ).loc Cert.OutRIdeal.main_arg0) = m ((c.tc : Thread Cert.OutRIdeal.nD Cert.OutRIdeal.τ).loc Cert.OutRIdeal.main_arg0)
      ∧ r.2.mem ((c.tc : Thread Cert.OutRIdeal.nD Cert.OutRIdeal.τ).loc Cert.OutRIdeal.main_arg1) = m ((c.tc : Thread Cert.OutRIdeal.nD Cert.OutRIdeal.τ).loc Cert.OutRIdeal.main_arg1)
      ∧ r.2.mem ((c.tc : Thread Cert.OutRIdeal.nD Cert.OutRIdeal.τ).loc Cert.OutRIdeal.main_arg2) = m ((c.tc : Thread Cert.OutRIdeal.nD Cert.OutRIdeal.τ).loc Cert.OutRIdeal.main_arg2)
      ∧ r.2.mem ((c.tc : Thread Cert.OutRIdeal.nD Cert.OutRIdeal.τ).loc Cert.OutRIdeal.main_arg3) = m ((c.tc : Thread Cert.OutRIdeal.nD Cert.OutRIdeal.τ).loc Cert.OutRIdeal.main_arg3))
      ∧ r.2.sem = fun _ => 0)

def preserves_RetK_RetKIdeal : Prop :=
  True

def algebraic_RetKIdeal_RetRIdeal_pre_finite_retention [hRetKIdeal : Cert.RetKIdeal.Facts] [hRetRIdeal : Cert.RetRIdeal.Facts] [hPre_finite_retention : Cert.Pre_finite_retention.Facts] : Prop :=
  ∀ (m : (ℓ : Loc Cert.RetKIdeal.nD Cert.RetKIdeal.τ Cert.RetKIdeal.sig) → Buf (Elt Ideal) ℓ) (g : Dev Cert.RetKIdeal.nD → PrngReg)
    (m' : (ℓ : Loc Cert.RetRIdeal.nD Cert.RetRIdeal.τ Cert.RetRIdeal.sig) → Buf (Elt Ideal) ℓ) (g' : Dev Cert.RetRIdeal.nD → PrngReg), Pre_RetKIdeal_finite_retention m →
    (∀ c : Dev Cert.RetKIdeal.nD,
      m' ((c.tc : Thread Cert.RetRIdeal.nD Cert.RetRIdeal.τ).loc Cert.RetRIdeal.main_arg0) = m ((c.tc : Thread Cert.RetKIdeal.nD Cert.RetKIdeal.τ).loc Cert.RetKIdeal.main_arg0)
      ∧ m' ((c.tc : Thread Cert.RetRIdeal.nD Cert.RetRIdeal.τ).loc Cert.RetRIdeal.main_arg1) = m ((c.tc : Thread Cert.RetKIdeal.nD Cert.RetKIdeal.τ).loc Cert.RetKIdeal.main_arg1)
      ∧ m' ((c.tc : Thread Cert.RetRIdeal.nD Cert.RetRIdeal.τ).loc Cert.RetRIdeal.main_arg2) = m ((c.tc : Thread Cert.RetKIdeal.nD Cert.RetKIdeal.τ).loc Cert.RetKIdeal.main_arg2)
      ∧ m' ((c.tc : Thread Cert.RetRIdeal.nD Cert.RetRIdeal.τ).loc Cert.RetRIdeal.main_arg3) = m ((c.tc : Thread Cert.RetKIdeal.nD Cert.RetKIdeal.τ).loc Cert.RetKIdeal.main_arg3)
      ∧ m' ((c.tc : Thread Cert.RetRIdeal.nD Cert.RetRIdeal.τ).loc Cert.RetRIdeal.main_arg4) = m ((c.tc : Thread Cert.RetKIdeal.nD Cert.RetKIdeal.τ).loc Cert.RetKIdeal.main_arg4)
      ∧ m' ((c.tc : Thread Cert.RetRIdeal.nD Cert.RetRIdeal.τ).loc Cert.RetRIdeal.main_arg5) = m ((c.tc : Thread Cert.RetKIdeal.nD Cert.RetKIdeal.τ).loc Cert.RetKIdeal.main_arg5)) →
    ∃ (v0 : (c : Dev Cert.RetKIdeal.nD) → Buf (Elt Ideal) ((c.tc : Thread Cert.RetKIdeal.nD Cert.RetKIdeal.τ).loc Cert.RetKIdeal.main_v8_0)) (v1 : (c : Dev Cert.RetKIdeal.nD) → Buf (Elt Ideal) ((c.tc : Thread Cert.RetKIdeal.nD Cert.RetKIdeal.τ).loc Cert.RetKIdeal.main_v8_1)) (v2 : (c : Dev Cert.RetKIdeal.nD) → Buf (Elt Ideal) ((c.tc : Thread Cert.RetKIdeal.nD Cert.RetKIdeal.τ).loc Cert.RetKIdeal.main_v8_2)) (v3 : (c : Dev Cert.RetKIdeal.nD) → Buf (Elt Ideal) ((c.tc : Thread Cert.RetKIdeal.nD Cert.RetKIdeal.τ).loc Cert.RetKIdeal.main_v8_3)) (v4 : (c : Dev Cert.RetKIdeal.nD) → Buf (Elt Ideal) ((c.tc : Thread Cert.RetKIdeal.nD Cert.RetKIdeal.τ).loc Cert.RetKIdeal.main_v8_4)),
      θ_run (Cert.RetKIdeal.defs (F := Ideal)) (onTc (τ := Cert.RetKIdeal.τ) (Cert.RetKIdeal.main (F := Ideal))) ⟨m, fun _ => 0, g⟩ (fun r => ∀ c : Dev Cert.RetKIdeal.nD,
          r.2.mem ((c.tc : Thread Cert.RetKIdeal.nD Cert.RetKIdeal.τ).loc Cert.RetKIdeal.main_v8_0) = v0 c
          ∧ r.2.mem ((c.tc : Thread Cert.RetKIdeal.nD Cert.RetKIdeal.τ).loc Cert.RetKIdeal.main_v8_1) = v1 c
          ∧ r.2.mem ((c.tc : Thread Cert.RetKIdeal.nD Cert.RetKIdeal.τ).loc Cert.RetKIdeal.main_v8_2) = v2 c
          ∧ r.2.mem ((c.tc : Thread Cert.RetKIdeal.nD Cert.RetKIdeal.τ).loc Cert.RetKIdeal.main_v8_3) = v3 c
          ∧ r.2.mem ((c.tc : Thread Cert.RetKIdeal.nD Cert.RetKIdeal.τ).loc Cert.RetKIdeal.main_v8_4) = v4 c
          ∧ r.2.mem ((c.tc : Thread Cert.RetKIdeal.nD Cert.RetKIdeal.τ).loc Cert.RetKIdeal.main_arg0) = m ((c.tc : Thread Cert.RetKIdeal.nD Cert.RetKIdeal.τ).loc Cert.RetKIdeal.main_arg0)
          ∧ r.2.mem ((c.tc : Thread Cert.RetKIdeal.nD Cert.RetKIdeal.τ).loc Cert.RetKIdeal.main_arg1) = m ((c.tc : Thread Cert.RetKIdeal.nD Cert.RetKIdeal.τ).loc Cert.RetKIdeal.main_arg1)
          ∧ r.2.mem ((c.tc : Thread Cert.RetKIdeal.nD Cert.RetKIdeal.τ).loc Cert.RetKIdeal.main_arg2) = m ((c.tc : Thread Cert.RetKIdeal.nD Cert.RetKIdeal.τ).loc Cert.RetKIdeal.main_arg2)
          ∧ r.2.mem ((c.tc : Thread Cert.RetKIdeal.nD Cert.RetKIdeal.τ).loc Cert.RetKIdeal.main_arg3) = m ((c.tc : Thread Cert.RetKIdeal.nD Cert.RetKIdeal.τ).loc Cert.RetKIdeal.main_arg3)
          ∧ r.2.mem ((c.tc : Thread Cert.RetKIdeal.nD Cert.RetKIdeal.τ).loc Cert.RetKIdeal.main_arg4) = m ((c.tc : Thread Cert.RetKIdeal.nD Cert.RetKIdeal.τ).loc Cert.RetKIdeal.main_arg4)
          ∧ r.2.mem ((c.tc : Thread Cert.RetKIdeal.nD Cert.RetKIdeal.τ).loc Cert.RetKIdeal.main_arg5) = m ((c.tc : Thread Cert.RetKIdeal.nD Cert.RetKIdeal.τ).loc Cert.RetKIdeal.main_arg5))
      ∧ θ_run (Cert.RetRIdeal.defs (F := Ideal)) (onTc (τ := Cert.RetRIdeal.τ) (Cert.RetRIdeal.main (F := Ideal))) ⟨m', fun _ => 0, g'⟩ (fun r => ∀ c : Dev Cert.RetRIdeal.nD,
          r.2.mem ((c.tc : Thread Cert.RetRIdeal.nD Cert.RetRIdeal.τ).loc Cert.RetRIdeal.main_v97) = v0 c
          ∧ r.2.mem ((c.tc : Thread Cert.RetRIdeal.nD Cert.RetRIdeal.τ).loc Cert.RetRIdeal.main_v103) = v1 c
          ∧ r.2.mem ((c.tc : Thread Cert.RetRIdeal.nD Cert.RetRIdeal.τ).loc Cert.RetRIdeal.main_v109) = v2 c
          ∧ r.2.mem ((c.tc : Thread Cert.RetRIdeal.nD Cert.RetRIdeal.τ).loc Cert.RetRIdeal.main_v115) = v3 c
          ∧ r.2.mem ((c.tc : Thread Cert.RetRIdeal.nD Cert.RetRIdeal.τ).loc Cert.RetRIdeal.main_v116) = v4 c
          ∧ r.2.mem ((c.tc : Thread Cert.RetRIdeal.nD Cert.RetRIdeal.τ).loc Cert.RetRIdeal.main_arg0) = m' ((c.tc : Thread Cert.RetRIdeal.nD Cert.RetRIdeal.τ).loc Cert.RetRIdeal.main_arg0)
          ∧ r.2.mem ((c.tc : Thread Cert.RetRIdeal.nD Cert.RetRIdeal.τ).loc Cert.RetRIdeal.main_arg1) = m' ((c.tc : Thread Cert.RetRIdeal.nD Cert.RetRIdeal.τ).loc Cert.RetRIdeal.main_arg1)
          ∧ r.2.mem ((c.tc : Thread Cert.RetRIdeal.nD Cert.RetRIdeal.τ).loc Cert.RetRIdeal.main_arg2) = m' ((c.tc : Thread Cert.RetRIdeal.nD Cert.RetRIdeal.τ).loc Cert.RetRIdeal.main_arg2)
          ∧ r.2.mem ((c.tc : Thread Cert.RetRIdeal.nD Cert.RetRIdeal.τ).loc Cert.RetRIdeal.main_arg3) = m' ((c.tc : Thread Cert.RetRIdeal.nD Cert.RetRIdeal.τ).loc Cert.RetRIdeal.main_arg3)
          ∧ r.2.mem ((c.tc : Thread Cert.RetRIdeal.nD Cert.RetRIdeal.τ).loc Cert.RetRIdeal.main_arg4) = m' ((c.tc : Thread Cert.RetRIdeal.nD Cert.RetRIdeal.τ).loc Cert.RetRIdeal.main_arg4)
          ∧ r.2.mem ((c.tc : Thread Cert.RetRIdeal.nD Cert.RetRIdeal.τ).loc Cert.RetRIdeal.main_arg5) = m' ((c.tc : Thread Cert.RetRIdeal.nD Cert.RetRIdeal.τ).loc Cert.RetRIdeal.main_arg5))

def preserves_MemK_MemKIdeal : Prop :=
  True

def algebraic_MemKIdeal_MemRIdeal_pre_finite_attention [hMemKIdeal : Cert.MemKIdeal.Facts] [hMemRIdeal : Cert.MemRIdeal.Facts] [hPre_finite_attention : Cert.Pre_finite_attention.Facts] : Prop :=
  ∀ (m : (ℓ : Loc Cert.MemKIdeal.nD Cert.MemKIdeal.τ Cert.MemKIdeal.sig) → Buf (Elt Ideal) ℓ) (g : Dev Cert.MemKIdeal.nD → PrngReg)
    (m' : (ℓ : Loc Cert.MemRIdeal.nD Cert.MemRIdeal.τ Cert.MemRIdeal.sig) → Buf (Elt Ideal) ℓ) (g' : Dev Cert.MemRIdeal.nD → PrngReg), Pre_MemKIdeal_finite_attention m →
    (∀ c : Dev Cert.MemKIdeal.nD,
      m' ((c.tc : Thread Cert.MemRIdeal.nD Cert.MemRIdeal.τ).loc Cert.MemRIdeal.main_arg0) = m ((c.tc : Thread Cert.MemKIdeal.nD Cert.MemKIdeal.τ).loc Cert.MemKIdeal.main_arg0)
      ∧ m' ((c.tc : Thread Cert.MemRIdeal.nD Cert.MemRIdeal.τ).loc Cert.MemRIdeal.main_arg1) = m ((c.tc : Thread Cert.MemKIdeal.nD Cert.MemKIdeal.τ).loc Cert.MemKIdeal.main_arg1)
      ∧ m' ((c.tc : Thread Cert.MemRIdeal.nD Cert.MemRIdeal.τ).loc Cert.MemRIdeal.main_arg2) = m ((c.tc : Thread Cert.MemKIdeal.nD Cert.MemKIdeal.τ).loc Cert.MemKIdeal.main_arg2)
      ∧ m' ((c.tc : Thread Cert.MemRIdeal.nD Cert.MemRIdeal.τ).loc Cert.MemRIdeal.main_arg3) = m ((c.tc : Thread Cert.MemKIdeal.nD Cert.MemKIdeal.τ).loc Cert.MemKIdeal.main_arg3)) →
    ∃ (v0 : (c : Dev Cert.MemKIdeal.nD) → Buf (Elt Ideal) ((c.tc : Thread Cert.MemKIdeal.nD Cert.MemKIdeal.τ).loc Cert.MemKIdeal.main_v2)),
      θ_run (Cert.MemKIdeal.defs (F := Ideal)) (onTc (τ := Cert.MemKIdeal.τ) (Cert.MemKIdeal.main (F := Ideal))) ⟨m, fun _ => 0, g⟩ (fun r => ∀ c : Dev Cert.MemKIdeal.nD,
          r.2.mem ((c.tc : Thread Cert.MemKIdeal.nD Cert.MemKIdeal.τ).loc Cert.MemKIdeal.main_v2) = v0 c
          ∧ r.2.mem ((c.tc : Thread Cert.MemKIdeal.nD Cert.MemKIdeal.τ).loc Cert.MemKIdeal.main_arg0) = m ((c.tc : Thread Cert.MemKIdeal.nD Cert.MemKIdeal.τ).loc Cert.MemKIdeal.main_arg0)
          ∧ r.2.mem ((c.tc : Thread Cert.MemKIdeal.nD Cert.MemKIdeal.τ).loc Cert.MemKIdeal.main_arg1) = m ((c.tc : Thread Cert.MemKIdeal.nD Cert.MemKIdeal.τ).loc Cert.MemKIdeal.main_arg1)
          ∧ r.2.mem ((c.tc : Thread Cert.MemKIdeal.nD Cert.MemKIdeal.τ).loc Cert.MemKIdeal.main_arg2) = m ((c.tc : Thread Cert.MemKIdeal.nD Cert.MemKIdeal.τ).loc Cert.MemKIdeal.main_arg2)
          ∧ r.2.mem ((c.tc : Thread Cert.MemKIdeal.nD Cert.MemKIdeal.τ).loc Cert.MemKIdeal.main_arg3) = m ((c.tc : Thread Cert.MemKIdeal.nD Cert.MemKIdeal.τ).loc Cert.MemKIdeal.main_arg3))
      ∧ θ_run (Cert.MemRIdeal.defs (F := Ideal)) (onTc (τ := Cert.MemRIdeal.τ) (Cert.MemRIdeal.main (F := Ideal))) ⟨m', fun _ => 0, g'⟩ (fun r => ∀ c : Dev Cert.MemRIdeal.nD,
          r.2.mem ((c.tc : Thread Cert.MemRIdeal.nD Cert.MemRIdeal.τ).loc Cert.MemRIdeal.main_v43) = v0 c
          ∧ r.2.mem ((c.tc : Thread Cert.MemRIdeal.nD Cert.MemRIdeal.τ).loc Cert.MemRIdeal.main_arg0) = m' ((c.tc : Thread Cert.MemRIdeal.nD Cert.MemRIdeal.τ).loc Cert.MemRIdeal.main_arg0)
          ∧ r.2.mem ((c.tc : Thread Cert.MemRIdeal.nD Cert.MemRIdeal.τ).loc Cert.MemRIdeal.main_arg1) = m' ((c.tc : Thread Cert.MemRIdeal.nD Cert.MemRIdeal.τ).loc Cert.MemRIdeal.main_arg1)
          ∧ r.2.mem ((c.tc : Thread Cert.MemRIdeal.nD Cert.MemRIdeal.τ).loc Cert.MemRIdeal.main_arg2) = m' ((c.tc : Thread Cert.MemRIdeal.nD Cert.MemRIdeal.τ).loc Cert.MemRIdeal.main_arg2)
          ∧ r.2.mem ((c.tc : Thread Cert.MemRIdeal.nD Cert.MemRIdeal.τ).loc Cert.MemRIdeal.main_arg3) = m' ((c.tc : Thread Cert.MemRIdeal.nD Cert.MemRIdeal.τ).loc Cert.MemRIdeal.main_arg3))

def preserves_PrjK_PrjKIdeal : Prop :=
  True

def algebraic_PrjKIdeal_PrjRIdeal [hPrjKIdeal : Cert.PrjKIdeal.Facts] [hPrjRIdeal : Cert.PrjRIdeal.Facts] : Prop :=
  ∀ (m : (ℓ : Loc Cert.PrjKIdeal.nD Cert.PrjKIdeal.τ Cert.PrjKIdeal.sig) → Buf (Elt Ideal) ℓ) (g : Dev Cert.PrjKIdeal.nD → PrngReg)
    (m' : (ℓ : Loc Cert.PrjRIdeal.nD Cert.PrjRIdeal.τ Cert.PrjRIdeal.sig) → Buf (Elt Ideal) ℓ) (g' : Dev Cert.PrjRIdeal.nD → PrngReg), Pre_PrjKIdeal m →
    (∀ c : Dev Cert.PrjKIdeal.nD,
      m' ((c.tc : Thread Cert.PrjRIdeal.nD Cert.PrjRIdeal.τ).loc Cert.PrjRIdeal.main_arg0) = m ((c.tc : Thread Cert.PrjKIdeal.nD Cert.PrjKIdeal.τ).loc Cert.PrjKIdeal.main_arg0)
      ∧ m' ((c.tc : Thread Cert.PrjRIdeal.nD Cert.PrjRIdeal.τ).loc Cert.PrjRIdeal.main_arg1) = m ((c.tc : Thread Cert.PrjKIdeal.nD Cert.PrjKIdeal.τ).loc Cert.PrjKIdeal.main_arg1)) →
    ∃ (v0 : (c : Dev Cert.PrjKIdeal.nD) → Buf (Elt Ideal) ((c.tc : Thread Cert.PrjKIdeal.nD Cert.PrjKIdeal.τ).loc Cert.PrjKIdeal.main_v1)),
      θ_run (Cert.PrjKIdeal.defs (F := Ideal)) (onTc (τ := Cert.PrjKIdeal.τ) (Cert.PrjKIdeal.main (F := Ideal))) ⟨m, fun _ => 0, g⟩ (fun r => ∀ c : Dev Cert.PrjKIdeal.nD,
          r.2.mem ((c.tc : Thread Cert.PrjKIdeal.nD Cert.PrjKIdeal.τ).loc Cert.PrjKIdeal.main_v1) = v0 c
          ∧ r.2.mem ((c.tc : Thread Cert.PrjKIdeal.nD Cert.PrjKIdeal.τ).loc Cert.PrjKIdeal.main_arg0) = m ((c.tc : Thread Cert.PrjKIdeal.nD Cert.PrjKIdeal.τ).loc Cert.PrjKIdeal.main_arg0)
          ∧ r.2.mem ((c.tc : Thread Cert.PrjKIdeal.nD Cert.PrjKIdeal.τ).loc Cert.PrjKIdeal.main_arg1) = m ((c.tc : Thread Cert.PrjKIdeal.nD Cert.PrjKIdeal.τ).loc Cert.PrjKIdeal.main_arg1))
      ∧ θ_run (Cert.PrjRIdeal.defs (F := Ideal)) (onTc (τ := Cert.PrjRIdeal.τ) (Cert.PrjRIdeal.main (F := Ideal))) ⟨m', fun _ => 0, g'⟩ (fun r => ∀ c : Dev Cert.PrjRIdeal.nD,
          r.2.mem ((c.tc : Thread Cert.PrjRIdeal.nD Cert.PrjRIdeal.τ).loc Cert.PrjRIdeal.main_v5) = v0 c
          ∧ r.2.mem ((c.tc : Thread Cert.PrjRIdeal.nD Cert.PrjRIdeal.τ).loc Cert.PrjRIdeal.main_arg0) = m' ((c.tc : Thread Cert.PrjRIdeal.nD Cert.PrjRIdeal.τ).loc Cert.PrjRIdeal.main_arg0)
          ∧ r.2.mem ((c.tc : Thread Cert.PrjRIdeal.nD Cert.PrjRIdeal.τ).loc Cert.PrjRIdeal.main_arg1) = m' ((c.tc : Thread Cert.PrjRIdeal.nD Cert.PrjRIdeal.τ).loc Cert.PrjRIdeal.main_arg1))

def preserves_PreK_PreKIdeal : Prop :=
  True

def algebraic_PreKIdeal_PreRIdeal [hPreKIdeal : Cert.PreKIdeal.Facts] [hPreRIdeal : Cert.PreRIdeal.Facts] : Prop :=
  ∀ (m : (ℓ : Loc Cert.PreKIdeal.nD Cert.PreKIdeal.τ Cert.PreKIdeal.sig) → Buf (Elt Ideal) ℓ) (g : Dev Cert.PreKIdeal.nD → PrngReg)
    (m' : (ℓ : Loc Cert.PreRIdeal.nD Cert.PreRIdeal.τ Cert.PreRIdeal.sig) → Buf (Elt Ideal) ℓ) (g' : Dev Cert.PreRIdeal.nD → PrngReg), Pre_PreKIdeal m →
    (∀ c : Dev Cert.PreKIdeal.nD,
      m' ((c.tc : Thread Cert.PreRIdeal.nD Cert.PreRIdeal.τ).loc Cert.PreRIdeal.main_arg0) = m ((c.tc : Thread Cert.PreKIdeal.nD Cert.PreKIdeal.τ).loc Cert.PreKIdeal.main_arg0)
      ∧ m' ((c.tc : Thread Cert.PreRIdeal.nD Cert.PreRIdeal.τ).loc Cert.PreRIdeal.main_arg1) = m ((c.tc : Thread Cert.PreKIdeal.nD Cert.PreKIdeal.τ).loc Cert.PreKIdeal.main_arg1)
      ∧ m' ((c.tc : Thread Cert.PreRIdeal.nD Cert.PreRIdeal.τ).loc Cert.PreRIdeal.main_arg2) = m ((c.tc : Thread Cert.PreKIdeal.nD Cert.PreKIdeal.τ).loc Cert.PreKIdeal.main_arg2)) →
    ∃ (v0 : (c : Dev Cert.PreKIdeal.nD) → Buf (Elt Ideal) ((c.tc : Thread Cert.PreKIdeal.nD Cert.PreKIdeal.τ).loc Cert.PreKIdeal.main_v6_0)) (v1 : (c : Dev Cert.PreKIdeal.nD) → Buf (Elt Ideal) ((c.tc : Thread Cert.PreKIdeal.nD Cert.PreKIdeal.τ).loc Cert.PreKIdeal.main_v6_1)),
      θ_run (Cert.PreKIdeal.defs (F := Ideal)) (onTc (τ := Cert.PreKIdeal.τ) (Cert.PreKIdeal.main (F := Ideal))) ⟨m, fun _ => 0, g⟩ (fun r => ∀ c : Dev Cert.PreKIdeal.nD,
          r.2.mem ((c.tc : Thread Cert.PreKIdeal.nD Cert.PreKIdeal.τ).loc Cert.PreKIdeal.main_v6_0) = v0 c
          ∧ r.2.mem ((c.tc : Thread Cert.PreKIdeal.nD Cert.PreKIdeal.τ).loc Cert.PreKIdeal.main_v6_1) = v1 c
          ∧ r.2.mem ((c.tc : Thread Cert.PreKIdeal.nD Cert.PreKIdeal.τ).loc Cert.PreKIdeal.main_arg0) = m ((c.tc : Thread Cert.PreKIdeal.nD Cert.PreKIdeal.τ).loc Cert.PreKIdeal.main_arg0)
          ∧ r.2.mem ((c.tc : Thread Cert.PreKIdeal.nD Cert.PreKIdeal.τ).loc Cert.PreKIdeal.main_arg1) = m ((c.tc : Thread Cert.PreKIdeal.nD Cert.PreKIdeal.τ).loc Cert.PreKIdeal.main_arg1)
          ∧ r.2.mem ((c.tc : Thread Cert.PreKIdeal.nD Cert.PreKIdeal.τ).loc Cert.PreKIdeal.main_arg2) = m ((c.tc : Thread Cert.PreKIdeal.nD Cert.PreKIdeal.τ).loc Cert.PreKIdeal.main_arg2))
      ∧ θ_run (Cert.PreRIdeal.defs (F := Ideal)) (onTc (τ := Cert.PreRIdeal.τ) (Cert.PreRIdeal.main (F := Ideal))) ⟨m', fun _ => 0, g'⟩ (fun r => ∀ c : Dev Cert.PreRIdeal.nD,
          r.2.mem ((c.tc : Thread Cert.PreRIdeal.nD Cert.PreRIdeal.τ).loc Cert.PreRIdeal.main_v16) = v0 c
          ∧ r.2.mem ((c.tc : Thread Cert.PreRIdeal.nD Cert.PreRIdeal.τ).loc Cert.PreRIdeal.main_v18) = v1 c
          ∧ r.2.mem ((c.tc : Thread Cert.PreRIdeal.nD Cert.PreRIdeal.τ).loc Cert.PreRIdeal.main_arg0) = m' ((c.tc : Thread Cert.PreRIdeal.nD Cert.PreRIdeal.τ).loc Cert.PreRIdeal.main_arg0)
          ∧ r.2.mem ((c.tc : Thread Cert.PreRIdeal.nD Cert.PreRIdeal.τ).loc Cert.PreRIdeal.main_arg1) = m' ((c.tc : Thread Cert.PreRIdeal.nD Cert.PreRIdeal.τ).loc Cert.PreRIdeal.main_arg1)
          ∧ r.2.mem ((c.tc : Thread Cert.PreRIdeal.nD Cert.PreRIdeal.τ).loc Cert.PreRIdeal.main_arg2) = m' ((c.tc : Thread Cert.PreRIdeal.nD Cert.PreRIdeal.τ).loc Cert.PreRIdeal.main_arg2))

def preserves_MrgK_MrgKIdeal : Prop :=
  True

def algebraic_MrgKIdeal_MrgRIdeal [hMrgKIdeal : Cert.MrgKIdeal.Facts] [hMrgRIdeal : Cert.MrgRIdeal.Facts] : Prop :=
  ∀ (m : (ℓ : Loc Cert.MrgKIdeal.nD Cert.MrgKIdeal.τ Cert.MrgKIdeal.sig) → Buf (Elt Ideal) ℓ) (g : Dev Cert.MrgKIdeal.nD → PrngReg)
    (m' : (ℓ : Loc Cert.MrgRIdeal.nD Cert.MrgRIdeal.τ Cert.MrgRIdeal.sig) → Buf (Elt Ideal) ℓ) (g' : Dev Cert.MrgRIdeal.nD → PrngReg), Pre_MrgKIdeal m →
    (∀ c : Dev Cert.MrgKIdeal.nD,
      m' ((c.tc : Thread Cert.MrgRIdeal.nD Cert.MrgRIdeal.τ).loc Cert.MrgRIdeal.main_arg0) = m ((c.tc : Thread Cert.MrgKIdeal.nD Cert.MrgKIdeal.τ).loc Cert.MrgKIdeal.main_arg0)
      ∧ m' ((c.tc : Thread Cert.MrgRIdeal.nD Cert.MrgRIdeal.τ).loc Cert.MrgRIdeal.main_arg1) = m ((c.tc : Thread Cert.MrgKIdeal.nD Cert.MrgKIdeal.τ).loc Cert.MrgKIdeal.main_arg1)
      ∧ m' ((c.tc : Thread Cert.MrgRIdeal.nD Cert.MrgRIdeal.τ).loc Cert.MrgRIdeal.main_arg2) = m ((c.tc : Thread Cert.MrgKIdeal.nD Cert.MrgKIdeal.τ).loc Cert.MrgKIdeal.main_arg2)
      ∧ m' ((c.tc : Thread Cert.MrgRIdeal.nD Cert.MrgRIdeal.τ).loc Cert.MrgRIdeal.main_arg3) = m ((c.tc : Thread Cert.MrgKIdeal.nD Cert.MrgKIdeal.τ).loc Cert.MrgKIdeal.main_arg3)
      ∧ m' ((c.tc : Thread Cert.MrgRIdeal.nD Cert.MrgRIdeal.τ).loc Cert.MrgRIdeal.main_arg4) = m ((c.tc : Thread Cert.MrgKIdeal.nD Cert.MrgKIdeal.τ).loc Cert.MrgKIdeal.main_arg4)
      ∧ m' ((c.tc : Thread Cert.MrgRIdeal.nD Cert.MrgRIdeal.τ).loc Cert.MrgRIdeal.main_arg5) = m ((c.tc : Thread Cert.MrgKIdeal.nD Cert.MrgKIdeal.τ).loc Cert.MrgKIdeal.main_arg5)
      ∧ m' ((c.tc : Thread Cert.MrgRIdeal.nD Cert.MrgRIdeal.τ).loc Cert.MrgRIdeal.main_arg6) = m ((c.tc : Thread Cert.MrgKIdeal.nD Cert.MrgKIdeal.τ).loc Cert.MrgKIdeal.main_arg6)) →
    ∃ (v0 : (c : Dev Cert.MrgKIdeal.nD) → Buf (Elt Ideal) ((c.tc : Thread Cert.MrgKIdeal.nD Cert.MrgKIdeal.τ).loc Cert.MrgKIdeal.main_v0)),
      θ_run (Cert.MrgKIdeal.defs (F := Ideal)) (onTc (τ := Cert.MrgKIdeal.τ) (Cert.MrgKIdeal.main (F := Ideal))) ⟨m, fun _ => 0, g⟩ (fun r => ∀ c : Dev Cert.MrgKIdeal.nD,
          r.2.mem ((c.tc : Thread Cert.MrgKIdeal.nD Cert.MrgKIdeal.τ).loc Cert.MrgKIdeal.main_v0) = v0 c
          ∧ r.2.mem ((c.tc : Thread Cert.MrgKIdeal.nD Cert.MrgKIdeal.τ).loc Cert.MrgKIdeal.main_arg0) = m ((c.tc : Thread Cert.MrgKIdeal.nD Cert.MrgKIdeal.τ).loc Cert.MrgKIdeal.main_arg0)
          ∧ r.2.mem ((c.tc : Thread Cert.MrgKIdeal.nD Cert.MrgKIdeal.τ).loc Cert.MrgKIdeal.main_arg1) = m ((c.tc : Thread Cert.MrgKIdeal.nD Cert.MrgKIdeal.τ).loc Cert.MrgKIdeal.main_arg1)
          ∧ r.2.mem ((c.tc : Thread Cert.MrgKIdeal.nD Cert.MrgKIdeal.τ).loc Cert.MrgKIdeal.main_arg2) = m ((c.tc : Thread Cert.MrgKIdeal.nD Cert.MrgKIdeal.τ).loc Cert.MrgKIdeal.main_arg2)
          ∧ r.2.mem ((c.tc : Thread Cert.MrgKIdeal.nD Cert.MrgKIdeal.τ).loc Cert.MrgKIdeal.main_arg3) = m ((c.tc : Thread Cert.MrgKIdeal.nD Cert.MrgKIdeal.τ).loc Cert.MrgKIdeal.main_arg3)
          ∧ r.2.mem ((c.tc : Thread Cert.MrgKIdeal.nD Cert.MrgKIdeal.τ).loc Cert.MrgKIdeal.main_arg4) = m ((c.tc : Thread Cert.MrgKIdeal.nD Cert.MrgKIdeal.τ).loc Cert.MrgKIdeal.main_arg4)
          ∧ r.2.mem ((c.tc : Thread Cert.MrgKIdeal.nD Cert.MrgKIdeal.τ).loc Cert.MrgKIdeal.main_arg5) = m ((c.tc : Thread Cert.MrgKIdeal.nD Cert.MrgKIdeal.τ).loc Cert.MrgKIdeal.main_arg5)
          ∧ r.2.mem ((c.tc : Thread Cert.MrgKIdeal.nD Cert.MrgKIdeal.τ).loc Cert.MrgKIdeal.main_arg6) = m ((c.tc : Thread Cert.MrgKIdeal.nD Cert.MrgKIdeal.τ).loc Cert.MrgKIdeal.main_arg6))
      ∧ θ_run (Cert.MrgRIdeal.defs (F := Ideal)) (onTc (τ := Cert.MrgRIdeal.τ) (Cert.MrgRIdeal.main (F := Ideal))) ⟨m', fun _ => 0, g'⟩ (fun r => ∀ c : Dev Cert.MrgRIdeal.nD,
          r.2.mem ((c.tc : Thread Cert.MrgRIdeal.nD Cert.MrgRIdeal.τ).loc Cert.MrgRIdeal.main_v51) = v0 c
          ∧ r.2.mem ((c.tc : Thread Cert.MrgRIdeal.nD Cert.MrgRIdeal.τ).loc Cert.MrgRIdeal.main_arg0) = m' ((c.tc : Thread Cert.MrgRIdeal.nD Cert.MrgRIdeal.τ).loc Cert.MrgRIdeal.main_arg0)
          ∧ r.2.mem ((c.tc : Thread Cert.MrgRIdeal.nD Cert.MrgRIdeal.τ).loc Cert.MrgRIdeal.main_arg1) = m' ((c.tc : Thread Cert.MrgRIdeal.nD Cert.MrgRIdeal.τ).loc Cert.MrgRIdeal.main_arg1)
          ∧ r.2.mem ((c.tc : Thread Cert.MrgRIdeal.nD Cert.MrgRIdeal.τ).loc Cert.MrgRIdeal.main_arg2) = m' ((c.tc : Thread Cert.MrgRIdeal.nD Cert.MrgRIdeal.τ).loc Cert.MrgRIdeal.main_arg2)
          ∧ r.2.mem ((c.tc : Thread Cert.MrgRIdeal.nD Cert.MrgRIdeal.τ).loc Cert.MrgRIdeal.main_arg3) = m' ((c.tc : Thread Cert.MrgRIdeal.nD Cert.MrgRIdeal.τ).loc Cert.MrgRIdeal.main_arg3)
          ∧ r.2.mem ((c.tc : Thread Cert.MrgRIdeal.nD Cert.MrgRIdeal.τ).loc Cert.MrgRIdeal.main_arg4) = m' ((c.tc : Thread Cert.MrgRIdeal.nD Cert.MrgRIdeal.τ).loc Cert.MrgRIdeal.main_arg4)
          ∧ r.2.mem ((c.tc : Thread Cert.MrgRIdeal.nD Cert.MrgRIdeal.τ).loc Cert.MrgRIdeal.main_arg5) = m' ((c.tc : Thread Cert.MrgRIdeal.nD Cert.MrgRIdeal.τ).loc Cert.MrgRIdeal.main_arg5)
          ∧ r.2.mem ((c.tc : Thread Cert.MrgRIdeal.nD Cert.MrgRIdeal.τ).loc Cert.MrgRIdeal.main_arg6) = m' ((c.tc : Thread Cert.MrgRIdeal.nD Cert.MrgRIdeal.τ).loc Cert.MrgRIdeal.main_arg6))

def preserves_OutK_OutKIdeal : Prop :=
  True

def algebraic_OutKIdeal_OutRIdeal [hOutKIdeal : Cert.OutKIdeal.Facts] [hOutRIdeal : Cert.OutRIdeal.Facts] : Prop :=
  ∀ (m : (ℓ : Loc Cert.OutKIdeal.nD Cert.OutKIdeal.τ Cert.OutKIdeal.sig) → Buf (Elt Ideal) ℓ) (g : Dev Cert.OutKIdeal.nD → PrngReg)
    (m' : (ℓ : Loc Cert.OutRIdeal.nD Cert.OutRIdeal.τ Cert.OutRIdeal.sig) → Buf (Elt Ideal) ℓ) (g' : Dev Cert.OutRIdeal.nD → PrngReg), Pre_OutKIdeal m →
    (∀ c : Dev Cert.OutKIdeal.nD,
      m' ((c.tc : Thread Cert.OutRIdeal.nD Cert.OutRIdeal.τ).loc Cert.OutRIdeal.main_arg0) = m ((c.tc : Thread Cert.OutKIdeal.nD Cert.OutKIdeal.τ).loc Cert.OutKIdeal.main_arg0)
      ∧ m' ((c.tc : Thread Cert.OutRIdeal.nD Cert.OutRIdeal.τ).loc Cert.OutRIdeal.main_arg1) = m ((c.tc : Thread Cert.OutKIdeal.nD Cert.OutKIdeal.τ).loc Cert.OutKIdeal.main_arg1)
      ∧ m' ((c.tc : Thread Cert.OutRIdeal.nD Cert.OutRIdeal.τ).loc Cert.OutRIdeal.main_arg2) = m ((c.tc : Thread Cert.OutKIdeal.nD Cert.OutKIdeal.τ).loc Cert.OutKIdeal.main_arg2)
      ∧ m' ((c.tc : Thread Cert.OutRIdeal.nD Cert.OutRIdeal.τ).loc Cert.OutRIdeal.main_arg3) = m ((c.tc : Thread Cert.OutKIdeal.nD Cert.OutKIdeal.τ).loc Cert.OutKIdeal.main_arg3)) →
    ∃ (v0 : (c : Dev Cert.OutKIdeal.nD) → Buf (Elt Ideal) ((c.tc : Thread Cert.OutKIdeal.nD Cert.OutKIdeal.τ).loc Cert.OutKIdeal.main_v2)),
      θ_run (Cert.OutKIdeal.defs (F := Ideal)) (onTc (τ := Cert.OutKIdeal.τ) (Cert.OutKIdeal.main (F := Ideal))) ⟨m, fun _ => 0, g⟩ (fun r => ∀ c : Dev Cert.OutKIdeal.nD,
          r.2.mem ((c.tc : Thread Cert.OutKIdeal.nD Cert.OutKIdeal.τ).loc Cert.OutKIdeal.main_v2) = v0 c
          ∧ r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
          ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
          ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
          ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3))
      ∧ θ_run (Cert.OutRIdeal.defs (F := Ideal)) (onTc (τ := Cert.OutRIdeal.τ) (Cert.OutRIdeal.main (F := Ideal))) ⟨m', fun _ => 0, g'⟩ (fun r => ∀ c : Dev Cert.OutRIdeal.nD,
          r.2.mem ((c.tc : Thread Cert.OutRIdeal.nD Cert.OutRIdeal.τ).loc Cert.OutRIdeal.main_v17) = v0 c
          ∧ r.2.mem ((c.tc : Thread Cert.OutRIdeal.nD Cert.OutRIdeal.τ).loc Cert.OutRIdeal.main_arg0) = m' ((c.tc : Thread Cert.OutRIdeal.nD Cert.OutRIdeal.τ).loc Cert.OutRIdeal.main_arg0)
          ∧ r.2.mem ((c.tc : Thread Cert.OutRIdeal.nD Cert.OutRIdeal.τ).loc Cert.OutRIdeal.main_arg1) = m' ((c.tc : Thread Cert.OutRIdeal.nD Cert.OutRIdeal.τ).loc Cert.OutRIdeal.main_arg1)
          ∧ r.2.mem ((c.tc : Thread Cert.OutRIdeal.nD Cert.OutRIdeal.τ).loc Cert.OutRIdeal.main_arg2) = m' ((c.tc : Thread Cert.OutRIdeal.nD Cert.OutRIdeal.τ).loc Cert.OutRIdeal.main_arg2)
          ∧ r.2.mem ((c.tc : Thread Cert.OutRIdeal.nD Cert.OutRIdeal.τ).loc Cert.OutRIdeal.main_arg3) = m' ((c.tc : Thread Cert.OutRIdeal.nD Cert.OutRIdeal.τ).loc Cert.OutRIdeal.main_arg3))

def Claim : Prop :=
  ∃ (hRetK : Cert.RetK.Facts) (hRetKIdeal : Cert.RetKIdeal.Facts) (hRetRIdeal : Cert.RetRIdeal.Facts) (hMemK : Cert.MemK.Facts) (hMemKIdeal : Cert.MemKIdeal.Facts) (hMemRIdeal : Cert.MemRIdeal.Facts) (hPrjK : Cert.PrjK.Facts) (hPrjKIdeal : Cert.PrjKIdeal.Facts) (hPrjRIdeal : Cert.PrjRIdeal.Facts) (hPreK : Cert.PreK.Facts) (hPreKIdeal : Cert.PreKIdeal.Facts) (hPreRIdeal : Cert.PreRIdeal.Facts) (hMrgK : Cert.MrgK.Facts) (hMrgKIdeal : Cert.MrgKIdeal.Facts) (hMrgRIdeal : Cert.MrgRIdeal.Facts) (hOutK : Cert.OutK.Facts) (hOutKIdeal : Cert.OutKIdeal.Facts) (hOutRIdeal : Cert.OutRIdeal.Facts) (hPre_finite_retention : Cert.Pre_finite_retention.Facts) (hPre_finite_attention : Cert.Pre_finite_attention.Facts),
    quiescent_RetK (hRetK := hRetK)
    ∧ quiescent_RetKIdeal (hRetKIdeal := hRetKIdeal)
    ∧ quiescent_RetKIdeal_pre_finite_retention (hRetKIdeal := hRetKIdeal) (hPre_finite_retention := hPre_finite_retention)
    ∧ quiescent_RetRIdeal (hRetRIdeal := hRetRIdeal)
    ∧ quiescent_RetRIdeal_pre_finite_retention (hRetRIdeal := hRetRIdeal) (hPre_finite_retention := hPre_finite_retention)
    ∧ quiescent_MemK (hMemK := hMemK)
    ∧ quiescent_MemKIdeal (hMemKIdeal := hMemKIdeal)
    ∧ quiescent_MemKIdeal_pre_finite_attention (hMemKIdeal := hMemKIdeal) (hPre_finite_attention := hPre_finite_attention)
    ∧ quiescent_MemRIdeal (hMemRIdeal := hMemRIdeal)
    ∧ quiescent_MemRIdeal_pre_finite_attention (hMemRIdeal := hMemRIdeal) (hPre_finite_attention := hPre_finite_attention)
    ∧ quiescent_PrjK (hPrjK := hPrjK)
    ∧ quiescent_PrjKIdeal (hPrjKIdeal := hPrjKIdeal)
    ∧ quiescent_PrjRIdeal (hPrjRIdeal := hPrjRIdeal)
    ∧ quiescent_PreK (hPreK := hPreK)
    ∧ quiescent_PreKIdeal (hPreKIdeal := hPreKIdeal)
    ∧ quiescent_PreRIdeal (hPreRIdeal := hPreRIdeal)
    ∧ quiescent_MrgK (hMrgK := hMrgK)
    ∧ quiescent_MrgKIdeal (hMrgKIdeal := hMrgKIdeal)
    ∧ quiescent_MrgRIdeal (hMrgRIdeal := hMrgRIdeal)
    ∧ quiescent_OutK (hOutK := hOutK)
    ∧ quiescent_OutKIdeal (hOutKIdeal := hOutKIdeal)
    ∧ quiescent_OutRIdeal (hOutRIdeal := hOutRIdeal)
    ∧ preserves_RetK_RetKIdeal
    ∧ algebraic_RetKIdeal_RetRIdeal_pre_finite_retention (hRetKIdeal := hRetKIdeal) (hRetRIdeal := hRetRIdeal) (hPre_finite_retention := hPre_finite_retention)
    ∧ preserves_MemK_MemKIdeal
    ∧ algebraic_MemKIdeal_MemRIdeal_pre_finite_attention (hMemKIdeal := hMemKIdeal) (hMemRIdeal := hMemRIdeal) (hPre_finite_attention := hPre_finite_attention)
    ∧ preserves_PrjK_PrjKIdeal
    ∧ algebraic_PrjKIdeal_PrjRIdeal (hPrjKIdeal := hPrjKIdeal) (hPrjRIdeal := hPrjRIdeal)
    ∧ preserves_PreK_PreKIdeal
    ∧ algebraic_PreKIdeal_PreRIdeal (hPreKIdeal := hPreKIdeal) (hPreRIdeal := hPreRIdeal)
    ∧ preserves_MrgK_MrgKIdeal
    ∧ algebraic_MrgKIdeal_MrgRIdeal (hMrgKIdeal := hMrgKIdeal) (hMrgRIdeal := hMrgRIdeal)
    ∧ preserves_OutK_OutKIdeal
    ∧ algebraic_OutKIdeal_OutRIdeal (hOutKIdeal := hOutKIdeal) (hOutRIdeal := hOutRIdeal)
-- ==== Pre_finite_attention.lean ====
abbrev S8192x17408 : Shape := ⟨2, ![8192, 17408]⟩
abbrev S4x256x2048 : Shape := ⟨3, ![4, 256, 2048]⟩
abbrev S2048 : Shape := ⟨1, ![2048]⟩
abbrev S2048x2048 : Shape := ⟨2, ![2048, 2048]⟩
abbrev S8192x1024 : Shape := ⟨2, ![8192, 1024]⟩
abbrev S_ : Shape := ⟨0, ![]⟩
abbrev S2048x1024 : Shape := ⟨2, ![2048, 1024]⟩

class Facts : Prop where
  slices_S8192x17408_S8192x1024_0_9216 : S8192x17408.Slices ![0, 9216] S8192x1024
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x256x2048 : S_.BroadcastsInDim S4x256x2048 (![] : Fin 0 → Fin S4x256x2048.rank)
  reducesTo_S4x256x2048_S_d0_1_2 : S4x256x2048.ReducesTo [0, 1, 2] S_
  bcast_S_S2048 : S_.BroadcastsInDim S2048 (![] : Fin 0 → Fin S2048.rank)
  reducesTo_S2048_S_d0 : S2048.ReducesTo [0] S_
  slices_S2048x2048_S2048x1024_0_0 : S2048x2048.Slices ![0, 0] S2048x1024
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_v15 : IVec S_ 1) (main_v17 : FVec F S2048x1024 .f32) : IVec S_ 1 :=
  let main_cst_4 : FVec F S_ .f32 := constant S_ .f32 0x7F800000#32
  let main_v18 : FVec F S2048x1024 .f32 := broadcastInDim S2048x1024 ![] bcast_S_S2048x1024 main_cst_4
  let main_v19 : IVec S2048x1024 1 := cmpf .olt main_v17 main_v18
  let main_c_5 : IVec S_ 1 := constantI S_ 1 1#1
  let main_v20 : IVec S_ 1 := (fun x v => Host.reduce IntOp.andi x v reducesTo_S2048x1024_S_d0_1 h_S_) main_v19 main_c_5
  let main_v21 : IVec S_ 1 := andi main_v15 main_v20
  main_v21

def fn {F : FTy → Type} [FloatOps F] (main_arg0 : FVec F S8192x17408 .bf16) (main_arg1 : FVec F S4x256x2048 .f32) (main_arg2 : FVec F S2048 .f32) (main_arg3 : FVec F S2048x2048 .f32) : IVec S_ 1 :=
  let main_v0 : FVec F S8192x1024 .bf16 := (extractStridedSlice S8192x1024 ![0, 9216] · slices_S8192x17408_S8192x1024_0_9216) main_arg0
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_c : IVec S_ 1 := constantI S_ 1 1#1
  let main_v5 : IVec S_ 1 := (fun x v => Host.reduce IntOp.andi x v reducesTo_S8192x1024_S_d0_1 h_S_) main_v4 main_c
  let main_v6 : FVec F S4x256x2048 .f32 := Host.absf main_arg1
  let main_cst_0 : FVec F S_ .f32 := constant S_ .f32 0x7F800000#32
  let main_v7 : FVec F S4x256x2048 .f32 := broadcastInDim S4x256x2048 ![] bcast_S_S4x256x2048 main_cst_0
  let main_v8 : IVec S4x256x2048 1 := cmpf .olt main_v6 main_v7
  let main_c_1 : IVec S_ 1 := constantI S_ 1 1#1
  let main_v9 : IVec S_ 1 := (fun x v => Host.reduce IntOp.andi x v reducesTo_S4x256x2048_S_d0_1_2 h_S_) main_v8 main_c_1
  let main_v10 : IVec S_ 1 := andi main_v5 main_v9
  let main_v11 : FVec F S2048 .f32 := Host.absf main_arg2
  let main_cst_2 : FVec F S_ .f32 := constant S_ .f32 0x7F800000#32
  let main_v12 : FVec F S2048 .f32 := broadcastInDim S2048 ![] bcast_S_S2048 main_cst_2
  let main_v13 : IVec S2048 1 := cmpf .olt main_v11 main_v12
  let main_c_3 : IVec S_ 1 := constantI S_ 1 1#1
  let main_v14 : IVec S_ 1 := (fun x v => Host.reduce IntOp.andi x v reducesTo_S2048_S_d0 h_S_) main_v13 main_c_3
  let main_v15 : IVec S_ 1 := andi main_v10 main_v14
  let main_v16 : FVec F S2048x1024 .f32 := (extractStridedSlice S2048x1024 ![0, 0] · slices_S2048x2048_S2048x1024_0_0) main_arg3
  let main_v17 : FVec F S2048x1024 .f32 := Host.absf main_v16
  fn_part1 (F := F) main_v15 main_v17
-- ==== Pre_finite_retention.lean ====
abbrev S8192x17408 : Shape := ⟨2, ![8192, 17408]⟩
abbrev S1024 : Shape := ⟨1, ![1024]⟩
abbrev S1024x2048 : Shape := ⟨2, ![1024, 2048]⟩
abbrev S2048x2048 : Shape := ⟨2, ![2048, 2048]⟩
abbrev S8192x3072 : Shape := ⟨2, ![8192, 3072]⟩
abbrev S_ : Shape := ⟨0, ![]⟩

class Facts : Prop where
  slices_S8192x17408_S8192x3072_0_0 : S8192x17408.Slices ![0, 0] S8192x3072
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel

variable [Facts]

def fn {F : FTy → Type} [FloatOps F] (main_arg0 : FVec F S8192x17408 .bf16) (main_arg1 : FVec F S1024 .f32) (main_arg2 : FVec F S1024x2048 .f32) (main_arg3 : FVec F S1024x2048 .f32) (main_arg4 : FVec F S1024x2048 .f32) (main_arg5 : FVec F S2048x2048 .f32) : IVec S_ 1 :=
  let main_v0 : FVec F S8192x3072 .bf16 := (extractStridedSlice S8192x3072 ![0, 0] · slices_S8192x17408_S8192x3072_0_0) main_arg0
  let main_v1 : FVec F S8192x3072 .f32 := (extf .f32 · bitsLt_bf16_f32) main_v0
  let main_v2 : FVec F S8192x3072 .f32 := Host.absf main_v1
  let main_cst : FVec F S_ .f32 := constant S_ .f32 0x7F800000#32
  let main_v3 : FVec F S8192x3072 .f32 := broadcastInDim S8192x3072 ![] bcast_S_S8192x3072 main_cst
  let main_v4 : IVec S8192x3072 1 := cmpf .olt main_v2 main_v3
  let main_c : IVec S_ 1 := constantI S_ 1 1#1
  let main_v5 : IVec S_ 1 := (fun x v => Host.reduce IntOp.andi x v reducesTo_S8192x3072_S_d0_1 h_S_) main_v4 main_c
  main_v5
-- ==== RetK.lean ====
abbrev S8192x17408 : Shape := ⟨2, ![8192, 17408]⟩
abbrev S1024 : Shape := ⟨1, ![1024]⟩
abbrev S1024x2048 : Shape := ⟨2, ![1024, 2048]⟩
abbrev S2048x2048 : Shape := ⟨2, ![2048, 2048]⟩
abbrev S8 : Shape := ⟨1, ![8]⟩
abbrev S_ : Shape := ⟨0, ![]⟩
abbrev S1x1024 : Shape := ⟨2, ![1, 1024]⟩
abbrev S8192x1024 : Shape := ⟨2, ![8192, 1024]⟩
abbrev S2x1024x1024 : Shape := ⟨3, ![2, 1024, 1024]⟩
abbrev S2048x512 : Shape := ⟨2, ![2048, 512]⟩
abbrev S1x512 : Shape := ⟨2, ![1, 512]⟩
abbrev S128x2048 : Shape := ⟨2, ![128, 2048]⟩
abbrev S256x2048 : Shape := ⟨2, ![256, 2048]⟩
abbrev S2x128x1024 : Shape := ⟨3, ![2, 128, 1024]⟩
abbrev S128x1024 : Shape := ⟨2, ![128, 1024]⟩
abbrev S1x128x1024 : Shape := ⟨3, ![1, 128, 1024]⟩
abbrev S256x256 : Shape := ⟨2, ![256, 256]⟩
abbrev S256x1 : Shape := ⟨2, ![256, 1]⟩
abbrev S1 : Shape := ⟨1, ![1]⟩
abbrev S1x128 : Shape := ⟨2, ![1, 128]⟩
abbrev S128x128 : Shape := ⟨2, ![128, 128]⟩
abbrev S256x128 : Shape := ⟨2, ![256, 128]⟩
abbrev S256 : Shape := ⟨1, ![256]⟩

abbrev nBuf : Space → Nat
  | .hbm => 21
  | .vmem => 28
  | .smem => 1
  | _ => 0

abbrev bufTy : (tb : Table) → Fin (tcTables nBuf tb) → BufTy
  | .hbm, ⟨0, _⟩ => ⟨S8192x17408, .bf16⟩
  | .hbm, ⟨1, _⟩ => ⟨S1024, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S2048x2048, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S1x1024, .f32⟩
  | .hbm, ⟨16, _⟩ => ⟨S8192x1024, .bf16⟩
  | .hbm, ⟨17, _⟩ => ⟨S2x1024x1024, .bf16⟩
  | .hbm, ⟨18, _⟩ => ⟨S2x1024x1024, .bf16⟩
  | .hbm, ⟨19, _⟩ => ⟨S2x1024x1024, .bf16⟩
  | .hbm, ⟨20, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x512, .f32⟩
  | .local _ .vmem, ⟨9, _⟩ => ⟨S1x512, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S256x2048, .f32⟩
  | .local _ .vmem, ⟨17, _⟩ => ⟨S256x2048, .f32⟩
  | .local _ .vmem, ⟨18, _⟩ => ⟨S2048x512, .bf16⟩
  | .local _ .vmem, ⟨19, _⟩ => ⟨S2048x512, .bf16⟩
  | .local _ .vmem, ⟨20, _⟩ => ⟨S2x128x1024, .bf16⟩
  | .local _ .vmem, ⟨21, _⟩ => ⟨S2x128x1024, .bf16⟩
  | .local _ .vmem, ⟨22, _⟩ => ⟨S2x128x1024, .bf16⟩
  | .local _ .vmem, ⟨23, _⟩ => ⟨S2x128x1024, .bf16⟩
  | .local _ .vmem, ⟨24, _⟩ => ⟨S2x128x1024, .bf16⟩
  | .local _ .vmem, ⟨25, _⟩ => ⟨S2x128x1024, .bf16⟩
  | .local _ .vmem, ⟨26, _⟩ => ⟨S256x2048, .bf16⟩
  | .local _ .vmem, ⟨27, _⟩ => ⟨S256x2048, .bf16⟩
  | .local _ .smem, ⟨0, _⟩ => ⟨S8, .f32⟩
  | _, _ => ⟨S8192x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![4, 2], ![false, false]⟩

def k0_off1 (i : grid0.Coords) (c0_i32 : BitVec 32) : Fin 1 → Nat :=
  let arg1 : BitVec 32 := BitVec.ofNat 32 (i 1).val
  let c4_i32 : BitVec 32 := 4#32
  let v39 : BitVec 32 := Scalar.muli arg1 c4_i32
  let v40 : BitVec 32 := Scalar.addi v39 c0_i32
  let v41 : Index := Scalar.indexCast v40
  ![v41.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== RetRIdeal.lean ====
abbrev S8192x17408 : Shape := ⟨2, ![8192, 17408]⟩
abbrev S1024 : Shape := ⟨1, ![1024]⟩
abbrev S1024x2048 : Shape := ⟨2, ![1024, 2048]⟩
abbrev S2048x2048 : Shape := ⟨2, ![2048, 2048]⟩
abbrev S4x2048x17408 : Shape := ⟨3, ![4, 2048, 17408]⟩
abbrev S4x2048x1024 : Shape := ⟨3, ![4, 2048, 1024]⟩
abbrev S4x2048x8x128 : Shape := ⟨4, ![4, 2048, 8, 128]⟩
abbrev S4x8x2048x128 : Shape := ⟨4, ![4, 8, 2048, 128]⟩
abbrev S_ : Shape := ⟨0, ![]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S1x8x128x1 : Shape := ⟨4, ![1, 8, 128, 1]⟩
abbrev S1x8x1x1 : Shape := ⟨4, ![1, 8, 1, 1]⟩
abbrev S4x8x128x128 : Shape := ⟨4, ![4, 8, 128, 128]⟩
abbrev S4x8x16x128x128 : Shape := ⟨5, ![4, 8, 16, 128, 128]⟩
abbrev S16x4x8x128x128 : Shape := ⟨5, ![16, 4, 8, 128, 128]⟩
abbrev S1x4x8x128x128 : Shape := ⟨5, ![1, 4, 8, 128, 128]⟩
abbrev S1x8x128x128 : Shape := ⟨4, ![1, 8, 128, 128]⟩
abbrev S4x8x2048 : Shape := ⟨3, ![4, 8, 2048]⟩
abbrev S4x8x2048x1 : Shape := ⟨4, ![4, 8, 2048, 1]⟩
abbrev S1x1x1024 : Shape := ⟨3, ![1, 1, 1024]⟩
abbrev S8192x1024 : Shape := ⟨2, ![8192, 1024]⟩
abbrev S1024x1024 : Shape := ⟨2, ![1024, 1024]⟩
abbrev S1x1024x1024 : Shape := ⟨3, ![1, 1024, 1024]⟩
abbrev S2x1024x1024 : Shape := ⟨3, ![2, 1024, 1024]⟩

abbrev nBuf : Space → Nat
  | .hbm => 203
  | .vmem => 0
  | .smem => 0
  | _ => 0

abbrev hbmTy0_0 (i : Nat) : BufTy := match i % 128 with
  | 0 => ⟨S8192x17408, .bf16⟩
  | 1 => ⟨S1024, .f32⟩
  | 2 => ⟨S1024x2048, .f32⟩
  | 3 => ⟨S1024x2048, .f32⟩
  | 4 => ⟨S1024x2048, .f32⟩
  | 5 => ⟨S2048x2048, .f32⟩
  | 6 => ⟨S8192x17408, .f32⟩
  | 7 => ⟨S4x2048x17408, .f32⟩
  | 8 => ⟨S4x2048x1024, .f32⟩
  | 9 => ⟨S4x2048x1024, .f32⟩
  | 10 => ⟨S4x2048x1024, .f32⟩
  | 11 => ⟨S4x2048x1024, .f32⟩
  | 12 => ⟨S4x2048x8x128, .f32⟩
  | 13 => ⟨S4x8x2048x128, .f32⟩
  | 14 => ⟨S4x2048x8x128, .f32⟩
  | 15 => ⟨S4x8x2048x128, .f32⟩
  | 16 => ⟨S_, .f32⟩
  | 17 => ⟨S4x8x2048x128, .f32⟩
  | 18 => ⟨S4x8x2048x128, .f32⟩
  | 19 => ⟨S4x2048x8x128, .f32⟩
  | 20 => ⟨S4x8x2048x128, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S8, .f32⟩
  | 29 => ⟨S8, .f32⟩
  | 30 => ⟨S128, .f32⟩
  | 31 => ⟨S128x1, .f32⟩
  | 32 => ⟨S1x128, .f32⟩
  | 33 => ⟨S128x128, .f32⟩
  | 34 => ⟨S128x128, .f32⟩
  | 35 => ⟨S128x128, .f32⟩
  | 36 => ⟨S_, .f32⟩
  | 37 => ⟨S128x128, .f32⟩
  | 38 => ⟨S128x128, .i1⟩
  | 39 => ⟨S8x1x1, .f32⟩
  | 40 => ⟨S_, .f32⟩
  | 41 => ⟨S128x128, .f32⟩
  | 42 => ⟨S128x128, .f32⟩
  | 43 => ⟨S1x128x128, .f32⟩
  | 44 => ⟨S8x128x128, .f32⟩
  | 45 => ⟨S8x128x128, .f32⟩
  | 46 => ⟨S8x128x128, .f32⟩
  | 47 => ⟨S8x128x128, .f32⟩
  | 48 => ⟨S_, .f32⟩
  | 49 => ⟨S_, .f32⟩
  | 50 => ⟨S8x128x128, .i1⟩
  | 51 => ⟨S8x128x128, .f32⟩
  | 52 => ⟨S8x128x128, .f32⟩
  | 53 => ⟨S8x1, .f32⟩
  | 54 => ⟨S_, .f32⟩
  | 55 => ⟨S128, .f32⟩
  | 56 => ⟨S128, .f32⟩
  | 57 => ⟨S1x128, .f32⟩
  | 58 => ⟨S8x128, .f32⟩
  | 59 => ⟨S8x128, .f32⟩
  | 60 => ⟨S8x128, .f32⟩
  | 61 => ⟨S8x128, .f32⟩
  | 62 => ⟨S1x8x128x1, .f32⟩
  | 63 => ⟨S8x1, .f32⟩
  | 64 => ⟨S_, .f32⟩
  | 65 => ⟨S128, .f32⟩
  | 66 => ⟨S128, .f32⟩
  | 67 => ⟨S1x128, .f32⟩
  | 68 => ⟨S8x128, .f32⟩
  | 69 => ⟨S8x128, .f32⟩
  | 70 => ⟨S8x128, .f32⟩
  | 71 => ⟨S8x128, .f32⟩
  | 72 => ⟨S1x8x128x1, .f32⟩
  | 73 => ⟨S_, .f32⟩
  | 74 => ⟨S8, .f32⟩
  | 75 => ⟨S8, .f32⟩
  | 76 => ⟨S8, .f32⟩
  | 77 => ⟨S1x8x1x1, .f32⟩
  | 78 => ⟨S_, .f32⟩
  | 79 => ⟨S4x8x128x128, .f32⟩
  | 80 => ⟨S4x8x16x128x128, .f32⟩
  | 81 => ⟨S16x4x8x128x128, .f32⟩
  | 82 => ⟨S4x8x16x128x128, .f32⟩
  | 83 => ⟨S16x4x8x128x128, .f32⟩
  | 84 => ⟨S4x8x16x128x128, .f32⟩
  | 85 => ⟨S16x4x8x128x128, .f32⟩
  | 86 => ⟨S_, .f32⟩
  | 87 => ⟨S16x4x8x128x128, .f32⟩
  | 88 => ⟨S_, .i32⟩
  | 89 => ⟨S16x4x8x128x128, .f32⟩
  | 90 => ⟨S16x4x8x128x128, .f32⟩
  | 91 => ⟨S16x4x8x128x128, .f32⟩
  | 92 => ⟨S8x128x128, .f32⟩
  | 93 => ⟨S1x8x128x1, .f32⟩
  | 94 => ⟨S1x8x1x1, .f32⟩
  | 95 => ⟨S1x8x128x1, .f32⟩
  | 96 => ⟨S_, .i32⟩
  | 97 => ⟨S4x8x128x128, .f32⟩
  | 98 => ⟨S16x4x8x128x128, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S1x4x8x128x128, .f32⟩
  | 106 => ⟨S4x8x128x128, .f32⟩
  | 107 => ⟨S_, .i32⟩
  | 108 => ⟨S_, .i32⟩
  | 109 => ⟨S_, .i32⟩
  | 110 => ⟨S_, .i32⟩
  | 111 => ⟨S1x4x8x128x128, .f32⟩
  | 112 => ⟨S4x8x128x128, .f32⟩
  | 113 => ⟨S_, .i32⟩
  | 114 => ⟨S_, .i32⟩
  | 115 => ⟨S_, .i32⟩
  | 116 => ⟨S_, .i32⟩
  | 117 => ⟨S1x4x8x128x128, .f32⟩
  | 118 => ⟨S4x8x128x128, .f32⟩
  | 119 => ⟨S4x8x128x128, .f32⟩
  | 120 => ⟨S1x8x128x128, .f32⟩
  | 121 => ⟨S4x8x128x128, .f32⟩
  | 122 => ⟨S4x8x128x128, .f32⟩
  | 123 => ⟨S4x8x128x128, .f32⟩
  | 124 => ⟨S4x8x128x128, .f32⟩
  | 125 => ⟨S4x8x128x128, .f32⟩
  | 126 => ⟨S4x8x128x128, .f32⟩
  | 127 => ⟨S4x8x128x128, .f32⟩
  | _ => ⟨S8192x17408, .bf16⟩

abbrev hbmTy0_1 (i : Nat) : BufTy := match i % 128 with
  | 0 => ⟨S4x8x128x128, .f32⟩
  | 1 => ⟨S4x8x128x128, .f32⟩
  | 2 => ⟨S4x8x128x128, .f32⟩
  | 3 => ⟨S4x8x128x128, .f32⟩
  | 4 => ⟨S4x8x128x128, .f32⟩
  | 5 => ⟨S4x8x128x128, .f32⟩
  | 6 => ⟨S1x4x8x128x128, .f32⟩
  | 7 => ⟨S_, .i32⟩
  | 8 => ⟨S_, .i32⟩
  | 9 => ⟨S_, .i32⟩
  | 10 => ⟨S_, .i32⟩
  | 11 => ⟨S16x4x8x128x128, .f32⟩
  | 12 => ⟨S_, .i32⟩
  | 13 => ⟨S_, .i32⟩
  | 14 => ⟨S4x8x16x128x128, .f32⟩
  | 15 => ⟨S4x8x2048x128, .f32⟩
  | 16 => ⟨S4x2048x1024, .f32⟩
  | 17 => ⟨S4x2048x1024, .f32⟩
  | 18 => ⟨S_, .f32⟩
  | 19 => ⟨S4x2048x1024, .f32⟩
  | 20 => ⟨S4x2048x1024, .f32⟩
  | 21 => ⟨S_, .f32⟩
  | 22 => ⟨S4x2048x1024, .f32⟩
  | 23 => ⟨S4x2048x1024, .f32⟩
  | 24 => ⟨S4x2048x1024, .f32⟩
  | 25 => ⟨S_, .f32⟩
  | 26 => ⟨S4x8x2048, .f32⟩
  | 27 => ⟨S4x8x2048x1, .f32⟩
  | 28 => ⟨S_, .f32⟩
  | 29 => ⟨S4x8x2048x1, .f32⟩
  | 30 => ⟨S4x8x2048x1, .f32⟩
  | 31 => ⟨S4x8x2048x128, .f32⟩
  | 32 => ⟨S4x8x2048x128, .f32⟩
  | 33 => ⟨S4x8x2048x128, .f32⟩
  | 34 => ⟨S_, .f32⟩
  | 35 => ⟨S4x8x2048, .f32⟩
  | 36 => ⟨S4x8x2048x1, .f32⟩
  | 37 => ⟨S_, .f32⟩
  | 38 => ⟨S4x8x2048x1, .f32⟩
  | 39 => ⟨S4x8x2048x1, .f32⟩
  | 40 => ⟨S4x8x2048x128, .f32⟩
  | 41 => ⟨S4x8x2048x128, .f32⟩
  | 42 => ⟨S_, .f32⟩
  | 43 => ⟨S4x8x2048x1, .f32⟩
  | 44 => ⟨S4x8x2048x1, .f32⟩
  | 45 => ⟨S4x8x2048x1, .f32⟩
  | 46 => ⟨S4x8x2048x128, .f32⟩
  | 47 => ⟨S4x8x2048x128, .f32⟩
  | 48 => ⟨S4x2048x8x128, .f32⟩
  | 49 => ⟨S4x2048x1024, .f32⟩
  | 50 => ⟨S1x1x1024, .f32⟩
  | 51 => ⟨S4x2048x1024, .f32⟩
  | 52 => ⟨S4x2048x1024, .f32⟩
  | 53 => ⟨S4x2048x1024, .f32⟩
  | 54 => ⟨S8192x1024, .f32⟩
  | 55 => ⟨S8192x1024, .bf16⟩
  | 56 => ⟨S1024x1024, .f32⟩
  | 57 => ⟨S1024x1024, .f32⟩
  | 58 => ⟨S1x1024x1024, .f32⟩
  | 59 => ⟨S1x1024x1024, .f32⟩
  | 60 => ⟨S2x1024x1024, .f32⟩
  | 61 => ⟨S2x1024x1024, .bf16⟩
  | 62 => ⟨S1024x1024, .f32⟩
  | 63 => ⟨S1024x1024, .f32⟩
  | 64 => ⟨S1x1024x1024, .f32⟩
  | 65 => ⟨S1x1024x1024, .f32⟩
  | 66 => ⟨S2x1024x1024, .f32⟩
  | 67 => ⟨S2x1024x1024, .bf16⟩
  | 68 => ⟨S1024x1024, .f32⟩
  | 69 => ⟨S1024x1024, .f32⟩
  | 70 => ⟨S1x1024x1024, .f32⟩
  | 71 => ⟨S1x1024x1024, .f32⟩
  | 72 => ⟨S2x1024x1024, .f32⟩
  | 73 => ⟨S2x1024x1024, .bf16⟩
  | 74 => ⟨S2048x2048, .bf16⟩
  | _ => ⟨S8192x17408, .bf16⟩

abbrev hbmTy (i : Nat) : BufTy := match i / 128 with
  | 0 => hbmTy0_0 i
  | 1 => hbmTy0_1 i
  | _ => ⟨S8192x17408, .bf16⟩

abbrev bufTy : (tb : Table) → Fin (tcTables nBuf tb) → BufTy
  | .hbm, ⟨i, _⟩ => hbmTy i
  | _, _ => ⟨S8192x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_c : Ref sig .tc := ⟨.hbm, 88, rfl⟩
abbrev main_v68_0 : Ref sig .tc := ⟨.hbm, 89, rfl⟩
abbrev main_v68_1 : Ref sig .tc := ⟨.hbm, 90, rfl⟩
abbrev main_v68_2 : Ref sig .tc := ⟨.hbm, 91, rfl⟩
abbrev main_v68_3 : Ref sig .tc := ⟨.hbm, 92, rfl⟩
abbrev main_v68_4 : Ref sig .tc := ⟨.hbm, 93, rfl⟩
abbrev main_v68_5 : Ref sig .tc := ⟨.hbm, 94, rfl⟩
abbrev main_v68_6 : Ref sig .tc := ⟨.hbm, 95, rfl⟩
abbrev main_v68_7 : Ref sig .tc := ⟨.hbm, 96, rfl⟩
abbrev main_v68_8 : Ref sig .tc := ⟨.hbm, 97, rfl⟩
abbrev main_v68_9 : Ref sig .tc := ⟨.hbm, 98, rfl⟩
abbrev main_while0c_c_24 : Ref sig .tc := ⟨.hbm, 99, rfl⟩
abbrev main_while0c_v117 : Ref sig .tc := ⟨.hbm, 100, rfl⟩
abbrev main_while0b_call1_c : Ref sig .tc := ⟨.hbm, 101, rfl⟩
abbrev main_while0b_call1_c_0 : Ref sig .tc := ⟨.hbm, 102, rfl⟩
abbrev main_while0b_call1_c_1 : Ref sig .tc := ⟨.hbm, 103, rfl⟩
abbrev main_while0b_call1_c_2 : Ref sig .tc := ⟨.hbm, 104, rfl⟩
abbrev main_while0b_call1_v0 : Ref sig .tc := ⟨.hbm, 105, rfl⟩
abbrev main_while0b_v117 : Ref sig .tc := ⟨.hbm, 106, rfl⟩
abbrev main_while0b_call2_c : Ref sig .tc := ⟨.hbm, 107, rfl⟩
abbrev main_while0b_call2_c_0 : Ref sig .tc := ⟨.hbm, 108, rfl⟩
abbrev main_while0b_call2_c_1 : Ref sig .tc := ⟨.hbm, 109, rfl⟩
abbrev main_while0b_call2_c_2 : Ref sig .tc := ⟨.hbm, 110, rfl⟩
abbrev main_while0b_call2_v0 : Ref sig .tc := ⟨.hbm, 111, rfl⟩
abbrev main_while0b_v118 : Ref sig .tc := ⟨.hbm, 112, rfl⟩
abbrev main_while0b_call3_c : Ref sig .tc := ⟨.hbm, 113, rfl⟩
abbrev main_while0b_call3_c_0 : Ref sig .tc := ⟨.hbm, 114, rfl⟩
abbrev main_while0b_call3_c_1 : Ref sig .tc := ⟨.hbm, 115, rfl⟩
abbrev main_while0b_call3_c_2 : Ref sig .tc := ⟨.hbm, 116, rfl⟩
abbrev main_while0b_call3_v0 : Ref sig .tc := ⟨.hbm, 117, rfl⟩
abbrev main_while0b_v119 : Ref sig .tc := ⟨.hbm, 118, rfl⟩
abbrev main_while0b_v120 : Ref sig .tc := ⟨.hbm, 119, rfl⟩
abbrev main_while0b_v121 : Ref sig .tc := ⟨.hbm, 120, rfl⟩
abbrev main_while0b_v122 : Ref sig .tc := ⟨.hbm, 121, rfl⟩
abbrev main_while0b_v123 : Ref sig .tc := ⟨.hbm, 122, rfl⟩
abbrev main_while0b_v124 : Ref sig .tc := ⟨.hbm, 123, rfl⟩
abbrev main_while0b_v125 : Ref sig .tc := ⟨.hbm, 124, rfl⟩
abbrev main_while0b_v126 : Ref sig .tc := ⟨.hbm, 125, rfl⟩
abbrev main_while0b_v127 : Ref sig .tc := ⟨.hbm, 126, rfl⟩
abbrev main_while0b_v128 : Ref sig .tc := ⟨.hbm, 127, rfl⟩
abbrev main_while0b_v129 : Ref sig .tc := ⟨.hbm, 128, rfl⟩
abbrev main_while0b_v130 : Ref sig .tc := ⟨.hbm, 129, rfl⟩
abbrev main_while0b_v131 : Ref sig .tc := ⟨.hbm, 130, rfl⟩
abbrev main_while0b_v132 : Ref sig .tc := ⟨.hbm, 131, rfl⟩
abbrev main_while0b_v133 : Ref sig .tc := ⟨.hbm, 132, rfl⟩
abbrev main_while0b_v134 : Ref sig .tc := ⟨.hbm, 133, rfl⟩
abbrev main_while0b_call4_v0 : Ref sig .tc := ⟨.hbm, 134, rfl⟩
abbrev main_while0b_call4_c : Ref sig .tc := ⟨.hbm, 135, rfl⟩
abbrev main_while0b_call4_c_0 : Ref sig .tc := ⟨.hbm, 136, rfl⟩
abbrev main_while0b_call4_c_1 : Ref sig .tc := ⟨.hbm, 137, rfl⟩
abbrev main_while0b_call4_c_2 : Ref sig .tc := ⟨.hbm, 138, rfl⟩
abbrev main_while0b_v135 : Ref sig .tc := ⟨.hbm, 139, rfl⟩
abbrev main_while0b_c_24 : Ref sig .tc := ⟨.hbm, 140, rfl⟩
abbrev main_while0b_v136 : Ref sig .tc := ⟨.hbm, 141, rfl⟩
abbrev main_v69 : Ref sig .tc := ⟨.hbm, 142, rfl⟩
abbrev main_v70 : Ref sig .tc := ⟨.hbm, 143, rfl⟩
abbrev main_call5_v0 : Ref sig .tc := ⟨.hbm, 144, rfl⟩
abbrev main_call5_v1 : Ref sig .tc := ⟨.hbm, 145, rfl⟩
abbrev main_call5_cst : Ref sig .tc := ⟨.hbm, 146, rfl⟩
abbrev main_call5_v2 : Ref sig .tc := ⟨.hbm, 147, rfl⟩
abbrev main_call5_v3 : Ref sig .tc := ⟨.hbm, 148, rfl⟩
abbrev main_call5_cst_0 : Ref sig .tc := ⟨.hbm, 149, rfl⟩
abbrev main_call5_v4 : Ref sig .tc := ⟨.hbm, 150, rfl⟩
abbrev main_call5_v5 : Ref sig .tc := ⟨.hbm, 151, rfl⟩
abbrev main_v71 : Ref sig .tc := ⟨.hbm, 152, rfl⟩
abbrev main_cst_10 : Ref sig .tc := ⟨.hbm, 153, rfl⟩
abbrev main_v72 : Ref sig .tc := ⟨.hbm, 154, rfl⟩
abbrev main_v73 : Ref sig .tc := ⟨.hbm, 155, rfl⟩
abbrev main_cst_11 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_cst_12 : Ref sig .tc := ⟨.hbm, 162, rfl⟩
abbrev main_v79 : Ref sig .tc := ⟨.hbm, 163, rfl⟩
abbrev main_v80 : Ref sig .tc := ⟨.hbm, 164, rfl⟩
abbrev main_cst_13 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_cst_14 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩

abbrev nD : Nat := 1
abbrev τ : Topo := Topo.v7x

variable {F : FTy → Type} [FloatOps F]

abbrev main_while0_count : Scf.Loop 32 := ⟨0#32, 16#32, 1#32⟩
-- ==== MemK.lean ====
abbrev S8192x17408 : Shape := ⟨2, ![8192, 17408]⟩
abbrev S4x256x2048 : Shape := ⟨3, ![4, 256, 2048]⟩
abbrev S2048 : Shape := ⟨1, ![2048]⟩
abbrev S2048x2048 : Shape := ⟨2, ![2048, 2048]⟩
abbrev S1024x2048 : Shape := ⟨2, ![1024, 2048]⟩
abbrev S1x2048 : Shape := ⟨2, ![1, 2048]⟩
abbrev S8192x1024 : Shape := ⟨2, ![8192, 1024]⟩
abbrev S1024x1024 : Shape := ⟨2, ![1024, 1024]⟩
abbrev S256x2048 : Shape := ⟨2, ![256, 2048]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x17408, .bf16⟩
  | .hbm, ⟨1, _⟩ => ⟨S4x256x2048, .f32⟩
  | .hbm, ⟨2, _⟩ => ⟨S2048, .f32⟩
  | .hbm, ⟨3, _⟩ => ⟨S2048x2048, .f32⟩
  | .hbm, ⟨4, _⟩ => ⟨S1024x2048, .f32⟩
  | .hbm, ⟨5, _⟩ => ⟨S1x2048, .f32⟩
  | .hbm, ⟨6, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S2048x2048, .f32⟩
  | .local _ .vmem, ⟨8, _⟩ => ⟨S1024x1024, .bf16⟩
  | .local _ .vmem, ⟨9, _⟩ => ⟨S1024x1024, .bf16⟩
  | .local _ .vmem, ⟨10, _⟩ => ⟨S2048x2048, .bf16⟩
  | .local _ .vmem, ⟨11, _⟩ => ⟨S256x2048, .bf16⟩
  | _, _ => ⟨S8192x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c9_i32 : BitVec 32 := 9#32
  let c0_i32 : BitVec 32 := 0#32
  ![v1.toNat, c9_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c10_i32 : BitVec 32 := 10#32
  let c0_i32 : BitVec 32 := 0#32
  ![v1.toNat, c10_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MemRIdeal.lean ====
abbrev S8192x17408 : Shape := ⟨2, ![8192, 17408]⟩
abbrev S4x256x2048 : Shape := ⟨3, ![4, 256, 2048]⟩
abbrev S2048 : Shape := ⟨1, ![2048]⟩
abbrev S2048x2048 : Shape := ⟨2, ![2048, 2048]⟩
abbrev S4x2048x17408 : Shape := ⟨3, ![4, 2048, 17408]⟩
abbrev S4x2048x1024 : Shape := ⟨3, ![4, 2048, 1024]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S4x256x1024 : Shape := ⟨3, ![4, 256, 1024]⟩
abbrev S4x256x4x256 : Shape := ⟨4, ![4, 256, 4, 256]⟩
abbrev S4x2048x4x256 : Shape := ⟨4, ![4, 2048, 4, 256]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S8192x1024 : Shape := ⟨2, ![8192, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x17408, .bf16⟩
  | .hbm, ⟨1, _⟩ => ⟨S4x256x2048, .f32⟩
  | .hbm, ⟨2, _⟩ => ⟨S2048, .f32⟩
  | .hbm, ⟨3, _⟩ => ⟨S2048x2048, .f32⟩
  | .hbm, ⟨4, _⟩ => ⟨S8192x17408, .f32⟩
  | .hbm, ⟨5, _⟩ => ⟨S4x2048x17408, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x256x2048, .f32⟩
  | .hbm, ⟨18, _⟩ => ⟨S_, .f32⟩
  | .hbm, ⟨19, _⟩ => ⟨S4x256, .f32⟩
  | .hbm, ⟨20, _⟩ => ⟨S4x256x1, .f32⟩
  | .hbm, ⟨21, _⟩ => ⟨S_, .f32⟩
  | .hbm, ⟨22, _⟩ => ⟨S4x256x1, .f32⟩
  | .hbm, ⟨23, _⟩ => ⟨S4x256x1, .f32⟩
  | .hbm, ⟨24, _⟩ => ⟨S_, .f32⟩
  | .hbm, ⟨25, _⟩ => ⟨S4x256x1, .f32⟩
  | .hbm, ⟨26, _⟩ => ⟨S4x256x1, .f32⟩
  | .hbm, ⟨27, _⟩ => ⟨S4x256x1, .f32⟩
  | .hbm, ⟨28, _⟩ => ⟨S4x256x2048, .f32⟩
  | .hbm, ⟨29, _⟩ => ⟨S4x256x2048, .f32⟩
  | .hbm, ⟨30, _⟩ => ⟨S1x1x2048, .f32⟩
  | .hbm, ⟨31, _⟩ => ⟨S4x256x2048, .f32⟩
  | .hbm, ⟨32, _⟩ => ⟨S4x256x2048, .f32⟩
  | .hbm, ⟨33, _⟩ => ⟨S4x256x2048, .f32⟩
  | .hbm, ⟨34, _⟩ => ⟨S4x256x1024, .f32⟩
  | .hbm, ⟨35, _⟩ => ⟨S4x256x1024, .f32⟩
  | .hbm, ⟨36, _⟩ => ⟨S4x256x4x256, .f32⟩
  | .hbm, ⟨37, _⟩ => ⟨S4x256x4x256, .f32⟩
  | .hbm, ⟨38, _⟩ => ⟨S4x2048x4x256, .f32⟩
  | .hbm, ⟨39, _⟩ => ⟨S4x4x2048x256, .f32⟩
  | .hbm, ⟨40, _⟩ => ⟨S_, .f32⟩
  | .hbm, ⟨41, _⟩ => ⟨S4x4x2048x256, .f32⟩
  | .hbm, ⟨42, _⟩ => ⟨S4x4x2048x256, .f32⟩
  | .hbm, ⟨43, _⟩ => ⟨S_, .f32⟩
  | .hbm, ⟨44, _⟩ => ⟨S4x4x2048, .f32⟩
  | .hbm, ⟨45, _⟩ => ⟨S_, .f32⟩
  | .hbm, ⟨46, _⟩ => ⟨S4x4x2048, .f32⟩
  | .hbm, ⟨47, _⟩ => ⟨S4x4x2048, .f32⟩
  | .hbm, ⟨48, _⟩ => ⟨S4x4x2048x1, .f32⟩
  | .hbm, ⟨49, _⟩ => ⟨S4x4x2048x256, .f32⟩
  | .hbm, ⟨50, _⟩ => ⟨S4x4x2048x256, .f32⟩
  | .hbm, ⟨51, _⟩ => ⟨S4x4x2048x256, .f32⟩
  | .hbm, ⟨52, _⟩ => ⟨S_, .f32⟩
  | .hbm, ⟨53, _⟩ => ⟨S4x4x2048, .f32⟩
  | .hbm, ⟨54, _⟩ => ⟨S4x4x2048x1, .f32⟩
  | .hbm, ⟨55, _⟩ => ⟨S4x4x2048x256, .f32⟩
  | .hbm, ⟨56, _⟩ => ⟨S4x4x2048x256, .f32⟩
  | .hbm, ⟨57, _⟩ => ⟨S4x4x256x2048, .f32⟩
  | .hbm, ⟨58, _⟩ => ⟨S4x2048x4x256, .f32⟩
  | .hbm, ⟨59, _⟩ => ⟨S4x2048x1024, .f32⟩
  | .hbm, ⟨60, _⟩ => ⟨S4x2048x1024, .f32⟩
  | .hbm, ⟨61, _⟩ => ⟨S8192x1024, .f32⟩
  | .hbm, ⟨62, _⟩ => ⟨S8192x1024, .bf16⟩
  | _, _ => ⟨S8192x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== PrjK.lean ====
abbrev S8192x2048 : Shape := ⟨2, ![8192, 2048]⟩
abbrev S2048x17488 : Shape := ⟨2, ![2048, 17488]⟩
abbrev S17488x2048 : Shape := ⟨2, ![17488, 2048]⟩
abbrev S8192x17408 : Shape := ⟨2, ![8192, 17408]⟩
abbrev S2048x2048 : Shape := ⟨2, ![2048, 2048]⟩
abbrev S1024x2048 : Shape := ⟨2, ![1024, 2048]⟩
abbrev S2048x1024 : Shape := ⟨2, ![2048, 1024]⟩
abbrev S256x2048 : Shape := ⟨2, ![256, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x17488, .f32⟩
  | .hbm, ⟨2, _⟩ => ⟨S17488x2048, .f32⟩
  | .hbm, ⟨3, _⟩ => ⟨S8192x17408, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .sge arg0 c9_i32
  let c10_i32 : BitVec 32 := 10#32
  let c0_i32 : BitVec 32 := 0#32
  let v1 : BitVec 32 := Scalar.select v0 c10_i32 c0_i32
  let c128_i32 : BitVec 32 := 128#32
  let v2 : BitVec 32 := Scalar.muli arg0 c128_i32
  let v3 : BitVec 32 := Scalar.addi v2 v1
  let c8_i32 : BitVec 32 := 8#32
  let v4 : BitVec 32 := Scalar.muli v3 c8_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PrjRIdeal.lean ====
abbrev S8192x2048 : Shape := ⟨2, ![8192, 2048]⟩
abbrev S2048x17488 : Shape := ⟨2, ![2048, 17488]⟩
abbrev S8192x17488 : Shape := ⟨2, ![8192, 17488]⟩
abbrev S8192x9216 : Shape := ⟨2, ![8192, 9216]⟩
abbrev S8192x8192 : Shape := ⟨2, ![8192, 8192]⟩
abbrev S8192x17408 : Shape := ⟨2, ![8192, 17408]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x17488, .f32⟩
  | .hbm, ⟨2, _⟩ => ⟨S8192x2048, .f32⟩
  | .hbm, ⟨3, _⟩ => ⟨S8192x17488, .f32⟩
  | .hbm, ⟨4, _⟩ => ⟨S8192x9216, .f32⟩
  | .hbm, ⟨5, _⟩ => ⟨S8192x8192, .f32⟩
  | .hbm, ⟨6, _⟩ => ⟨S8192x17408, .f32⟩
  | .hbm, ⟨7, _⟩ => ⟨S8192x17408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PreK.lean ====
abbrev S4x2048x2048 : Shape := ⟨3, ![4, 2048, 2048]⟩
abbrev S2048 : Shape := ⟨1, ![2048]⟩
abbrev S2048x17488 : Shape := ⟨2, ![2048, 17488]⟩
abbrev S17488x2048 : Shape := ⟨2, ![17488, 2048]⟩
abbrev S80x2048 : Shape := ⟨2, ![80, 2048]⟩
abbrev S_ : Shape := ⟨0, ![]⟩
abbrev S128x2048 : Shape := ⟨2, ![128, 2048]⟩
abbrev S8192x2048 : Shape := ⟨2, ![8192, 2048]⟩
abbrev S1x2048 : Shape := ⟨2, ![1, 2048]⟩
abbrev S8192x128 : Shape := ⟨2, ![8192, 128]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 13
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x17488, .f32⟩
  | .hbm, ⟨3, _⟩ => ⟨S17488x2048, .f32⟩
  | .hbm, ⟨4, _⟩ => ⟨S80x2048, .f32⟩
  | .hbm, ⟨5, _⟩ => ⟨S_, .i32⟩
  | .hbm, ⟨6, _⟩ => ⟨S_, .f32⟩
  | .hbm, ⟨7, _⟩ => ⟨S128x2048, .f32⟩
  | .hbm, ⟨8, _⟩ => ⟨S128x2048, .bf16⟩
  | .hbm, ⟨9, _⟩ => ⟨S8192x2048, .f32⟩
  | .hbm, ⟨10, _⟩ => ⟨S1x2048, .f32⟩
  | .hbm, ⟨11, _⟩ => ⟨S8192x2048, .bf16⟩
  | .hbm, ⟨12, _⟩ => ⟨S8192x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S128x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x128, .bf16⟩
  | .local _ .vmem, ⟨7, _⟩ => ⟨S1024x128, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreRIdeal.lean ====
abbrev S4x2048x2048 : Shape := ⟨3, ![4, 2048, 2048]⟩
abbrev S2048 : Shape := ⟨1, ![2048]⟩
abbrev S2048x17488 : Shape := ⟨2, ![2048, 17488]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩
abbrev S2048x80 : Shape := ⟨2, ![2048, 80]⟩
abbrev S8192x80 : Shape := ⟨2, ![8192, 80]⟩
abbrev S8192x128 : Shape := ⟨2, ![8192, 128]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x17488, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S8192x2048, .f32⟩
  | .hbm, ⟨20, _⟩ => ⟨S2048x80, .f32⟩
  | .hbm, ⟨21, _⟩ => ⟨S8192x80, .f32⟩
  | .hbm, ⟨22, _⟩ => ⟨S8192x2048, .bf16⟩
  | .hbm, ⟨23, _⟩ => ⟨S_, .i32⟩
  | .hbm, ⟨24, _⟩ => ⟨S_, .f32⟩
  | .hbm, ⟨25, _⟩ => ⟨S8192x128, .f32⟩
  | .hbm, ⟨26, _⟩ => ⟨S8192x128, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== MrgK.lean ====
abbrev S8192x1024 : Shape := ⟨2, ![8192, 1024]⟩
abbrev S2x1024x1024 : Shape := ⟨3, ![2, 1024, 1024]⟩
abbrev S8192x17408 : Shape := ⟨2, ![8192, 17408]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S2x1024x1024, .bf16⟩
  | .hbm, ⟨4, _⟩ => ⟨S2x1024x1024, .bf16⟩
  | .hbm, ⟨5, _⟩ => ⟨S2x1024x1024, .bf16⟩
  | .hbm, ⟨6, _⟩ => ⟨S8192x17408, .bf16⟩
  | .hbm, ⟨7, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2x1024x1024, .bf16⟩
  | .local _ .vmem, ⟨7, _⟩ => ⟨S2x1024x1024, .bf16⟩
  | .local _ .vmem, ⟨8, _⟩ => ⟨S2x1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 2], ![false, false]⟩

def k0_off1 (i : grid0.Coords) : Fin 3 → Nat :=
  let arg1 : BitVec 32 := BitVec.ofNat 32 (i 1).val
  let v1 : Index := Scalar.indexCast arg1
  let c0_1 : Index := 0#32
  let c0_2 : Index := 0#32
  ![v1.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MrgRIdeal.lean ====
abbrev S8192x1024 : Shape := ⟨2, ![8192, 1024]⟩
abbrev S2x1024x1024 : Shape := ⟨3, ![2, 1024, 1024]⟩
abbrev S8192x17408 : Shape := ⟨2, ![8192, 17408]⟩
abbrev S8192x2048 : Shape := ⟨2, ![8192, 2048]⟩
abbrev S_ : Shape := ⟨0, ![]⟩
abbrev S1x1024x1024 : Shape := ⟨3, ![1, 1024, 1024]⟩
abbrev S1024x1024 : Shape := ⟨2, ![1024, 1024]⟩
abbrev S1024x2048 : Shape := ⟨2, ![1024, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S2x1024x1024, .bf16⟩
  | .hbm, ⟨4, _⟩ => ⟨S2x1024x1024, .bf16⟩
  | .hbm, ⟨5, _⟩ => ⟨S2x1024x1024, .bf16⟩
  | .hbm, ⟨6, _⟩ => ⟨S8192x17408, .bf16⟩
  | .hbm, ⟨7, _⟩ => ⟨S8192x17408, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S2x1024x1024, .f32⟩
  | .hbm, ⟨20, _⟩ => ⟨S8192x1024, .f32⟩
  | .hbm, ⟨21, _⟩ => ⟨S1x1024x1024, .f32⟩
  | .hbm, ⟨22, _⟩ => ⟨S1024x1024, .f32⟩
  | .hbm, ⟨23, _⟩ => ⟨S1x1024x1024, .f32⟩
  | .hbm, ⟨24, _⟩ => ⟨S1024x1024, .f32⟩
  | .hbm, ⟨25, _⟩ => ⟨S1024x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S2x1024x1024, .f32⟩
  | .hbm, ⟨37, _⟩ => ⟨S8192x1024, .f32⟩
  | .hbm, ⟨38, _⟩ => ⟨S1x1024x1024, .f32⟩
  | .hbm, ⟨39, _⟩ => ⟨S1024x1024, .f32⟩
  | .hbm, ⟨40, _⟩ => ⟨S1x1024x1024, .f32⟩
  | .hbm, ⟨41, _⟩ => ⟨S1024x1024, .f32⟩
  | .hbm, ⟨42, _⟩ => ⟨S1024x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S2x1024x1024, .f32⟩
  | .hbm, ⟨55, _⟩ => ⟨S8192x1024, .f32⟩
  | .hbm, ⟨56, _⟩ => ⟨S1x1024x1024, .f32⟩
  | .hbm, ⟨57, _⟩ => ⟨S1024x1024, .f32⟩
  | .hbm, ⟨58, _⟩ => ⟨S1x1024x1024, .f32⟩
  | .hbm, ⟨59, _⟩ => ⟨S1024x1024, .f32⟩
  | .hbm, ⟨60, _⟩ => ⟨S1024x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== OutK.lean ====
abbrev S8192x2048 : Shape := ⟨2, ![8192, 2048]⟩
abbrev S2048x2048 : Shape := ⟨2, ![2048, 2048]⟩
abbrev S4x2048x2048 : Shape := ⟨3, ![4, 2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S4x2048x2048, .f32⟩
  | .hbm, ⟨3, _⟩ => ⟨S2048, .f32⟩
  | .hbm, ⟨4, _⟩ => ⟨S8192x2048, .f32⟩
  | .hbm, ⟨5, _⟩ => ⟨S1x2048, .f32⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRIdeal.lean ====
abbrev S8192x2048 : Shape := ⟨2, ![8192, 2048]⟩
abbrev S2048x2048 : Shape := ⟨2, ![2048, 2048]⟩
abbrev S4x2048x2048 : Shape := ⟨3, ![4, 2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S4x2048x2048, .f32⟩
  | .hbm, ⟨3, _⟩ => ⟨S2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.RetFrame.lean ====
/- The retention reference's argument arrays are unchanged at the end of its run: no operation of any stretch, of the
   loop's condition or of the loop's body writes one. -/
module

public import proofs.«01_k».proof.Proof.Gen.RetRIdeal.Run

@[expose] public section

set_option maxRecDepth 16384

noncomputable section

open Idealize.ShloMosaic Idealize.ShloMosaic.TcCoe Idealize.ShloMosaic.StableHlo Idealize.SL.Sem

namespace Cert.RetRIdeal.Value

open Cert.RetRIdeal Cert.RetRIdeal.Gen

variable {F : FTy → Type} [FloatOps F]

/-- The references of the program's arguments. -/
abbrev argRefs : List (Ref sig .tc) := [main_arg0, main_arg1, main_arg2, main_arg3, main_arg4, main_arg5]

/-- The references the operations after the loop write, in order, stretch by stretch. -/
abbrev hostOps0_3_W : List (Ref sig .tc) := [main_v69, main_v70]
theorem hostOps0_3_writes : (hostOps0_3 : List (HloOp τ sig (Elt F))).Forall fun op => op.writes ⊆ (hostOps0_3_W.map (Proc.devRef (τ := τ) .tc)).toFinset :=
  StableHlo.forall_writes_sub_of_map rfl
/-- The second stretch's. -/
abbrev hostOps0_4_W : List (Ref sig .tc) := [main_call5_v0, main_call5_v1, main_call5_cst, main_call5_v2, main_call5_v3, main_call5_cst_0, main_call5_v4, main_call5_v5, main_v71]
theorem hostOps0_4_writes : (hostOps0_4 : List (HloOp τ sig (Elt F))).Forall fun op => op.writes ⊆ (hostOps0_4_W.map (Proc.devRef (τ := τ) .tc)).toFinset :=
  StableHlo.forall_writes_sub_of_map rfl
/-- The third stretch's. -/
abbrev hostOps0_5_W : List (Ref sig .tc) := [main_cst_10, main_v72, main_v73, main_cst_11, main_v74, main_v75, main_v76, main_v77, main_v78, main_cst_12, main_v79, main_v80, main_cst_13, main_v81, main_v82, main_v83, main_v84, main_cst_14, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116]
theorem hostOps0_5_writes : (hostOps0_5 : List (HloOp τ sig (Elt F))).Forall fun op => op.writes ⊆ (hostOps0_5_W.map (Proc.devRef (τ := τ) .tc)).toFinset :=
  StableHlo.forall_writes_sub_of_map rfl

/-- Every reference some operation of the program writes. -/
abbrev written : List (Ref sig .tc) :=
  condOps_W ++ while0Ops0_W ++ while0Ops0_1_W ++ while0Ops0_2_W ++ while0Ops0_3_W ++ while0Ops0_4_W ++ while0Ops0_5_W
    ++ hostOps0_W ++ hostOps0_1_W ++ hostOps0_2_W ++ hostOps0_3_W ++ hostOps0_4_W ++ hostOps0_5_W

/-- A reference nothing writes keeps its contents over one trip. -/
theorem trip_keeps (X : Valuation τ sig (Elt F)) (r : Ref sig .tc) (h : r ∉ written) :
    afterL bodyI (after condOps X) (Proc.devRef .tc r) = X (Proc.devRef .tc r) := by
  simp only [written, List.mem_append, not_or] at h
  obtain ⟨⟨⟨⟨⟨⟨⟨⟨⟨⟨⟨⟨hc, h0⟩, h1⟩, h2⟩, h3⟩, h4⟩, h5⟩, -⟩, -⟩, -⟩, -⟩, -⟩, -⟩ := h
  simp only [afterL_cons, afterL_nil]
  exact (after_of_writes_sub while0Ops0_5 _ while0Ops0_5_writes h5).trans <|
    (after_of_writes_sub while0Ops0_4 _ while0Ops0_4_writes h4).trans <|
    (after_of_writes_sub while0Ops0_3 _ while0Ops0_3_writes h3).trans <|
    (after_of_writes_sub while0Ops0_2 _ while0Ops0_2_writes h2).trans <|
    (after_of_writes_sub while0Ops0_1 _ while0Ops0_1_writes h1).trans <|
    (after_of_writes_sub while0Ops0 _ while0Ops0_writes h0).trans <|
    after_of_writes_sub condOps _ condOps_writes hc

variable (m : (ℓ : Loc nD τ sig) → Buf (Elt F) ℓ) (ρ : Dev nD → PrngReg)

/-- A reference nothing writes has its initial contents at the loop's entry. -/
theorem entry_keeps (c : Dev nD) (r : Ref sig .tc) (h : r ∉ written) :
    entryContents preI m c (Proc.devRef .tc r) = m ((c.tc : Thread nD τ).loc r) := by
  simp only [written, List.mem_append, not_or] at h
  obtain ⟨⟨⟨⟨⟨⟨-, h0⟩, h1⟩, h2⟩, -⟩, -⟩, -⟩ := h
  simp only [entryContents, afterL_cons, afterL_nil]
  exact (after_of_writes_sub hostOps0_2 _ hostOps0_2_writes h2).trans <|
    (after_of_writes_sub hostOps0_1 _ hostOps0_1_writes h1).trans <|
    (after_of_writes_sub hostOps0 _ hostOps0_writes h0).trans rfl

/-- A reference nothing writes has its initial contents before each trip. -/
theorem atK_keeps (c : Dev nD) (r : Ref sig .tc) (h : r ∉ written) :
    ∀ k, atK m k c (Proc.devRef .tc r) = m ((c.tc : Thread nD τ).loc r)
  | 0 => entry_keeps m c r h
  | k + 1 => (trip_keeps (atK m k c) r h).trans (atK_keeps c r h k)

/-- A reference nothing writes has its initial contents after the loop's exit and the stretches that follow. -/
theorem final_keeps (c : Dev nD) (r : Ref sig .tc) (h : r ∉ written) :
    finalContents condOps preI bodyI postI 16 m c (Proc.devRef .tc r) = m ((c.tc : Thread nD τ).loc r) := by
  have h' := h
  simp only [written, List.mem_append, not_or] at h
  obtain ⟨⟨⟨⟨⟨⟨⟨⟨⟨⟨⟨⟨hc, -⟩, -⟩, -⟩, -⟩, -⟩, -⟩, -⟩, -⟩, -⟩, h3⟩, h4⟩, h5⟩ := h
  simp only [finalContents, afterL_cons, afterL_nil]
  exact (after_of_writes_sub hostOps0_5 _ hostOps0_5_writes h5).trans <|
    (after_of_writes_sub hostOps0_4 _ hostOps0_4_writes h4).trans <|
    (after_of_writes_sub hostOps0_3 _ hostOps0_3_writes h3).trans <|
    (after_of_writes_sub condOps _ condOps_writes hc).trans (atK_keeps m c r h' 16)

end Cert.RetRIdeal.Value

end
-- ==== Proof.PrjValue.lean ====
/- The value of the input projection call: the columns of the product on both sides of the eighty indexer columns. -/
module

public import proofs.«01_k».proof.Proof.Gen.PrjKIdeal.Value
public import proofs.«01_k».proof.Proof.Gen.PrjRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.PrjRIdeal.Value

open Cert.PrjRIdeal Cert.PrjRIdeal.Gen

/-- The reference's result as one term of its arguments: the product, without the eighty columns from 9216. -/
def REF (a0 : FVec Ideal S8192x2048 .bf16) (a1 : FVec Ideal S2048x17488 .f32) : FVec Ideal S8192x17408 .bf16 :=
  truncf .bf16 (concatenate S8192x17408 1 [⟨S8192x9216, (extractStridedSlice S8192x9216 ![0, 0] (Host.dotGeneral dot_S8192x2048_S2048x17488_S8192x17488_1_0_0_1_n_n none (extf .f32 a0 bitsLt_bf16_f32) a1) slices_S8192x17488_S8192x9216_0_0)⟩, ⟨S8192x8192, (extractStridedSlice S8192x8192 ![0, 9296] (Host.dotGeneral dot_S8192x2048_S2048x17488_S8192x17488_1_0_0_1_n_n none (extf .f32 a0 bitsLt_bf16_f32) a1) slices_S8192x17488_S8192x8192_0_9296)⟩] concatenates_S8192x9216_S8192x8192_S8192x17408_d1) bitsLt_bf16_f32

/-- The reference's result at a row and a column. -/
theorem ref_apply (a0 : FVec Ideal S8192x2048 .bf16) (a1 : FVec Ideal S2048x17488 .f32) (i : Fin 8192) (n : Fin 17408)
    (n' : Fin 17488) (h : n'.val = if n.val < 9216 then n.val else n.val + 80) :
    REF a0 a1 (ix2 i n) = ∑ k : Fin 2048, a0 (ix2 i k) * a1 (ix2 k n') := by
  pointwise [REF]
  split at h
  · rw [dif_pos ‹_›]
    refine Finset.sum_congr rfl fun k _ => congrArg _ ?_
    blk_ext
  · rw [dif_neg ‹_›]
    refine Finset.sum_congr rfl fun k _ => congrArg _ ?_
    blk_ext

end Cert.PrjRIdeal.Value

namespace Cert.PrjKIdeal.Value

open Cert.PrjKIdeal Cert.PrjKIdeal.Gen Cert.PrjRIdeal.Value

variable (m : (ℓ : Loc nD τ sig) → Buf (Elt Ideal) ℓ)

/-- The block index of the rows and of the result at every grid point. -/
theorem idx : ∀ t : Fin cfg0.N, win0_0.index t = ![t.val % 4, 0] ∧ win0_2.index t = ![t.val % 4, t.val / 4] :=
  (by decide +kernel : ∀ t : Fin grid0.N, _)

/-- Block `t` of the result: rows `2048 (t % 4) …`, columns `1024 (t / 4) …`. -/
theorem emb_out (t : Fin cfg0.N) (r : Fin 2048) (l : Fin 1024) (h : t.val % 4 * 2048 + r.val < 8192)
    (h' : t.val / 4 * 1024 + l.val < 17408) :
    ((cfg0.win 2).blk t).view.emb (ix2 r l) = ix2 (⟨t.val % 4 * 2048 + r.val, h⟩ : Fin 8192) (⟨t.val / 4 * 1024 + l.val, h'⟩ : Fin 17408) := by
  blk_ext [iblk, V, idx t]

/-- The block of rows at point `t`. -/
theorem read0 (c : Dev nD) (t : Fin cfg0.N) (r k : Fin 2048) (h : t.val % 4 * 2048 + r.val < 8192) :
    iblk m c 0 t (ix2 r k) = m ((c : Thread nD τ).loc main_arg0) (ix2 (⟨t.val % 4 * 2048 + r.val, h⟩ : Fin 8192) k) := by
  blk_ext [iblk, V, idx t]

/-- Where each grid point's block of weights begins. -/
theorem off : ∀ t : Fin cfg0.N, cc0_transform_1 (grid0.coords t) = ![if t.val / 4 < 9 then t.val / 4 * 1024 else t.val / 4 * 1024 + 80, 0] :=
  (by decide +kernel : ∀ t : Fin grid0.N, _)

/-- The block of weights at point `t`: a thousand and twenty four columns of the weights, the eighty passed over. -/
theorem read1 (c : Dev nD) (t : Fin cfg0.N) (l : Fin 1024) (k : Fin 2048) (n' : Fin 17488)
    (h : n'.val = if t.val / 4 < 9 then t.val / 4 * 1024 + l.val else t.val / 4 * 1024 + l.val + 80) :
    iblk m c 1 t (ix2 l k) = m ((c : Thread nD τ).loc main_arg1) (ix2 k n') := by
  have e : (win0_1.blk t).view.emb (ix2 l k) = ix2 n' k := by
    refine funext fun a => Fin.ext ?_
    refine (Rect.idx_unit_val (cc0_transform_1 (grid0.coords t)) _ _ _ a).trans ?_
    refine (congrArg (· + _) (congrFun (off t) a)).trans ?_
    fin_cases a
    · simp [h]
      split <;> omega
    · simp
  blk_simp [iblk]
  entry_read
  refine (congrArg _ e).trans ?_
  pointwise

/-- What the first store of a product computes. -/
theorem pay5_apply (v3 v4 : FVec Ideal S1024x2048 .bf16) (r l : Fin 1024) :
    k0_pay5 (F := Ideal) v3 v4 (ix2 r l) = ∑ k : Fin 2048, v4 (ix2 r k) * v3 (ix2 l k) := by
  pointwise [k0_pay5]

/-- What the second store of a product computes. -/
theorem pay6_apply (v3 v8 : FVec Ideal S1024x2048 .bf16) (r l : Fin 1024) :
    k0_pay6 (F := Ideal) v3 v8 (ix2 r l) = ∑ k : Fin 2048, v8 (ix2 r k) * v3 (ix2 l k) := by
  pointwise [k0_pay6]

/-- The four stores of a block of weights into the scratch together copy it. -/
theorem tiles (X : FVec Ideal S1024x2048 .f32) (l : Fin 1024) (k : Fin 2048) :
    View.canon (Val := Elt Ideal) (s := S1024x2048) (e := .bf16)
      [⟨Rect.unit ![768, 0] ![256, 2048] inb_S1024x2048_S256x2048_768_0,
          k0_pay4 (F := Ideal) (View.ld (Val := Elt Ideal) (e' := .f32) X (Rect.unit ![768, 0] ![256, 2048] inb_S1024x2048_S256x2048_768_0))⟩,
        ⟨Rect.unit ![512, 0] ![256, 2048] inb_S1024x2048_S256x2048_512_0,
          k0_pay3 (F := Ideal) (View.ld (Val := Elt Ideal) (e' := .f32) X (Rect.unit ![512, 0] ![256, 2048] inb_S1024x2048_S256x2048_512_0))⟩,
        ⟨Rect.unit ![256, 0] ![256, 2048] inb_S1024x2048_S256x2048_256_0,
          k0_pay2 (F := Ideal) (View.ld (Val := Elt Ideal) (e' := .f32) X (Rect.unit ![256, 0] ![256, 2048] inb_S1024x2048_S256x2048_256_0))⟩,
        ⟨Rect.unit ![0, 0] ![256, 2048] inb_S1024x2048_S256x2048_0_0,
          k0_pay1 (F := Ideal) (View.ld (Val := Elt Ideal) (e' := .f32) X (Rect.unit ![0, 0] ![256, 2048] inb_S1024x2048_S256x2048_0_0))⟩]
      (ix2 l k) = X (ix2 l k) := by
  canon_tiles x h
  all_goals (replace h0 : l.val = _ := h0; replace h1 : k.val = _ := h1; pointwise [k0_pay1, k0_pay2, k0_pay3, k0_pay4]; blk_ext)

/-- The two stores of products together are the block of rows times the block of weights. -/
theorem outs (v : FVec Ideal S1024x2048 .bf16) (X : FVec Ideal S2048x2048 .bf16) (r : Fin 2048) (l : Fin 1024) :
    View.canon (Val := Elt Ideal) (s := S2048x1024) (e := .bf16)
      [⟨Rect.unit ![1024, 0] ![1024, 1024] inb_S2048x1024_S1024x1024_1024_0,
          k0_pay6 (F := Ideal) v (View.ld (Val := Elt Ideal) (e' := .bf16) X (Rect.unit ![1024, 0] ![1024, 2048] inb_S2048x2048_S1024x2048_1024_0))⟩,
        ⟨Rect.unit ![0, 0] ![1024, 1024] inb_S2048x1024_S1024x1024_0_0,
          k0_pay5 (F := Ideal) v (View.ld (Val := Elt Ideal) (e' := .bf16) X (Rect.unit ![0, 0] ![1024, 2048] inb_S2048x2048_S1024x2048_0_0))⟩]
      (ix2 r l) = ∑ k : Fin 2048, X (ix2 r k) * v (ix2 l k) := by
  canon_tiles x h
  all_goals (replace h0 : r.val = _ := h0; replace h1 : l.val = _ := h1; pointwise [k0_pay5, k0_pay6]; blk_point)

/-- The scratch holds, from the first point of a column block to its last, that block of weights. -/
theorem scratch (c : Dev nD) (l : Fin 1024) (k : Fin 2048) : ∀ (n : ℕ) (hn : n < cfg0.N) (n' : Fin 17488)
    (_ : n'.val = if n / 4 < 9 then n / 4 * 1024 + l.val else n / 4 * 1024 + l.val + 80),
    (outsAt0 m c n hn).2 (ix2 l k) = m ((c : Thread nD τ).loc main_arg1) (ix2 k n')
  | n, hn, n', h => by
    by_cases h0 : n % 4 = 0
    · rw [outsAt0_A m c ⟨n, hn⟩ h0]; dsimp only; frame_out
      exact (tiles _ l k).trans (read1 m c ⟨n, hn⟩ l k n' h)
    · rw [outsAt0_B m c ⟨n, hn⟩ h0]; dsimp only
      exact scratch c l k (n - 1) _ n' (by rw [show (n - 1) / 4 = n / 4 by omega]; exact h)
termination_by n => n
decreasing_by omega

/-- The result array after the run is the reference's term of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]
  have ht : t.val < 68 := lt_of_lt_of_eq t.isLt N_0
  obtain ⟨r, l, rfl⟩ : ∃ (r : Fin 2048) (l : Fin 1024), y = ix2 r l := ⟨y 0, y 1, eq_ix2 y⟩
  have h : t.val % 4 * 2048 + r.val < 8192 := by omega
  have h' : t.val / 4 * 1024 + l.val < 17408 := by omega
  obtain ⟨n', hn⟩ : ∃ n' : Fin 17488, n'.val = if t.val / 4 < 9 then t.val / 4 * 1024 + l.val else t.val / 4 * 1024 + l.val + 80 :=
    ⟨⟨if t.val / 4 < 9 then t.val / 4 * 1024 + l.val else t.val / 4 * 1024 + l.val + 80, by split <;> omega⟩, rfl⟩
  refine Eq.trans ?_ (congrArg _ (emb_out t r l h h').symm)
  refine Eq.trans ?_ (ref_apply _ _ _ _ n' ?_).symm
  · by_cases h0 : t.val % 4 = 0
    · rw [outsAt0_A m c t h0]; dsimp only; frame_out
      refine (outs _ _ r l).trans (Finset.sum_congr rfl fun k _ => congrArg₂ (· * ·) (read0 m c t r k h) ?_)
      rw [View.readCov_eq_canon']
      have e : (Rect.unit (s := S1024x2048) ![0, 0] ![1024, 2048] inb_S1024x2048_S1024x2048_0_0).toLoadRect.idx (ix2 l k) = ix2 l k := by
        refine funext fun a => Fin.ext ((Rect.idx_unit_val _ _ _ _ a).trans ?_)
        fin_cases a <;> simp
      exact (congrArg _ e).trans ((tiles _ l k).trans (read1 m c t l k n' hn))
    · rw [outsAt0_B m c t h0]; dsimp only; frame_out
      refine (outs _ _ r l).trans (Finset.sum_congr rfl fun k _ => congrArg₂ (· * ·) (read0 m c t r k h) ?_)
      refine (congrFun (Memref.IsWhole.read_unread (Memref.isWhole_whole cc0_scratch0) _) (ix2 l k)).trans ?_
      exact scratch m c l k (t.val - 1) _ n' (by rw [show (t.val - 1) / 4 = t.val / 4 by omega]; exact hn)
  · show n'.val = if t.val / 4 * 1024 + l.val < 9216 then _ else _
    rw [hn]
    by_cases hc : t.val / 4 < 9
    · rw [if_pos hc, if_pos (by omega)]
    · rw [if_neg hc, if_neg (by omega)]

end Cert.PrjKIdeal.Value

end
-- ==== Proof.PreValue.lean ====
/- The value of the first call: the normalised rows, and their product with the eighty indexer columns, padded to a lane tile. -/
module

public import proofs.«01_k».proof.Proof.Gen.PreKIdeal.Value
public import proofs.«01_k».proof.Proof.Gen.PreRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.PreRIdeal.Value

open Cert.PreRIdeal Cert.PreRIdeal.Gen

/-- The reference's normalised rows as one term of its arguments. -/
def REF (a0 : FVec Ideal S4x2048x2048 .f32) (a1 : FVec Ideal S2048 .f32) : FVec Ideal S8192x2048 .bf16 :=
  truncf .bf16 (shapeCast _ (mulf (mulf a0 (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf a0 a0) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 a1))) shapeCasts_S4x2048x2048_S8192x2048) bitsLt_bf16_f32

/-- The reference's indexer columns as one term of its arguments. -/
def REFI (a0 : FVec Ideal S4x2048x2048 .f32) (a1 : FVec Ideal S2048 .f32) (a2 : FVec Ideal S2048x17488 .f32) :
    FVec Ideal S8192x128 .bf16 :=
  truncf .bf16 (pad S8192x128 ![0, 0] ![0, 48] ![0, 0] (Host.dotGeneral dot_S8192x2048_S2048x80_S8192x80_1_0_0_1_n_n none (shapeCast _ (mulf (mulf a0 (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf a0 a0) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 a1))) shapeCasts_S4x2048x2048_S8192x2048) (extractStridedSlice S2048x80 ![0, 9216] a2 slices_S2048x17488_S2048x80_0_9216)) (sitofp .f32 (constantI S_ 32 0#32)) pads_S8192x80_S8192x128_000_0480 h_S_) bitsLt_bf16_f32

end Cert.PreRIdeal.Value

namespace Cert.PreKIdeal.Value

open Cert.PreKIdeal Cert.PreKIdeal.Gen Cert.PreRIdeal.Value

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- Block `t` of the normalised rows sits at rows `1024 t …` of the array. -/
theorem emb_rows (t : Fin cfg0.N) (r : Fin 1024) (l : Fin 2048) (h : t.val * 1024 + r.val < 8192) :
    ((cfg0.win 3).blk t).view.emb (ix2 r l) = ix2 (⟨t.val * 1024 + r.val, h⟩ : Fin 8192) l := by
  blk_ext [iblk, V, idx t]

/-- Block `t` of the indexer columns sits at rows `1024 t …` of the array. -/
theorem emb_idx (t : Fin cfg0.N) (r : Fin 1024) (l : Fin 128) (h : t.val * 1024 + r.val < 8192) :
    ((cfg0.win 4).blk t).view.emb (ix2 r l) = ix2 (⟨t.val * 1024 + r.val, h⟩ : Fin 8192) l := by
  blk_ext [iblk, V, idx t]

/-- The block of `x` at point `t` is rows `1024 t …` of `x` with its two leading axes merged. -/
theorem read0 (c : Dev nD) (t : Fin cfg0.N) (r : Fin 1024) (l : Fin 2048) (h : t.val * 1024 + r.val < 8192) :
    iblk m c 0 t (ix2 r l) = shapeCast S8192x2048 (m ((c : Thread nD τ).loc main_arg0)) shapeCasts_S4x2048x2048_S8192x2048
      (ix2 (⟨t.val * 1024 + r.val, h⟩ : Fin 8192) l) := by
  blk_simp [iblk]
  simp only [V, hostOps0, hostOps0_1, hostOps0_2, List.flatten_cons, List.flatten_nil, List.append_nil, List.cons_append,
    List.nil_append]
  entry_read
  blk_ext [idx t]

/-- The block of the norm's weights is the whole row of weights. -/
theorem read1 (c : Dev nD) (t : Fin cfg0.N) (l : Fin 2048) :
    iblk m c 1 t (ix2 0 l) = m ((c : Thread nD τ).loc main_arg1) (ix1 l) := by
  blk_simp [iblk]
  simp only [V, hostOps0, hostOps0_1, hostOps0_2, List.flatten_cons, List.flatten_nil, List.append_nil, List.cons_append,
    List.nil_append]
  entry_read
  pointwise
  blk_ext [idx t]

/-- The integer zero converted is zero. -/
theorem zero_int : (FloatOps.sitofp FTy.f32 (0#32) : Ideal .f32) = (0 : EReal) := by
  simp [FloatOps.sitofp]

/-- The block of indexer weights is the transposed columns `9216 …`, with zeros below the eighty. -/
theorem read2 (c : Dev nD) (t : Fin cfg0.N) (l : Fin 128) (k : Fin 2048) :
    (iblk m c 2 t (ix2 l k) : EReal) = if h : l.val < 80 then (m ((c : Thread nD τ).loc main_arg2) (ix2 k (⟨9216 + l.val, by omega⟩ : Fin 17488)) : EReal) else (0 : EReal) := by
  blk_simp [iblk]
  simp only [V, hostOps0, hostOps0_1, hostOps0_2, List.flatten_cons, List.flatten_nil, List.append_nil, List.cons_append,
    List.nil_append]
  entry_read
  have e : ((View.whole main_v3).slice (win0_2.rect t)).emb (ix2 l k) = ix2 l k := by
    have e' : ((cfg0.win 2).blk t).view.emb (ix2 l k) = ix2 l k := by blk_ext [idx t]
    exact e'
  rw [e]
  change pad S128x2048 ![0, 0] ![48, 0] ![0, 0] (extractStridedSlice S80x2048 ![9216, 0]
    (transpose S17488x2048 [1, 0] (m ((c : Thread nD τ).loc main_arg2)) transposes_S2048x17488_S17488x2048_1_0)
    slices_S17488x2048_S80x2048_9216_0) (sitofp (F := Ideal) .f32 (constantI S_ 32 0#32)) pads_S80x2048_S128x2048_0480_000 h_S_ (ix2 l k) = _
  pointwise
  rw [zero_int]

/-- The first payload over blocks which are row `R`'s part of the arrays is the reference's normalised row `R`. -/
theorem pure (v0 : FVec Ideal S1024x2048 .f32) (v12 : FVec Ideal S1x2048 .f32)
    (a0 : FVec Ideal S4x2048x2048 .f32) (a1 : FVec Ideal S2048 .f32) (r : Fin 1024) (R : Fin 8192) (l : Fin 2048)
    (h0 : ∀ k : Fin 2048, v0 (ix2 r k) = shapeCast S8192x2048 a0 shapeCasts_S4x2048x2048_S8192x2048 (ix2 R k))
    (h1 : ∀ k : Fin 2048, v12 (ix2 0 k) = a1 (ix1 k)) :
    k0_pay1 (F := Ideal) v0 v12 (ix2 r l) = REF a0 a1 (ix2 R l) := by
  pointwise at h0
  pointwise! [k0_pay1, REF, h0, h1]

/-- The normalised rows after the run are the reference's. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]; frame_out
  have ht : t.val < 8 := lt_of_lt_of_eq t.isLt N_0
  obtain ⟨r, l, rfl⟩ : ∃ (r : Fin 1024) (l : Fin 2048), y = ix2 r l := ⟨y 0, y 1, eq_ix2 y⟩
  have h : t.val * 1024 + r.val < 8192 := by omega
  exact (pure _ _ _ _ r _ l (fun k => read0 m c t r k h) (read1 m c t)).trans (congrArg _ (emb_rows t r l h).symm)

/-- The second payload is the product of the normalised row with the padded indexer columns. -/
theorem pay2_apply (v0 : FVec Ideal S1024x2048 .f32) (v12 : FVec Ideal S1x2048 .f32) (v18 : FVec Ideal S128x2048 .bf16)
    (r : Fin 1024) (l : Fin 128) :
    k0_pay2 (F := Ideal) v0 v12 v18 (ix2 r l) = ∑ k : Fin 2048, k0_pay1 (F := Ideal) v0 v12 (ix2 r k) * v18 (ix2 l k) := by
  pointwise [k0_pay2]

/-- The reference's indexer columns are the normalised row's product with the eighty columns, and zero past them. -/
theorem refi_apply (a0 : FVec Ideal S4x2048x2048 .f32) (a1 : FVec Ideal S2048 .f32) (a2 : FVec Ideal S2048x17488 .f32)
    (R : Fin 8192) (l : Fin 128) :
    REFI a0 a1 a2 (ix2 R l) = if h : l.val < 80 then ∑ k : Fin 2048, REF a0 a1 (ix2 R k) * a2 (ix2 k (⟨9216 + l.val, by omega⟩ : Fin 17488)) else 0 := by
  pointwise [REFI, REF]
  rw [zero_int]

/-- The indexer columns after the run are the reference's. -/
theorem finalI (c : Dev nD) : (dats m 0 c).arrAt 4 (cfgs 0).N
    = REFI (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  have ht : t.val < 8 := lt_of_lt_of_eq t.isLt N_0
  obtain ⟨r, l, rfl⟩ : ∃ (r : Fin 1024) (l : Fin 128), y = ix2 r l := ⟨y 0, y 1, eq_ix2 y⟩
  have h : t.val * 1024 + r.val < 8192 := by omega
  refine Eq.trans ?_ (congrArg _ (emb_idx t r l h).symm)
  refine (pay2_apply _ _ _ r l).trans (Eq.trans ?_ (refi_apply _ _ _ _ l).symm)
  have e : ∀ k : Fin 2048, _ := fun k => pure _ _ (m ((c : Thread nD τ).loc main_arg0)) (m ((c : Thread nD τ).loc main_arg1)) r
    (⟨t.val * 1024 + r.val, h⟩ : Fin 8192) k (fun k => read0 m c t r k h) (read1 m c t)
  by_cases hl : l.val < 80
  · rw [dif_pos hl]
    exact Finset.sum_congr rfl fun k _ => congrArg₂ (· * ·) (e k) ((read2 m c t l k).trans (dif_pos hl))
  · rw [dif_neg hl]
    exact Finset.sum_eq_zero fun k _ => (congrArg₂ (· * ·) (e k) ((read2 m c t l k).trans (dif_neg hl))).trans (mul_zero _)

end Cert.PreKIdeal.Value

end
-- ==== Proof.Scalar.lean ====
/- Facts about single extended reals which the value proofs share: the gate by `tanh` is the logistic function, a
   quotient by a positive real distributes over a sum, and softmax may divide after the weighted sum. -/
module

public import Idealize.ShloMosaic.Lib.Pointwise
public import Idealize.ShloMosaic.Lib.Claim

@[expose] public section

noncomputable section

open Idealize.ShloMosaic
open scoped BigOperators

namespace Cert.Scalar

/-- The pattern of one half denotes one half. -/
theorem half : Ideal.ofBits .f32 0x3F000000#32 = ((1 / 2 : ℝ) : EReal) := by
  simp [Ideal.ofBits, Ideal.ieee, -EReal.coe_mul]; norm_num

/-- The pattern of minus infinity denotes the least extended real. -/
theorem neg_inf : Ideal.ofBits .f32 0xFF800000#32 = (⊥ : EReal) := by
  simp [Ideal.ofBits, Ideal.ieee]

/-- The pattern of infinity denotes the greatest extended real. -/
theorem pos_inf : Ideal.ofBits .f32 0x7F800000#32 = (⊤ : EReal) := by
  simp [Ideal.ofBits, Ideal.ieee]

/-- The gate computed by `tanh` of half the argument is the logistic function, at every extended real. -/
theorem gate (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half]
  induction x with
  | bot =>
    have e1 : Ideal.tanh (⊥ : EReal) = -1 := rfl
    have e2 : Ideal.exp (⊤ : EReal) = ⊤ := rfl
    have e3 : (1 : EReal) + ⊤ = ⊤ := rfl
    rw [EReal.coe_mul_bot_of_pos (by norm_num), EReal.neg_bot, e1, e2, e3, Ideal.div, if_neg (by simp), EReal.inv_top,
      mul_zero]
    rw [show (-1 : EReal) = ((-1 : ℝ) : EReal) by norm_num, ← EReal.coe_mul, ← EReal.coe_add]
    norm_num
  | top =>
    have e1 : Ideal.tanh (⊤ : EReal) = 1 := rfl
    have e2 : Ideal.exp (⊥ : EReal) = 0 := rfl
    rw [EReal.coe_mul_top_of_pos (by norm_num), EReal.neg_top, e1, e2, add_zero, mul_one, Ideal.div, if_neg one_ne_zero,
      ← EReal.coe_add, one_mul, show (1 : EReal) = ((1 : ℝ) : EReal) by norm_num, ← EReal.coe_inv]
    norm_num
  | coe r =>
    rw [← EReal.coe_mul, ← EReal.coe_neg]
    have e1 : Ideal.tanh (((1 / 2 * r : ℝ)) : EReal) = ((Real.tanh (1 / 2 * r) : ℝ) : EReal) := rfl
    have e2 : Ideal.exp (((-r : ℝ)) : EReal) = ((Real.exp (-r) : ℝ) : EReal) := rfl
    have hp : (0 : ℝ) < 1 + Real.exp (-r) := by positivity
    rw [e1, e2, show (1 : EReal) = ((1 : ℝ) : EReal) by norm_num, ← EReal.coe_add, Ideal.div, if_neg (by exact_mod_cast hp.ne'),
      ← EReal.coe_inv, ← EReal.coe_mul, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by
      rw [← Real.exp_add]; ring_nf
    have h2 : Real.exp (1 / 2 * r) * Real.exp (-(1 / 2 * r)) = 1 := by rw [← Real.exp_add]; simp
    have h3 := Real.exp_pos (1 / 2 * r)
    have h4 := Real.exp_pos (-(1 / 2 * r))
    rw [h1]
    generalize Real.exp (1 / 2 * r) = a at *
    generalize Real.exp (-(1 / 2 * r)) = b at *
    have ha : a = b⁻¹ := by field_simp; exact h2
    subst ha
    field_simp
    ring

/-- A quotient by a positive real is a product with its inverse. -/
theorem div_real (x : EReal) {r : ℝ} (h : 0 < r) : Ideal.div x (r : EReal) = x * ((r⁻¹ : ℝ) : EReal) := by
  rw [Ideal.div, if_neg (by exact_mod_cast h.ne'), EReal.coe_inv]

/-- A product with a real which is not negative distributes over a finite sum. -/
theorem sum_mul_real {ι : Type} (s : Finset ι) (f : ι → EReal) {r : ℝ} (h : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast h) (EReal.coe_ne_top r) _ _

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals, starting from minus infinity, is a real. -/
theorem max_real {n : ℕ} (hn : 0 < n) (l : Fin n → ℝ) :
    ∃ M : ℝ, Finset.fold max (⊥ : EReal) (fun j => (l j : EReal)) Finset.univ = (M : EReal) := by
  have h1 : Finset.fold max (⊥ : EReal) (fun j => (l j : EReal)) Finset.univ < ⊤ :=
    (Finset.fold_max_lt _).2 ⟨bot_lt_top, fun j _ => EReal.coe_lt_top _⟩
  have h2 : ((l ⟨0, hn⟩ : ℝ) : EReal) ≤ Finset.fold max (⊥ : EReal) (fun j => (l j : EReal)) Finset.univ :=
    (Finset.le_fold_max _).2 (.inr ⟨⟨0, hn⟩, Finset.mem_univ _, le_rfl⟩)
  have h3 : (⊥ : EReal) < Finset.fold max (⊥ : EReal) (fun j => (l j : EReal)) Finset.univ :=
    lt_of_lt_of_le (EReal.bot_lt_coe _) h2
  exact ⟨_, (EReal.coe_toReal h1.ne h3.ne').symm⟩

/-- Softmax of real logits weighting any values: dividing the weighted sum is weighting by the divided exponentials. -/
theorem softmax {n : ℕ} (hn : 0 < n) (lg v : Fin n → EReal) (hl : ∀ j, ∃ r : ℝ, lg j = (r : EReal)) :
    Ideal.div (∑ j, Ideal.exp (lg j - Finset.fold max (⊥ : EReal) lg Finset.univ) * v j)
        (∑ j, Ideal.exp (lg j - Finset.fold max (⊥ : EReal) lg Finset.univ))
      = ∑ j, v j * Ideal.div (Ideal.exp (lg j - Finset.fold max (⊥ : EReal) lg Finset.univ))
          (∑ j, Ideal.exp (lg j - Finset.fold max (⊥ : EReal) lg Finset.univ)) := by
  choose l hl using hl
  obtain rfl : lg = fun j => (l j : EReal) := funext hl
  obtain ⟨M, hM⟩ := max_real hn l
  have he : ∀ j, Ideal.exp ((l j : EReal) - (M : EReal)) = ((Real.exp (l j - M) : ℝ) : EReal) := fun j => by
    rw [← EReal.coe_sub]; rfl
  simp only [hM, he]
  rw [← coe_sum]
  have hp : 0 < ∑ j, Real.exp (l j - M) :=
    Finset.sum_pos (fun j _ => Real.exp_pos _) ⟨⟨0, hn⟩, Finset.mem_univ _⟩
  rw [div_real _ hp, sum_mul_real _ _ (inv_pos.2 hp).le]
  refine Finset.sum_congr rfl fun j _ => ?_
  rw [div_real _ hp, mul_comm _ (v j), mul_assoc]

/-- An extended real whose magnitude is below infinity is a real. -/
theorem real_of_abs {x : EReal} (h : max x (-x) < ⊤) : ∃ r : ℝ, x = (r : EReal) := by
  have h1 : x ≠ ⊤ := fun e => by simp [e] at h
  have h2 : x ≠ ⊥ := fun e => by simp [e] at h
  exact ⟨_, (EReal.coe_toReal h1 h2).symm⟩

/-- An extended real whose magnitude compares below infinity is a real. -/
theorem real_of_olt {x : EReal} (h : FloatOps.cmpf (F := Ideal) (φ := .f32) .olt (max x (-x)) (Ideal.ofBits .f32 0x7F800000#32) = 1#1) :
    ∃ r : ℝ, x = (r : EReal) := by
  refine real_of_abs ?_
  rw [pos_inf] at h
  by_contra hn
  have e : FloatOps.cmpf (F := Ideal) (φ := .f32) .olt (max x (-x)) (⊤ : EReal) = BitVec.ofBool (decide (max x (-x) < ⊤)) := rfl
  rw [e, decide_eq_false hn] at h
  exact absurd h (by decide)

/-- The reciprocal root of a mean of squares of reals, with a positive offset, is a real. -/
theorem rsqrt_real {r : ℝ} (h : 0 < r) : Ideal.rsqrt (r : EReal) = (((Real.sqrt r)⁻¹ : ℝ) : EReal) := by
  have e : Ideal.rsqrt (r : EReal) = if r < 0 then ⊥ else if r = 0 then ⊤ else (((Real.sqrt r)⁻¹ : ℝ) : EReal) := rfl
  rw [e, if_neg (not_lt.2 h.le), if_neg h.ne']

end Cert.Scalar

end
-- ==== Proof.MrgValue.lean ====
/- The value of the merge call: three gated branch projections added up. -/
module

public import proofs.«01_k».proof.Proof.Gen.MrgKIdeal.Value
public import proofs.«01_k».proof.Proof.Gen.MrgRIdeal.Run
public import proofs.«01_k».proof.Proof.Scalar
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.MrgRIdeal.Value

open Cert.MrgRIdeal Cert.MrgRIdeal.Gen

/-- One branch of the reference: the logistic function of a slice of `z` times the branch's projection by the joined weight halves. -/
def BR (x : FVec Ideal S8192x2048 .f32) (a : FVec Ideal S8192x1024 .bf16) (w : FVec Ideal S2x1024x1024 .bf16) :
    FVec Ideal S8192x2048 .f32 :=
  mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf x)))) (Host.dotGeneral dot_S8192x1024_S1024x2048_S8192x2048_1_0_0_1_n_n none (extf .f32 a bitsLt_bf16_f32) (concatenate S1024x2048 1 [⟨S1024x1024, (shapeCast _ (extractStridedSlice S1x1024x1024 ![0, 0, 0] (extf .f32 w bitsLt_bf16_f32) slices_S2x1024x1024_S1x1024x1024_0_0_0) shapeCasts_S1x1024x1024_S1024x1024)⟩, ⟨S1024x1024, (shapeCast _ (extractStridedSlice S1x1024x1024 ![1, 0, 0] (extf .f32 w bitsLt_bf16_f32) slices_S2x1024x1024_S1x1024x1024_1_0_0) shapeCasts_S1x1024x1024_S1024x1024)⟩] concatenates_S1024x1024_S1024x1024_S1024x2048_d1))

/-- The reference's result: the three branches added up. -/
def REF (a0 a1 a2 : FVec Ideal S8192x1024 .bf16) (a3 a4 a5 : FVec Ideal S2x1024x1024 .bf16)
    (a6 : FVec Ideal S8192x17408 .bf16) : FVec Ideal S8192x2048 .bf16 :=
  truncf .bf16 (addf (addf
    (BR (extractStridedSlice S8192x2048 ![0, 11264] (extf .f32 a6 bitsLt_bf16_f32) slices_S8192x17408_S8192x2048_0_11264) a0 a3)
    (BR (extractStridedSlice S8192x2048 ![0, 13312] (extf .f32 a6 bitsLt_bf16_f32) slices_S8192x17408_S8192x2048_0_13312) a1 a4))
    (BR (extractStridedSlice S8192x2048 ![0, 15360] (extf .f32 a6 bitsLt_bf16_f32) slices_S8192x17408_S8192x2048_0_15360) a2 a5)) bitsLt_bf16_f32

/-- A branch at a row and a column: the gate times the product with half `l / 1024` of the weights. -/
theorem br_apply (x : FVec Ideal S8192x2048 .f32) (a : FVec Ideal S8192x1024 .bf16) (w : FVec Ideal S2x1024x1024 .bf16)
    (i : Fin 8192) (j : Fin 2) (l : Fin 1024) :
    BR x a w (ix2 i (⟨j.val * 1024 + l.val, by omega⟩ : Fin 2048))
      = Ideal.div 1 (1 + Ideal.exp (-x (ix2 i (⟨j.val * 1024 + l.val, by omega⟩ : Fin 2048)))) * ∑ k : Fin 1024, a (ix2 i k) * w (ix3 j k l) := by
  pointwise [BR]
  refine congrArg _ (Finset.sum_congr rfl fun k _ => congrArg _ ?_)
  obtain rfl | rfl : j = 0 ∨ j = 1 := by omega
  · rw [dif_pos (by simp)]
    blk_ext
  · rw [dif_neg (by simp)]
    blk_ext

/-- The reference's result at a row and a column. -/
theorem ref_apply (a0 a1 a2 : FVec Ideal S8192x1024 .bf16) (a3 a4 a5 : FVec Ideal S2x1024x1024 .bf16)
    (a6 : FVec Ideal S8192x17408 .bf16) (i : Fin 8192) (j : Fin 2) (l : Fin 1024) :
    REF a0 a1 a2 a3 a4 a5 a6 (ix2 i (⟨j.val * 1024 + l.val, by omega⟩ : Fin 2048))
      = Ideal.div 1 (1 + Ideal.exp (-a6 (ix2 i (⟨(11 + j.val) * 1024 + l.val, by omega⟩ : Fin 17408)))) * (∑ k : Fin 1024, a0 (ix2 i k) * a3 (ix3 j k l))
        + Ideal.div 1 (1 + Ideal.exp (-a6 (ix2 i (⟨(13 + j.val) * 1024 + l.val, by omega⟩ : Fin 17408)))) * (∑ k : Fin 1024, a1 (ix2 i k) * a4 (ix3 j k l))
        + Ideal.div 1 (1 + Ideal.exp (-a6 (ix2 i (⟨(15 + j.val) * 1024 + l.val, by omega⟩ : Fin 17408)))) * (∑ k : Fin 1024, a2 (ix2 i k) * a5 (ix3 j k l)) := by
  refine Eq.trans (b := _ + _ + _) rfl (congrArg₂ (· + ·) (congrArg₂ (· + ·) ?_ ?_) ?_) <;>
    refine (br_apply _ _ _ i j l).trans (congrArg₂ (· * ·) (congrArg (fun z => Ideal.div 1 (1 + Ideal.exp (-z))) ?_) rfl)
  · pointwise; blk_ext
  · pointwise; blk_ext
  · pointwise; blk_ext

end Cert.MrgRIdeal.Value

namespace Cert.MrgKIdeal.Value

open Cert.MrgKIdeal Cert.MrgKIdeal.Gen Cert.MrgRIdeal.Value

variable (m : (ℓ : Loc nD τ sig) → Buf (Elt Ideal) ℓ)

/-- Every window's block index at every grid point. -/
theorem idx : ∀ t : Fin cfg0.N, win0_0.index t = ![t.val / 2, 0] ∧ win0_1.index t = ![t.val / 2, 0] ∧ win0_2.index t = ![t.val / 2, 0]
    ∧ win0_3.index t = ![0, 0, 0] ∧ win0_4.index t = ![0, 0, 0] ∧ win0_5.index t = ![0, 0, 0]
    ∧ win0_6.index t = ![t.val / 2, 11 + t.val % 2] ∧ win0_7.index t = ![t.val / 2, 13 + t.val % 2]
    ∧ win0_8.index t = ![t.val / 2, 15 + t.val % 2] ∧ win0_9.index t = ![t.val / 2, t.val % 2] :=
  (by decide +kernel : ∀ t : Fin grid0.N, _)

/-- The half of the branch weights which the body reads at each grid point. -/
theorem off : ∀ t : Fin cfg0.N, k0_off1 (grid0.coords t) = ![t.val % 2, 0, 0] :=
  (by decide +kernel : ∀ t : Fin grid0.N, _)

/-- Block `t` of the result: rows `1024 (t / 2) …`, columns `1024 (t % 2) …`. -/
theorem emb_out (t : Fin cfg0.N) (r l : Fin 1024) (h : t.val / 2 * 1024 + r.val < 8192) (h' : t.val % 2 * 1024 + l.val < 2048) :
    ((cfg0.win 9).blk t).view.emb (ix2 r l) = ix2 (⟨t.val / 2 * 1024 + r.val, h⟩ : Fin 8192) (⟨t.val % 2 * 1024 + l.val, h'⟩ : Fin 2048) := by
  blk_ext [iblk, V, idx t]

/-- The block of branch 0 at point `t` is its rows `1024 (t / 2) …`. -/
theorem read0 (c : Dev nD) (t : Fin cfg0.N) (r k : Fin 1024) (h : t.val / 2 * 1024 + r.val < 8192) :
    iblk m c 0 t (ix2 r k) = m ((c : Thread nD τ).loc main_arg0) (ix2 (⟨t.val / 2 * 1024 + r.val, h⟩ : Fin 8192) k) := by
  blk_ext [iblk, V, idx t]

/-- The block of branch 1 at point `t` is its rows `1024 (t / 2) …`. -/
theorem read1 (c : Dev nD) (t : Fin cfg0.N) (r k : Fin 1024) (h : t.val / 2 * 1024 + r.val < 8192) :
    iblk m c 1 t (ix2 r k) = m ((c : Thread nD τ).loc main_arg1) (ix2 (⟨t.val / 2 * 1024 + r.val, h⟩ : Fin 8192) k) := by
  blk_ext [iblk, V, idx t]

/-- The block of branch 2 at point `t` is its rows `1024 (t / 2) …`. -/
theorem read2 (c : Dev nD) (t : Fin cfg0.N) (r k : Fin 1024) (h : t.val / 2 * 1024 + r.val < 8192) :
    iblk m c 2 t (ix2 r k) = m ((c : Thread nD τ).loc main_arg2) (ix2 (⟨t.val / 2 * 1024 + r.val, h⟩ : Fin 8192) k) := by
  blk_ext [iblk, V, idx t]

/-- The block of branch 0's weights is both halves whole. -/
theorem read3 (c : Dev nD) (t : Fin cfg0.N) (j : Fin 2) (k l : Fin 1024) :
    iblk m c 3 t (ix3 j k l) = m ((c : Thread nD τ).loc main_arg3) (ix3 j k l) := by
  blk_ext [iblk, V, idx t]

/-- The body's load of branch 0's weights at point `t` is half `t % 2`. -/
theorem load3 (c : Dev nD) (t : Fin cfg0.N) (k l : Fin 1024) (hin) :
    View.ld (iblk m c 3 t) (Rect.unit (k0_off1 (grid0.coords t)) ![1, 1024, 1024] hin) (ix3 (0 : Fin 1) k l)
      = m ((c : Thread nD τ).loc main_arg3) (ix3 (⟨t.val % 2, by omega⟩ : Fin 2) k l) := by
  refine Eq.trans ?_ (read3 m c t _ k l)
  refine View.ld_unit_apply_of _ _ _ _ _ _ fun a => ?_
  refine Eq.trans ?_ (congrArg (· + _) (congrFun (off t) a)).symm
  fin_cases a <;> simp

/-- The block of branch 1's weights is both halves whole. -/
theorem read4 (c : Dev nD) (t : Fin cfg0.N) (j : Fin 2) (k l : Fin 1024) :
    iblk m c 4 t (ix3 j k l) = m ((c : Thread nD τ).loc main_arg4) (ix3 j k l) := by
  blk_ext [iblk, V, idx t]

/-- The body's load of branch 1's weights at point `t` is half `t % 2`. -/
theorem load4 (c : Dev nD) (t : Fin cfg0.N) (k l : Fin 1024) (hin) :
    View.ld (iblk m c 4 t) (Rect.unit (k0_off1 (grid0.coords t)) ![1, 1024, 1024] hin) (ix3 (0 : Fin 1) k l)
      = m ((c : Thread nD τ).loc main_arg4) (ix3 (⟨t.val % 2, by omega⟩ : Fin 2) k l) := by
  refine Eq.trans ?_ (read4 m c t _ k l)
  refine View.ld_unit_apply_of _ _ _ _ _ _ fun a => ?_
  refine Eq.trans ?_ (congrArg (· + _) (congrFun (off t) a)).symm
  fin_cases a <;> simp

/-- The block of branch 2's weights is both halves whole. -/
theorem read5 (c : Dev nD) (t : Fin cfg0.N) (j : Fin 2) (k l : Fin 1024) :
    iblk m c 5 t (ix3 j k l) = m ((c : Thread nD τ).loc main_arg5) (ix3 j k l) := by
  blk_ext [iblk, V, idx t]

/-- The body's load of branch 2's weights at point `t` is half `t % 2`. -/
theorem load5 (c : Dev nD) (t : Fin cfg0.N) (k l : Fin 1024) (hin) :
    View.ld (iblk m c 5 t) (Rect.unit (k0_off1 (grid0.coords t)) ![1, 1024, 1024] hin) (ix3 (0 : Fin 1) k l)
      = m ((c : Thread nD τ).loc main_arg5) (ix3 (⟨t.val % 2, by omega⟩ : Fin 2) k l) := by
  refine Eq.trans ?_ (read5 m c t _ k l)
  refine View.ld_unit_apply_of _ _ _ _ _ _ fun a => ?_
  refine Eq.trans ?_ (congrArg (· + _) (congrFun (off t) a)).symm
  fin_cases a <;> simp

/-- The block of branch 0's gate at point `t`. -/
theorem read6 (c : Dev nD) (t : Fin cfg0.N) (r l : Fin 1024) (h : t.val / 2 * 1024 + r.val < 8192)
    (h' : (11 + t.val % 2) * 1024 + l.val < 17408) :
    iblk m c 6 t (ix2 r l) = m ((c : Thread nD τ).loc main_arg6) (ix2 (⟨t.val / 2 * 1024 + r.val, h⟩ : Fin 8192)
      (⟨(11 + t.val % 2) * 1024 + l.val, h'⟩ : Fin 17408)) := by
  blk_ext [iblk, V, idx t]

/-- The block of branch 1's gate at point `t`. -/
theorem read7 (c : Dev nD) (t : Fin cfg0.N) (r l : Fin 1024) (h : t.val / 2 * 1024 + r.val < 8192)
    (h' : (13 + t.val % 2) * 1024 + l.val < 17408) :
    iblk m c 7 t (ix2 r l) = m ((c : Thread nD τ).loc main_arg6) (ix2 (⟨t.val / 2 * 1024 + r.val, h⟩ : Fin 8192)
      (⟨(13 + t.val % 2) * 1024 + l.val, h'⟩ : Fin 17408)) := by
  blk_ext [iblk, V, idx t]

/-- The block of branch 2's gate at point `t`. -/
theorem read8 (c : Dev nD) (t : Fin cfg0.N) (r l : Fin 1024) (h : t.val / 2 * 1024 + r.val < 8192)
    (h' : (15 + t.val % 2) * 1024 + l.val < 17408) :
    iblk m c 8 t (ix2 r l) = m ((c : Thread nD τ).loc main_arg6) (ix2 (⟨t.val / 2 * 1024 + r.val, h⟩ : Fin 8192)
      (⟨(15 + t.val % 2) * 1024 + l.val, h'⟩ : Fin 17408)) := by
  blk_ext [iblk, V, idx t]

/-- The stored payload at a row and a column: three gates, each times its branch's product. -/
theorem pay_apply (v0 v5 v15 v20 v31 v36 : FVec Ideal S1024x1024 .bf16) (v2 v17 v33 : FVec Ideal S1x1024x1024 .bf16) (r l : Fin 1024) :
    k0_pay1 (F := Ideal) (k0_pay2 (F := Ideal) v0 v2 v5 v15 v17 v20) v31 v33 v36 (ix2 r l)
      = Ideal.div 1 (1 + Ideal.exp (-v5 (ix2 r l))) * (∑ k : Fin 1024, v0 (ix2 r k) * v2 (ix3 0 k l))
        + Ideal.div 1 (1 + Ideal.exp (-v20 (ix2 r l))) * (∑ k : Fin 1024, v15 (ix2 r k) * v17 (ix3 0 k l))
        + Ideal.div 1 (1 + Ideal.exp (-v36 (ix2 r l))) * (∑ k : Fin 1024, v31 (ix2 r k) * v33 (ix3 0 k l)) := by
  pointwise [k0_pay1, k0_pay2]
  simp only [Cert.Scalar.gate]

/-- The result array after the run is the reference's term of the arguments. -/
theorem final (c : Dev nD) : (dats m 0 c).arrAt 9 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 9 _ (by decide +kernel) fun t _ y => ?_
  blk_simp
  rw [after0_9]; unfold outsAt0; frame_out
  have ht : t.val < 16 := lt_of_lt_of_eq t.isLt N_0
  obtain ⟨r, l, rfl⟩ : ∃ (r l : Fin 1024), y = ix2 r l := ⟨y 0, y 1, eq_ix2 y⟩
  have h : t.val / 2 * 1024 + r.val < 8192 := by omega
  have h' : t.val % 2 * 1024 + l.val < 2048 := by omega
  refine Eq.trans ?_ (congrArg _ (emb_out t r l h h').symm)
  refine (pay_apply _ _ _ _ _ _ _ _ _ r l).trans ?_
  refine Eq.trans ?_ (ref_apply _ _ _ _ _ _ _ _ (⟨t.val % 2, by omega⟩ : Fin 2) l).symm
  have e0 := fun k => read0 m c t r k h
  have e1 := fun k => read1 m c t r k h
  have e2 := fun k => read2 m c t r k h
  have e6 := read6 m c t r l h (by omega)
  have e7 := read7 m c t r l h (by omega)
  have e8 := read8 m c t r l h (by omega)
  refine congrArg₂ (· + ·) (congrArg₂ (· + ·) ?_ ?_) ?_
  · exact congrArg₂ (· * ·) (congrArg (fun z => Ideal.div 1 (1 + Ideal.exp (-z))) e6)
      (Finset.sum_congr rfl fun k _ => congrArg₂ (· * ·) (e0 k) (load3 m c t k l _))
  · exact congrArg₂ (· * ·) (congrArg (fun z => Ideal.div 1 (1 + Ideal.exp (-z))) e7)
      (Finset.sum_congr rfl fun k _ => congrArg₂ (· * ·) (e1 k) (load4 m c t k l _))
  · exact congrArg₂ (· * ·) (congrArg (fun z => Ideal.div 1 (1 + Ideal.exp (-z))) e8)
      (Finset.sum_congr rfl fun k _ => congrArg₂ (· * ·) (e2 k) (load5 m c t k l _))

end Cert.MrgKIdeal.Value

end
-- ==== Proof.OutValue.lean ====
/- The value of the output projection call: its result array is the reference's term, block of rows by block of rows. -/
module

public import proofs.«01_k».proof.Proof.Gen.OutKIdeal.Value
public import proofs.«01_k».proof.Proof.Gen.OutRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.OutRIdeal.Value

open Cert.OutRIdeal Cert.OutRIdeal.Gen

/-- The reference's result as one term of its four arguments: the projection, normalised along the row, scaled and added to `x`. -/
def REF (a0 : FVec Ideal S8192x2048 .bf16) (a1 : FVec Ideal S2048x2048 .bf16) (a2 : FVec Ideal S4x2048x2048 .f32)
    (a3 : FVec Ideal S2048 .f32) : FVec Ideal S8192x2048 .f32 :=
  addf (shapeCast _ a2 shapeCasts_S4x2048x2048_S8192x2048) (mulf (mulf (Host.dotGeneral dot_S8192x2048_S2048x2048_S8192x2048_1_0_0_1_n_n none (extf .f32 a0 bitsLt_bf16_f32) (extf .f32 a1 bitsLt_bf16_f32)) (broadcastInDim S8192x2048 ![0, 1] bcast_S8192x1_S8192x2048_0_1 (Host.rsqrt (addf (Host.divf (broadcastInDim S8192x1 ![0] bcast_S8192_S8192x1_0 (Host.reduceAdd (mulf (Host.dotGeneral dot_S8192x2048_S2048x2048_S8192x2048_1_0_0_1_n_n none (extf .f32 a0 bitsLt_bf16_f32) (extf .f32 a1 bitsLt_bf16_f32)) (Host.dotGeneral dot_S8192x2048_S2048x2048_S8192x2048_1_0_0_1_n_n none (extf .f32 a0 bitsLt_bf16_f32) (extf .f32 a1 bitsLt_bf16_f32))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a3)))

end Cert.OutRIdeal.Value

namespace Cert.OutKIdeal.Value

open Cert.OutKIdeal Cert.OutKIdeal.Gen Cert.OutRIdeal.Value

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] :=
  (by decide +kernel : ∀ t : Fin grid0.N, _)

/-- Block `t` of the result sits at rows `512 t …` of the array. -/
theorem emb_out (t : Fin cfg0.N) (r : Fin 512) (l : Fin 2048) (h : t.val * 512 + r.val < 8192) :
    ((cfg0.win 4).blk t).view.emb (ix2 r l) = ix2 (⟨t.val * 512 + r.val, h⟩ : Fin 8192) l := by
  blk_ext [iblk, V, idx t]

/-- The block of merged branches at point `t` is rows `512 t …` of its array. -/
theorem read0 (c : Dev nD) (t : Fin cfg0.N) (r : Fin 512) (l : Fin 2048) (h : t.val * 512 + r.val < 8192) :
    iblk m c 0 t (ix2 r l) = m ((c : Thread nD τ).loc main_arg0) (ix2 (⟨t.val * 512 + r.val, h⟩ : Fin 8192) l) := by
  blk_ext [iblk, V, idx t]

/-- The block of output weights is the whole weight array. -/
theorem read1 (c : Dev nD) (t : Fin cfg0.N) (k l : Fin 2048) :
    iblk m c 1 t (ix2 k l) = m ((c : Thread nD τ).loc main_arg1) (ix2 k l) := by
  blk_ext [iblk, V, idx t]

/-- The block of the residual at point `t` is rows `512 t …` of `x` with its two leading axes merged. -/
theorem read2 (c : Dev nD) (t : Fin cfg0.N) (r : Fin 512) (l : Fin 2048) (h : t.val * 512 + r.val < 8192) :
    iblk m c 2 t (ix2 r l) = shapeCast S8192x2048 (m ((c : Thread nD τ).loc main_arg2)) shapeCasts_S4x2048x2048_S8192x2048
      (ix2 (⟨t.val * 512 + r.val, h⟩ : Fin 8192) l) := by
  blk_simp [iblk]
  entry_read
  blk_ext [idx t]

/-- The block of the norm's weights is the whole row of weights. -/
theorem read3 (c : Dev nD) (t : Fin cfg0.N) (l : Fin 2048) :
    iblk m c 3 t (ix2 0 l) = m ((c : Thread nD τ).loc main_arg3) (ix1 l) := by
  blk_simp [iblk]
  entry_read
  pointwise
  blk_ext [idx t]

/-- The payload over blocks which are row `R`'s part of the arrays is the reference's term at row `R`. -/
theorem pure (v0 : FVec Ideal S512x2048 .bf16) (v1 : FVec Ideal S2048x2048 .bf16) (v8 : FVec Ideal S512x2048 .f32)
    (v15 : FVec Ideal S1x2048 .f32) (a0 : FVec Ideal S8192x2048 .bf16) (a1 : FVec Ideal S2048x2048 .bf16)
    (a2 : FVec Ideal S4x2048x2048 .f32) (a3 : FVec Ideal S2048 .f32) (r : Fin 512) (R : Fin 8192) (l : Fin 2048)
    (h0 : ∀ k : Fin 2048, v0 (ix2 r k) = a0 (ix2 R k)) (h1 : ∀ k l : Fin 2048, v1 (ix2 k l) = a1 (ix2 k l))
    (h2 : v8 (ix2 r l) = shapeCast S8192x2048 a2 shapeCasts_S4x2048x2048_S8192x2048 (ix2 R l))
    (h3 : ∀ k : Fin 2048, v15 (ix2 0 k) = a3 (ix1 k)) :
    k0_pay1 (F := Ideal) v0 v1 v8 v15 (ix2 r l) = REF a0 a1 a2 a3 (ix2 R l) := by
  pointwise at h2
  pointwise! [k0_pay1, REF, h0, h1, h2, h3]

/-- What the body stores at row `r` of point `t` is the reference's term at row `512 t + r`. -/
theorem point (c : Dev nD) (t : Fin cfg0.N) (r : Fin 512) (l : Fin 2048) (h : t.val * 512 + r.val < 8192) :
    k0_pay1 (iblk m c 0 t) (iblk m c 1 t) (iblk m c 2 t) (iblk m c 3 t) (ix2 r l)
    = REF (m ((c : Thread nD τ).loc main_arg0)) (m ((c : Thread nD τ).loc main_arg1)) (m ((c : Thread nD τ).loc main_arg2))
        (m ((c : Thread nD τ).loc main_arg3)) (ix2 (⟨t.val * 512 + r.val, h⟩ : Fin 8192) l) :=
  pure _ _ _ _ _ _ _ _ r _ l (fun k => read0 m c t r k h) (read1 m c t) (read2 m c t r l h) (read3 m c t)

/-- The result array after the run is the reference's term of the arguments. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  have ht : t.val < 16 := lt_of_lt_of_eq t.isLt N_0
  obtain ⟨r, l, rfl⟩ : ∃ (r : Fin 512) (l : Fin 2048), y = ix2 r l := ⟨y 0, y 1, eq_ix2 y⟩
  have h : t.val * 512 + r.val < 8192 := by omega
  exact (point m c t r l h).trans (congrArg _ (emb_out t r l h).symm)

end Cert.OutKIdeal.Value

end
-- ==== Proof.MemRef.lean ====
/- The reference value of the memory attention: keys and values of the normed memory, softmax of the scaled logits, and the logistic gate. -/
module

public import proofs.«01_k».proof.Proof.Gen.MemRIdeal.Run
public import proofs.«01_k».proof.Proof.Scalar
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.MemRIdeal.Value

open Cert.MemRIdeal Cert.MemRIdeal.Gen

/-- The memory after its norm. -/
def NRM (a1 : FVec Ideal S4x256x2048 .f32) (a2 : FVec Ideal S2048 .f32) : FVec Ideal S4x256x2048 .f32 :=
  mulf (mulf a1 (broadcastInDim S4x256x2048 ![0, 1, 2] bcast_S4x256x1_S4x256x2048_0_1_2 (Host.rsqrt (addf (Host.divf (broadcastInDim S4x256x1 ![0, 1] bcast_S4x256_S4x256x1_0_1 (Host.reduceAdd (mulf a1 a1) (constant S_ .f32 0x00000000#32) reducesTo_S4x256x2048_S4x256_d2 h_S_)) (broadcastInDim S4x256x1 ![] bcast_S_S4x256x1 (constant S_ .f32 0x45000000#32))) (broadcastInDim S4x256x1 ![] bcast_S_S4x256x1 (constant S_ .f32 0x358637BD#32)))))) (broadcastInDim S4x256x2048 ![0, 1, 2] bcast_S1x1x2048_S4x256x2048_0_1_2 (broadcastInDim S1x1x2048 ![2] bcast_S2048_S1x1x2048_2 a2))

/-- The keys, then the values, of the memory. -/
def KVR (n : FVec Ideal S4x256x2048 .f32) (a3 : FVec Ideal S2048x2048 .f32) : FVec Ideal S4x256x2048 .f32 :=
  Host.dotGeneral dot_S4x256x2048_S2048x2048_S4x256x2048_2_0_01_1_n_n none n a3

/-- The scaled logits. -/
def LGR (a0 : FVec Ideal S8192x17408 .bf16) (kv : FVec Ideal S4x256x2048 .f32) : FVec Ideal S4x4x2048x256 .f32 :=
  mulf (Host.dotGeneral dot_S4x2048x4x256_S4x256x4x256_S4x4x2048x256_3_3_1_1_02_02 none (shapeCast _ (extractStridedSlice S4x2048x1024 ![0, 0, 9216] (shapeCast _ (extf .f32 a0 bitsLt_bf16_f32) shapeCasts_S8192x17408_S4x2048x17408) slices_S4x2048x17408_S4x2048x1024_0_0_9216) shapeCasts_S4x2048x1024_S4x2048x4x256) (shapeCast _ (extractStridedSlice S4x256x1024 ![0, 0, 0] kv slices_S4x256x2048_S4x256x1024_0_0_0) shapeCasts_S4x256x1024_S4x256x4x256)) (broadcastInDim S4x4x2048x256 ![] bcast_S_S4x4x2048x256 (constant S_ .f32 0x3D800000#32))

/-- The greatest logit of each query. -/
def MXR (x : FVec Ideal S4x4x2048x256 .f32) : FVec Ideal S4x4x2048 .f32 :=
  Host.reduce FloatOps.maximumf x (constant S_ .f32 0xFF800000#32) reducesTo_S4x4x2048x256_S4x4x2048_d3 h_S_

/-- The exponentials of the logits less the greatest. -/
def EXR (x : FVec Ideal S4x4x2048x256 .f32) (y : FVec Ideal S4x4x2048 .f32) : FVec Ideal S4x4x2048x256 .f32 :=
  Host.exp (subf x (broadcastInDim S4x4x2048x256 ![0, 1, 2, 3] bcast_S4x4x2048x1_S4x4x2048x256_0_1_2_3 (broadcastInDim S4x4x2048x1 ![0, 1, 2] bcast_S4x4x2048_S4x4x2048x1_0_1_2 (maximumf (broadcastInDim S4x4x2048 ![] bcast_S_S4x4x2048 (constant S_ .f32 0xFF800000#32)) y))))

/-- The values weighted by the exponentials over their sum. -/
def ATR (kv : FVec Ideal S4x256x2048 .f32) (x : FVec Ideal S4x4x2048x256 .f32) : FVec Ideal S4x4x256x2048 .f32 :=
  Host.dotGeneral dot_S4x256x4x256_S4x4x2048x256_S4x4x256x2048_1_3_3_2_02_01 none (shapeCast _ (extractStridedSlice S4x256x1024 ![0, 0, 1024] kv slices_S4x256x2048_S4x256x1024_0_0_1024) shapeCasts_S4x256x1024_S4x256x4x256) (Host.divf x (broadcastInDim S4x4x2048x256 ![0, 1, 2, 3] bcast_S4x4x2048x1_S4x4x2048x256_0_1_2_3 (broadcastInDim S4x4x2048x1 ![0, 1, 2] bcast_S4x4x2048_S4x4x2048x1_0_1_2 (Host.reduceAdd x (constant S_ .f32 0x00000000#32) reducesTo_S4x4x2048x256_S4x4x2048_d3 h_S_))))

/-- The attended values times the gate, as rows. -/
def GTR (a0 : FVec Ideal S8192x17408 .bf16) (x : FVec Ideal S4x4x256x2048 .f32) : FVec Ideal S8192x1024 .bf16 :=
  truncf .bf16 (shapeCast _ (mulf (mulf (extractStridedSlice S4x2048x1024 ![0, 0, 10240] (shapeCast _ (extf .f32 a0 bitsLt_bf16_f32) shapeCasts_S8192x17408_S4x2048x17408) slices_S4x2048x17408_S4x2048x1024_0_0_10240) (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (extractStridedSlice S4x2048x1024 ![0, 0, 10240] (shapeCast _ (extf .f32 a0 bitsLt_bf16_f32) shapeCasts_S8192x17408_S4x2048x17408) slices_S4x2048x17408_S4x2048x1024_0_0_10240)))))) (shapeCast _ (transpose S4x2048x4x256 [0, 3, 1, 2] x transposes_S4x4x256x2048_S4x2048x4x256_0_3_1_2) shapeCasts_S4x2048x4x256_S4x2048x1024)) shapeCasts_S4x2048x1024_S8192x1024) bitsLt_bf16_f32

/-- The reference's result as one term of its arguments. -/
def REF (a0 : FVec Ideal S8192x17408 .bf16) (a1 : FVec Ideal S4x256x2048 .f32) (a2 : FVec Ideal S2048 .f32)
    (a3 : FVec Ideal S2048x2048 .f32) : FVec Ideal S8192x1024 .bf16 :=
  GTR a0 (ATR (KVR (NRM a1 a2) a3) (EXR (LGR a0 (KVR (NRM a1 a2) a3)) (MXR (LGR a0 (KVR (NRM a1 a2) a3)))))

/-- The run's result is `REF` of the arguments. -/
theorem res_eq (m : (ℓ : Loc nD τ sig) → Buf (Elt Ideal) ℓ) (c : Dev nD) :
    res_main_v43 m c = REF (m ((c.tc : Thread nD τ).loc main_arg0)) (m ((c.tc : Thread nD τ).loc main_arg1))
      (m ((c.tc : Thread nD τ).loc main_arg2)) (m ((c.tc : Thread nD τ).loc main_arg3)) := rfl

/-- The norm of one row of a memory: each entry times the reciprocal root mean square times its weight. -/
def nrm (x w : Fin 2048 → EReal) (d : Fin 2048) : EReal :=
  x d * Ideal.rsqrt (Ideal.div (∑ k : Fin 2048, x k * x k) (Ideal.ofBits .f32 0x45000000#32) + Ideal.ofBits .f32 0x358637BD#32) * w d

/-- The scaled logits of a query against the keys. -/
def lg (q : Fin 256 → EReal) (k : Fin 256 → Fin 256 → EReal) (j : Fin 256) : EReal :=
  (∑ d : Fin 256, q d * k j d) * Ideal.ofBits .f32 0x3D800000#32

/-- The exponential of a logit less the greatest. -/
def ex (l : Fin 256 → EReal) (j : Fin 256) : EReal :=
  Ideal.exp (l j - Finset.fold max (⊥ : EReal) l Finset.univ)

/-- An entry of the normed memory. -/
theorem nrm_apply (a1 : FVec Ideal S4x256x2048 .f32) (a2 : FVec Ideal S2048 .f32) (b : Fin 4) (x : Fin 256) (d : Fin 2048) :
    NRM a1 a2 (ix3 b x d) = nrm (fun k => a1 (ix3 b x k)) (fun k => a2 (ix1 k)) d := by
  pointwise [NRM, nrm]

/-- An entry of the keys and values. -/
theorem kv_apply (n : FVec Ideal S4x256x2048 .f32) (a3 : FVec Ideal S2048x2048 .f32) (b : Fin 4) (x : Fin 256) (l : Fin 2048) :
    KVR n a3 (ix3 b x l) = ∑ d : Fin 2048, n (ix3 b x d) * a3 (ix2 d l) := by
  pointwise [KVR]

/-- A logit. -/
theorem lg_apply (a0 : FVec Ideal S8192x17408 .bf16) (kv : FVec Ideal S4x256x2048 .f32) (b h : Fin 4) (i : Fin 2048) (j : Fin 256) :
    LGR a0 kv (ix4 b h i j)
      = lg (fun d => a0 (ix2 (⟨b.val * 2048 + i.val, by omega⟩ : Fin 8192) (⟨9216 + (h.val * 256 + d.val), by omega⟩ : Fin 17408)))
          (fun j d => kv (ix3 b j (⟨h.val * 256 + d.val, by omega⟩ : Fin 2048))) j := by
  pointwise [LGR, lg]

/-- The greatest logit of one query. -/
theorem mx_apply (x : FVec Ideal S4x4x2048x256 .f32) (b h : Fin 4) (i : Fin 2048) :
    MXR x (ix3 b h i) = Finset.fold max (⊥ : EReal) (fun j => x (ix4 b h i j)) Finset.univ := by
  pointwise [MXR]
  rw [Cert.Scalar.neg_inf]

/-- An exponential. -/
theorem ex_apply (x : FVec Ideal S4x4x2048x256 .f32) (y : FVec Ideal S4x4x2048 .f32) (b h : Fin 4) (i : Fin 2048) (j : Fin 256) :
    EXR x y (ix4 b h i j) = Ideal.exp (x (ix4 b h i j) - y (ix3 b h i)) := by
  pointwise [EXR]
  rw [Cert.Scalar.neg_inf, max_eq_right bot_le]

/-- An attended value. -/
theorem att_apply (kv : FVec Ideal S4x256x2048 .f32) (x : FVec Ideal S4x4x2048x256 .f32) (b h : Fin 4) (e : Fin 256) (i : Fin 2048) :
    ATR kv x (ix4 b h e i)
      = ∑ j : Fin 256, kv (ix3 b j (⟨1024 + (h.val * 256 + e.val), by omega⟩ : Fin 2048))
          * Ideal.div (x (ix4 b h i j)) (∑ j : Fin 256, x (ix4 b h i j)) := by
  pointwise [ATR]

/-- A gated value. -/
theorem gt_apply (a0 : FVec Ideal S8192x17408 .bf16) (x : FVec Ideal S4x4x256x2048 .f32) (b h : Fin 4) (i : Fin 2048) (e : Fin 256) :
    GTR a0 x (ix2 (⟨b.val * 2048 + i.val, by omega⟩ : Fin 8192) (⟨h.val * 256 + e.val, by omega⟩ : Fin 1024))
      = a0 (ix2 (⟨b.val * 2048 + i.val, by omega⟩ : Fin 8192) (⟨10240 + (h.val * 256 + e.val), by omega⟩ : Fin 17408))
        * Ideal.div 1 (1 + Ideal.exp (-a0 (ix2 (⟨b.val * 2048 + i.val, by omega⟩ : Fin 8192) (⟨10240 + (h.val * 256 + e.val), by omega⟩ : Fin 17408))))
        * x (ix4 b h e i) := by
  pointwise [GTR]

/-- The reference's result at one row and one column of one head. -/
theorem ref_apply (a0 : FVec Ideal S8192x17408 .bf16) (a1 : FVec Ideal S4x256x2048 .f32) (a2 : FVec Ideal S2048 .f32)
    (a3 : FVec Ideal S2048x2048 .f32) (b h : Fin 4) (i : Fin 2048) (e : Fin 256) (K : Fin 256 → Fin 2048 → EReal)
    (hK : ∀ x l, K x l = ∑ d : Fin 2048, nrm (fun k => a1 (ix3 b x k)) (fun k => a2 (ix1 k)) d * a3 (ix2 d l))
    (L : Fin 256 → EReal)
    (hL : L = lg (fun d => a0 (ix2 (⟨b.val * 2048 + i.val, by omega⟩ : Fin 8192) (⟨9216 + (h.val * 256 + d.val), by omega⟩ : Fin 17408)))
        (fun j d => K j ⟨h.val * 256 + d.val, by omega⟩)) :
    REF a0 a1 a2 a3 (ix2 (⟨b.val * 2048 + i.val, by omega⟩ : Fin 8192) (⟨h.val * 256 + e.val, by omega⟩ : Fin 1024))
      = a0 (ix2 (⟨b.val * 2048 + i.val, by omega⟩ : Fin 8192) (⟨10240 + (h.val * 256 + e.val), by omega⟩ : Fin 17408))
        * Ideal.div 1 (1 + Ideal.exp (-a0 (ix2 (⟨b.val * 2048 + i.val, by omega⟩ : Fin 8192) (⟨10240 + (h.val * 256 + e.val), by omega⟩ : Fin 17408))))
        * ∑ j : Fin 256, K j ⟨1024 + (h.val * 256 + e.val), by omega⟩ * Ideal.div (ex L j) (∑ j : Fin 256, ex L j) := by
  have hk : ∀ x l, KVR (NRM a1 a2) a3 (ix3 b x l) = K x l := fun x l => by
    rw [kv_apply, hK]
    exact Finset.sum_congr rfl fun d _ => congrArg (· * _) (nrm_apply a1 a2 b x d)
  have hl : ∀ j, LGR a0 (KVR (NRM a1 a2) a3) (ix4 b h i j) = L j := fun j => by
    rw [lg_apply, hL]
    simp only [hk]
  have he : ∀ j, EXR (LGR a0 (KVR (NRM a1 a2) a3)) (MXR (LGR a0 (KVR (NRM a1 a2) a3))) (ix4 b h i j) = ex L j := fun j => by
    rw [ex_apply, mx_apply]
    simp only [hl, ex]
  rw [REF, gt_apply, att_apply]
  simp only [hk, he]

end Cert.MemRIdeal.Value

end
-- ==== Proof.MemPay.lean ====
/- The value of the memory attention call: the payloads of its stores. -/
module

public import proofs.«01_k».proof.Proof.Gen.MemKIdeal.Value
public import proofs.«01_k».proof.Proof.Gen.MemRIdeal.Run
public import proofs.«01_k».proof.Proof.MemRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.MemKIdeal.Value

open Cert.MemKIdeal Cert.MemKIdeal.Gen Cert.MemRIdeal.Value

/-- A logit less the greatest of its row. -/
theorem pay16_apply (q : FVec Ideal S1024x256 .bf16) (k : FVec Ideal S256x256 .bf16) (r : Fin 1024) (j : Fin 256) :
    k0_pay16 (F := Ideal) q k (ix2 r j)
      = lg (fun d => q (ix2 r d)) (fun j d => k (ix2 j d)) j
        - Finset.fold max (⊥ : EReal) (lg (fun d => q (ix2 r d)) (fun j d => k (ix2 j d))) Finset.univ := by
  pointwise [k0_pay16]
  simp only [Cert.Scalar.neg_inf, max_eq_right bot_le, max_eq_left bot_le]
  rfl

/-- The gated weighted mean of the values. -/
theorem pay1_apply (x : FVec Ideal S1024x256 .f32) (v : FVec Ideal S256x256 .bf16) (g : FVec Ideal S1024x256 .bf16) (r : Fin 1024) (e : Fin 256) :
    k0_pay1 (F := Ideal) x v g (ix2 r e)
      = g (ix2 r e) * (Ideal.ofBits .f32 0x3F000000#32 * Ideal.tanh (Ideal.ofBits .f32 0x3F000000#32 * g (ix2 r e)) + Ideal.ofBits .f32 0x3F000000#32)
        * Ideal.div (∑ j : Fin 256, Ideal.exp (x (ix2 r j)) * v (ix2 j e)) (∑ j : Fin 256, Ideal.exp (x (ix2 r j))) := by
  pointwise [k0_pay1]

/-- The first head's store computes what the last one's does. -/
theorem pay13_eq (q g : FVec Ideal S1024x256 .bf16) (k v : FVec Ideal S256x256 .bf16) :
    k0_pay13 (F := Ideal) (k0_pay11 q k v) (k0_pay12 g) = k0_pay1 (k0_pay16 q k) v g := rfl

/-- The second head's store computes what the last one's does. -/
theorem pay14_eq (q g : FVec Ideal S1024x256 .bf16) (k v : FVec Ideal S256x256 .bf16) :
    k0_pay14 (F := Ideal) q k v g = k0_pay1 (k0_pay16 q k) v g := rfl

/-- The third head's store computes what the last one's does. -/
theorem pay15_eq (q g : FVec Ideal S1024x256 .bf16) (k v : FVec Ideal S256x256 .bf16) :
    k0_pay15 (F := Ideal) q k v g = k0_pay1 (k0_pay16 q k) v g := rfl

/-- What a head's store computes where its logits are real: the gated attention. -/
theorem head (q g : FVec Ideal S1024x256 .bf16) (k v : FVec Ideal S256x256 .bf16) (r : Fin 1024) (e : Fin 256) (L : Fin 256 → EReal)
    (hL : L = lg (fun d => q (ix2 r d)) (fun j d => k (ix2 j d))) (h : ∀ j, ∃ x : ℝ, L j = (x : EReal)) :
    k0_pay1 (F := Ideal) (k0_pay16 q k) v g (ix2 r e)
      = g (ix2 r e) * Ideal.div 1 (1 + Ideal.exp (-g (ix2 r e)))
        * ∑ j : Fin 256, v (ix2 j e) * Ideal.div (ex L j) (∑ j : Fin 256, ex L j) := by
  rw [pay1_apply, Cert.Scalar.gate]
  simp only [pay16_apply, ← hL]
  exact congrArg _ (Cert.Scalar.softmax (by norm_num) L (fun j => v (ix2 j e)) h)

/-- The keys and values of a memory block. -/
theorem pay10_apply (x : FVec Ideal S256x2048 .f32) (w : FVec Ideal S1x2048 .f32) (W : FVec Ideal S2048x2048 .bf16) (i : Fin 256) (l : Fin 2048) :
    k0_pay10 (F := Ideal) x w W (ix2 i l)
      = ∑ d : Fin 2048, nrm (fun k => x (ix2 i k)) (fun k => w (ix2 (0 : Fin 1) k)) d * W (ix2 d l) := by
  pointwise [k0_pay10, nrm]

end Cert.MemKIdeal.Value

end
-- ==== Proof.MemValue.lean ====
/- The value of the memory attention call. -/
module

public import proofs.«01_k».proof.Proof.Gen.MemKIdeal.Value
public import proofs.«01_k».proof.Proof.Gen.MemRIdeal.Run
public import proofs.«01_k».proof.Proof.MemPay
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.MemKIdeal.Value

open Cert.MemKIdeal Cert.MemKIdeal.Gen Cert.MemRIdeal.Value

variable (m : (ℓ : Loc nD τ sig) → Buf (Elt Ideal) ℓ)

/-- The block index of every window at every grid point. -/
theorem idx : ∀ t : Fin cfg0.N, win0_0.index t = ![t.val, 9] ∧ win0_1.index t = ![t.val, 10] ∧ win0_2.index t = ![t.val / 2, 0]
    ∧ win0_3.index t = ![0, 0] ∧ win0_4.index t = ![0, 0] ∧ win0_5.index t = ![t.val, 0] :=
  (by decide +kernel : ∀ t : Fin grid0.N, _)

/-- Block `t` of the result: rows `1024 t …`. -/
theorem emb_out (t : Fin cfg0.N) (r l : Fin 1024) (h : t.val * 1024 + r.val < 8192) :
    ((cfg0.win 5).blk t).view.emb (ix2 r l) = ix2 (⟨t.val * 1024 + r.val, h⟩ : Fin 8192) l := by
  blk_ext [iblk, V, idx t]

/-- The block of queries at point `t`. -/
theorem read0 (c : Dev nD) (t : Fin cfg0.N) (r l : Fin 1024) (h : t.val * 1024 + r.val < 8192) :
    iblk m c 0 t (ix2 r l) = m ((c : Thread nD τ).loc main_arg0) (ix2 (⟨t.val * 1024 + r.val, h⟩ : Fin 8192) (⟨9216 + l.val, by omega⟩ : Fin 17408)) := by
  blk_ext [iblk, V, idx t]

/-- The block of gates at point `t`. -/
theorem read1 (c : Dev nD) (t : Fin cfg0.N) (r l : Fin 1024) (h : t.val * 1024 + r.val < 8192) :
    iblk m c 1 t (ix2 r l) = m ((c : Thread nD τ).loc main_arg0) (ix2 (⟨t.val * 1024 + r.val, h⟩ : Fin 8192) (⟨10240 + l.val, by omega⟩ : Fin 17408)) := by
  blk_ext [iblk, V, idx t]

/-- The memory block at point `t`. -/
theorem read2 (c : Dev nD) (t : Fin cfg0.N) (x : Fin 256) (d : Fin 2048) (h : t.val / 2 < 4) :
    iblk m c 2 t (ix2 x d) = m ((c : Thread nD τ).loc main_arg1) (ix3 (⟨t.val / 2, h⟩ : Fin 4) x d) := by
  blk_simp [iblk]
  entry_read
  pointwise
  blk_ext [idx t]

/-- The norm's weights at every point. -/
theorem read3 (c : Dev nD) (t : Fin cfg0.N) (d : Fin 2048) :
    iblk m c 3 t (ix2 (0 : Fin 1) d) = m ((c : Thread nD τ).loc main_arg2) (ix1 d) := by
  blk_simp [iblk]
  entry_read
  pointwise
  blk_ext [idx t]

/-- The key and value weights at every point. -/
theorem read4 (c : Dev nD) (t : Fin cfg0.N) (d l : Fin 2048) :
    iblk m c 4 t (ix2 d l) = m ((c : Thread nD τ).loc main_arg3) (ix2 d l) := by
  blk_ext [iblk, V, idx t]

/-- The eight stores of the key and value weights into the scratch together copy them. -/
theorem tiles (X : FVec Ideal S2048x2048 .f32) (l k : Fin 2048) :
    View.canon (Val := Elt Ideal) (s := S2048x2048) (e := .bf16)
      [⟨Rect.unit ![1792, 0] ![256, 2048] inb_S2048x2048_S256x2048_1792_0,
          k0_pay9 (F := Ideal) (View.ld (Val := Elt Ideal) (e' := .f32) X (Rect.unit ![1792, 0] ![256, 2048] inb_S2048x2048_S256x2048_1792_0))⟩,
        ⟨Rect.unit ![1536, 0] ![256, 2048] inb_S2048x2048_S256x2048_1536_0,
          k0_pay8 (F := Ideal) (View.ld (Val := Elt Ideal) (e' := .f32) X (Rect.unit ![1536, 0] ![256, 2048] inb_S2048x2048_S256x2048_1536_0))⟩,
        ⟨Rect.unit ![1280, 0] ![256, 2048] inb_S2048x2048_S256x2048_1280_0,
          k0_pay7 (F := Ideal) (View.ld (Val := Elt Ideal) (e' := .f32) X (Rect.unit ![1280, 0] ![256, 2048] inb_S2048x2048_S256x2048_1280_0))⟩,
        ⟨Rect.unit ![1024, 0] ![256, 2048] inb_S2048x2048_S256x2048_1024_0,
          k0_pay6 (F := Ideal) (View.ld (Val := Elt Ideal) (e' := .f32) X (Rect.unit ![1024, 0] ![256, 2048] inb_S2048x2048_S256x2048_1024_0))⟩,
        ⟨Rect.unit ![768, 0] ![256, 2048] inb_S2048x2048_S256x2048_768_0,
          k0_pay5 (F := Ideal) (View.ld (Val := Elt Ideal) (e' := .f32) X (Rect.unit ![768, 0] ![256, 2048] inb_S2048x2048_S256x2048_768_0))⟩,
        ⟨Rect.unit ![512, 0] ![256, 2048] inb_S2048x2048_S256x2048_512_0,
          k0_pay4 (F := Ideal) (View.ld (Val := Elt Ideal) (e' := .f32) X (Rect.unit ![512, 0] ![256, 2048] inb_S2048x2048_S256x2048_512_0))⟩,
        ⟨Rect.unit ![256, 0] ![256, 2048] inb_S2048x2048_S256x2048_256_0,
          k0_pay3 (F := Ideal) (View.ld (Val := Elt Ideal) (e' := .f32) X (Rect.unit ![256, 0] ![256, 2048] inb_S2048x2048_S256x2048_256_0))⟩,
        ⟨Rect.unit ![0, 0] ![256, 2048] inb_S2048x2048_S256x2048_0_0,
          k0_pay2 (F := Ideal) (View.ld (Val := Elt Ideal) (e' := .f32) X (Rect.unit ![0, 0] ![256, 2048] inb_S2048x2048_S256x2048_0_0))⟩]
      (ix2 l k) = X (ix2 l k) := by
  canon_tiles x h
  all_goals (replace h0 : l.val = _ := h0; replace h1 : k.val = _ := h1; pointwise [k0_pay2, k0_pay3, k0_pay4, k0_pay5, k0_pay6, k0_pay7, k0_pay8, k0_pay9]; blk_ext)

/-- A load of one head's columns. -/
theorem load_col (X : FVec Ideal S1024x1024 .bf16) (o : ℕ) (inb : ∀ a, (![0, o] : Fin 2 → ℕ) a + S1024x256.size a ≤ S1024x1024.size a)
    (r : Fin 1024) (e : Fin 256) (l : Fin 1024) (hl : l.val = o + e.val) :
    View.ld (Val := Elt Ideal) (e' := .bf16) X (Rect.unit (s := S1024x1024) ![0, o] ![1024, 256] inb) (ix2 r e) = X (ix2 r l) := by
  refine View.ld_unit_apply_of _ _ _ _ _ _ fun a => ?_
  fin_cases a <;> simp [hl]

/-- One head's store, given the columns it loads. -/
theorem tile (Q G : FVec Ideal S1024x1024 .bf16) (k v : FVec Ideal S256x256 .bf16) (K : Fin 256 → Fin 2048 → EReal) (o : ℕ)
    (inb : ∀ a, (![0, o] : Fin 2 → ℕ) a + S1024x256.size a ≤ S1024x1024.size a)
    (hk : ∀ j d l, l.val = o + d.val → k (ix2 j d) = K j l) (hv : ∀ j d l, l.val = 1024 + o + d.val → v (ix2 j d) = K j l)
    (r : Fin 1024) (h : Fin 4) (ho : h.val * 256 = o) (e : Fin 256) (l : Fin 1024) (hl : l.val = h.val * 256 + e.val) (L : Fin 256 → EReal)
    (hL : L = lg (fun d => Q (ix2 r (⟨h.val * 256 + d.val, by omega⟩ : Fin 1024))) (fun j d => K j ⟨h.val * 256 + d.val, by omega⟩))
    (hr : ∀ j, ∃ x : ℝ, L j = (x : EReal)) :
    k0_pay1 (F := Ideal) (k0_pay16 (F := Ideal) (View.ld (Val := Elt Ideal) (e' := .bf16) Q (Rect.unit (s := S1024x1024) ![0, o] ![1024, 256] inb)) k) v
        (View.ld (Val := Elt Ideal) (e' := .bf16) G (Rect.unit (s := S1024x1024) ![0, o] ![1024, 256] inb)) (ix2 r e)
      = G (ix2 r l) * Ideal.div 1 (1 + Ideal.exp (-G (ix2 r l)))
        * ∑ j : Fin 256, K j ⟨1024 + (h.val * 256 + e.val), by omega⟩ * Ideal.div (ex L j) (∑ j : Fin 256, ex L j) := by
  refine (head _ _ k v r e L ?_ hr).trans ?_
  · rw [hL]
    refine congrArg₂ lg (funext fun d => (load_col Q o inb r d _ ?_).symm) (funext fun j => funext fun d => (hk j d _ ?_).symm)
    · show h.val * 256 + d.val = _
      omega
    · show h.val * 256 + d.val = _
      omega
  · rw [load_col G o inb r e l (by omega)]
    refine congrArg _ (Finset.sum_congr rfl fun j _ => congrArg (· * _) (hv j e _ ?_))
    show 1024 + (h.val * 256 + e.val) = _
    omega

/-- The four heads' stores together are the gated attention. -/
theorem outs (Q G : FVec Ideal S1024x1024 .bf16) (k0 v0 k1 v1 k2 v2 k3 v3 : FVec Ideal S256x256 .bf16) (K : Fin 256 → Fin 2048 → EReal)
    (hk0 : ∀ j d l, l.val = 0 + d.val → k0 (ix2 j d) = K j l) (hv0 : ∀ j d l, l.val = 1024 + d.val → v0 (ix2 j d) = K j l)
    (hk1 : ∀ j d l, l.val = 256 + d.val → k1 (ix2 j d) = K j l) (hv1 : ∀ j d l, l.val = 1280 + d.val → v1 (ix2 j d) = K j l)
    (hk2 : ∀ j d l, l.val = 512 + d.val → k2 (ix2 j d) = K j l) (hv2 : ∀ j d l, l.val = 1536 + d.val → v2 (ix2 j d) = K j l)
    (hk3 : ∀ j d l, l.val = 768 + d.val → k3 (ix2 j d) = K j l) (hv3 : ∀ j d l, l.val = 1792 + d.val → v3 (ix2 j d) = K j l)
    (r : Fin 1024) (h : Fin 4) (e : Fin 256) (l : Fin 1024) (hl : l.val = h.val * 256 + e.val) (L : Fin 256 → EReal)
    (hL : L = lg (fun d => Q (ix2 r (⟨h.val * 256 + d.val, by omega⟩ : Fin 1024))) (fun j d => K j ⟨h.val * 256 + d.val, by omega⟩))
    (hr : ∀ j, ∃ x : ℝ, L j = (x : EReal)) :
    View.canon (Val := Elt Ideal) (s := S1024x1024) (e := .bf16)
      [⟨Rect.unit ![0, 768] ![1024, 256] inb_S1024x1024_S1024x256_0_768,
          k0_pay1 (F := Ideal) (k0_pay16 (F := Ideal) (View.ld (Val := Elt Ideal) (e' := .bf16) Q (Rect.unit ![0, 768] ![1024, 256] inb_S1024x1024_S1024x256_0_768)) k3) v3 (View.ld (Val := Elt Ideal) (e' := .bf16) G (Rect.unit ![0, 768] ![1024, 256] inb_S1024x1024_S1024x256_0_768))⟩,
        ⟨Rect.unit ![0, 512] ![1024, 256] inb_S1024x1024_S1024x256_0_512,
          k0_pay15 (F := Ideal) (View.ld (Val := Elt Ideal) (e' := .bf16) Q (Rect.unit ![0, 512] ![1024, 256] inb_S1024x1024_S1024x256_0_512)) k2 v2 (View.ld (Val := Elt Ideal) (e' := .bf16) G (Rect.unit ![0, 512] ![1024, 256] inb_S1024x1024_S1024x256_0_512))⟩,
        ⟨Rect.unit ![0, 256] ![1024, 256] inb_S1024x1024_S1024x256_0_256,
          k0_pay14 (F := Ideal) (View.ld (Val := Elt Ideal) (e' := .bf16) Q (Rect.unit ![0, 256] ![1024, 256] inb_S1024x1024_S1024x256_0_256)) k1 v1 (View.ld (Val := Elt Ideal) (e' := .bf16) G (Rect.unit ![0, 256] ![1024, 256] inb_S1024x1024_S1024x256_0_256))⟩,
        ⟨Rect.unit ![0, 0] ![1024, 256] inb_S1024x1024_S1024x256_0_0,
          k0_pay13 (F := Ideal) (k0_pay11 (F := Ideal) (View.ld (Val := Elt Ideal) (e' := .bf16) Q (Rect.unit ![0, 0] ![1024, 256] inb_S1024x1024_S1024x256_0_0)) k0 v0) (k0_pay12 (F := Ideal) (View.ld (Val := Elt Ideal) (e' := .bf16) G (Rect.unit ![0, 0] ![1024, 256] inb_S1024x1024_S1024x256_0_0)))⟩]
      (ix2 r l)
      = G (ix2 r l) * Ideal.div 1 (1 + Ideal.exp (-G (ix2 r l)))
        * ∑ j : Fin 256, K j ⟨1024 + (h.val * 256 + e.val), by omega⟩ * Ideal.div (ex L j) (∑ j : Fin 256, ex L j) := by
  canon_tiles x hx
  · obtain ⟨r', e', rfl⟩ : ∃ (r' : Fin 1024) (e' : Fin 256), x = ix2 r' e' := ⟨x 0, x 1, eq_ix2 x⟩
    replace hx0 : r.val = r'.val := hx0
    replace hx1 : l.val = 768 + e'.val := hx1
    obtain rfl : r = r' := Fin.ext hx0
    obtain rfl : e = e' := Fin.ext (by omega)
    exact tile Q G k3 v3 K 768 _ hk3 hv3 r h (by omega) e l hl L hL hr
  · obtain ⟨r', e', rfl⟩ : ∃ (r' : Fin 1024) (e' : Fin 256), x = ix2 r' e' := ⟨x 0, x 1, eq_ix2 x⟩
    replace hx0 : r.val = r'.val := hx0
    replace hx1 : l.val = 512 + e'.val := hx1
    obtain rfl : r = r' := Fin.ext hx0
    obtain rfl : e = e' := Fin.ext (by omega)
    exact (congrFun (pay15_eq _ _ _ _) _).trans (tile Q G k2 v2 K 512 _ hk2 hv2 r h (by omega) e l hl L hL hr)
  · obtain ⟨r', e', rfl⟩ : ∃ (r' : Fin 1024) (e' : Fin 256), x = ix2 r' e' := ⟨x 0, x 1, eq_ix2 x⟩
    replace hx0 : r.val = r'.val := hx0
    replace hx1 : l.val = 256 + e'.val := hx1
    obtain rfl : r = r' := Fin.ext hx0
    obtain rfl : e = e' := Fin.ext (by omega)
    exact (congrFun (pay14_eq _ _ _ _) _).trans (tile Q G k1 v1 K 256 _ hk1 hv1 r h (by omega) e l hl L hL hr)
  · obtain ⟨r', e', rfl⟩ : ∃ (r' : Fin 1024) (e' : Fin 256), x = ix2 r' e' := ⟨x 0, x 1, eq_ix2 x⟩
    replace hx0 : r.val = r'.val := hx0
    replace hx1 : l.val =  e'.val := hx1
    obtain rfl : r = r' := Fin.ext hx0
    obtain rfl : e = e' := Fin.ext (by omega)
    exact (congrFun (pay13_eq _ _ _ _) _).trans (tile Q G k0 v0 K 0 _ hk0 hv0 r h (by omega) e l hl L hL hr)

/-- A load of the keys or values stored at the same point. -/
theorem load_kv (X : FVec Ideal S256x2048 .bf16) (o : ℕ) (inb : ∀ a, (![0, o] : Fin 2 → ℕ) a + S256x256.size a ≤ S256x2048.size a) (j d : Fin 256) (l : Fin 2048)
    (hl : l.val = o + d.val) :
    (View.whole cc0_scratch1).readCov (Val := Elt Ideal) [⟨Rect.unit ![0, 0] ![256, 2048] inb_S256x2048_S256x2048_0_0, X⟩]
      (Rect.unit (s := S256x2048) ![0, o] ![256, 256] inb).toLoadRect (ix2 j d) = X (ix2 j l) := by
  rw [View.readCov_eq_canon']
  have e : (Rect.unit (s := S256x2048) ![0, o] ![256, 256] inb).toLoadRect.idx (ix2 j d) = ix2 j l := by
    refine funext fun a => Fin.ext ((Rect.idx_unit_val _ _ _ _ a).trans ?_)
    fin_cases a <;> simp [hl]
  refine (congrArg _ e).trans ?_
  exact congrFun (View.canon_unit_zero (Val := Elt Ideal) (S := S256x2048) (e := .bf16) (by funext a; fin_cases a <;> rfl) inb_S256x2048_S256x2048_0_0 X) (ix2 j l)

/-- A load of the whole scratch of weights stored at the same point. -/
theorem load_w (X : FVec Ideal S2048x2048 .f32) (d l : Fin 2048) :
    (View.whole cc0_scratch0).readCov (Val := Elt Ideal)
      [⟨Rect.unit ![1792, 0] ![256, 2048] inb_S2048x2048_S256x2048_1792_0,
          k0_pay9 (F := Ideal) (View.ld (Val := Elt Ideal) (e' := .f32) X (Rect.unit ![1792, 0] ![256, 2048] inb_S2048x2048_S256x2048_1792_0))⟩,
        ⟨Rect.unit ![1536, 0] ![256, 2048] inb_S2048x2048_S256x2048_1536_0,
          k0_pay8 (F := Ideal) (View.ld (Val := Elt Ideal) (e' := .f32) X (Rect.unit ![1536, 0] ![256, 2048] inb_S2048x2048_S256x2048_1536_0))⟩,
        ⟨Rect.unit ![1280, 0] ![256, 2048] inb_S2048x2048_S256x2048_1280_0,
          k0_pay7 (F := Ideal) (View.ld (Val := Elt Ideal) (e' := .f32) X (Rect.unit ![1280, 0] ![256, 2048] inb_S2048x2048_S256x2048_1280_0))⟩,
        ⟨Rect.unit ![1024, 0] ![256, 2048] inb_S2048x2048_S256x2048_1024_0,
          k0_pay6 (F := Ideal) (View.ld (Val := Elt Ideal) (e' := .f32) X (Rect.unit ![1024, 0] ![256, 2048] inb_S2048x2048_S256x2048_1024_0))⟩,
        ⟨Rect.unit ![768, 0] ![256, 2048] inb_S2048x2048_S256x2048_768_0,
          k0_pay5 (F := Ideal) (View.ld (Val := Elt Ideal) (e' := .f32) X (Rect.unit ![768, 0] ![256, 2048] inb_S2048x2048_S256x2048_768_0))⟩,
        ⟨Rect.unit ![512, 0] ![256, 2048] inb_S2048x2048_S256x2048_512_0,
          k0_pay4 (F := Ideal) (View.ld (Val := Elt Ideal) (e' := .f32) X (Rect.unit ![512, 0] ![256, 2048] inb_S2048x2048_S256x2048_512_0))⟩,
        ⟨Rect.unit ![256, 0] ![256, 2048] inb_S2048x2048_S256x2048_256_0,
          k0_pay3 (F := Ideal) (View.ld (Val := Elt Ideal) (e' := .f32) X (Rect.unit ![256, 0] ![256, 2048] inb_S2048x2048_S256x2048_256_0))⟩,
        ⟨Rect.unit ![0, 0] ![256, 2048] inb_S2048x2048_S256x2048_0_0,
          k0_pay2 (F := Ideal) (View.ld (Val := Elt Ideal) (e' := .f32) X (Rect.unit ![0, 0] ![256, 2048] inb_S2048x2048_S256x2048_0_0))⟩]
      (Rect.unit (s := S2048x2048) ![0, 0] ![2048, 2048] inb_S2048x2048_S2048x2048_0_0).toLoadRect (ix2 d l) = X (ix2 d l) := by
  rw [View.readCov_eq_canon']
  have e : (Rect.unit (s := S2048x2048) ![0, 0] ![2048, 2048] inb_S2048x2048_S2048x2048_0_0).toLoadRect.idx (ix2 d l) = ix2 d l := by
    refine funext fun a => Fin.ext ((Rect.idx_unit_val _ _ _ _ a).trans ?_)
    fin_cases a <;> simp
  exact (congrArg _ e).trans (tiles X d l)

/-- The keys (columns below 1024) and values (from 1024) of one memory. -/
def KV (c : Dev nD) (b : ℕ) (x : Fin 256) (l : Fin 2048) : EReal :=
  ∑ d : Fin 2048, nrm (fun k => m ((c : Thread nD τ).loc main_arg1) (ix3 (Fin.ofNat 4 b) x k)) (fun k => m ((c : Thread nD τ).loc main_arg2) (ix1 k)) d
    * m ((c : Thread nD τ).loc main_arg3) (ix2 d l)

/-- The keys and values a point computes. -/
theorem pay_kv (c : Dev nD) (t : Fin cfg0.N) (W : FVec Ideal S2048x2048 .bf16)
    (hW : ∀ d l, W (ix2 d l) = m ((c : Thread nD τ).loc main_arg3) (ix2 d l)) (x : Fin 256) (l : Fin 2048) :
    k0_pay10 (F := Ideal) (iblk m c 2 t) (iblk m c 3 t) W (ix2 x l) = KV m c (t.val / 2) x l := by
  have ht : t.val < 8 := lt_of_lt_of_eq t.isLt N_0
  have hb : t.val / 2 < 4 := by omega
  have eb : (⟨t.val / 2, hb⟩ : Fin 4) = Fin.ofNat 4 (t.val / 2) := Fin.ext (by simp [Nat.mod_eq_of_lt hb])
  refine (pay10_apply _ _ _ x l).trans (Finset.sum_congr rfl fun d _ => congrArg₂ (· * ·) ?_ (hW d l))
  refine congrFun (congrArg₂ nrm (funext fun k => ?_) (funext fun k => read3 m c t k)) d
  rw [read2 m c t x k hb, eb]

/-- The scratch of weights holds them from the first point. -/
theorem scratch_w (c : Dev nD) (d l : Fin 2048) : ∀ (n : ℕ) (hn : n < cfg0.N),
    (outsAt0 m c n hn).2.1 (ix2 d l) = m ((c : Thread nD τ).loc main_arg3) (ix2 d l)
  | n, hn => by
    have ht : n < 8 := lt_of_lt_of_eq hn N_0
    by_cases h1 : n % 2 = 0
    · by_cases h0 : n % 8 = 0
      · rw [outsAt0_A m c ⟨n, hn⟩ h0 h1]; dsimp only; frame_out
        exact (tiles _ d l).trans (read4 m c ⟨n, hn⟩ d l)
      · rw [outsAt0_C m c ⟨n, hn⟩ h0 h1]; dsimp only
        exact scratch_w c d l (n - 1) _
    · rw [outsAt0_B m c ⟨n, hn⟩ (by dsimp only; omega) h1]; dsimp only
      exact scratch_w c d l (n - 1) _
termination_by n => n
decreasing_by all_goals omega

/-- What a later point reads of the scratch of weights. -/
theorem carried_w (c : Dev nD) (n : ℕ) (hn : n < cfg0.N) (d l : Fin 2048) :
    View.read (Elt Ideal) (View.whole cc0_scratch0) ((Memref.isWhole_whole cc0_scratch0).unread (outsAt0 m c n hn).2.1) (ix2 d l)
      = m ((c : Thread nD τ).loc main_arg3) (ix2 d l) :=
  (congrFun (Memref.IsWhole.read_unread (Memref.isWhole_whole cc0_scratch0) _) (ix2 d l)).trans (scratch_w m c d l n hn)

/-- The scratch of keys and values holds those of the point's memory. -/
theorem scratch_kv (c : Dev nD) (x : Fin 256) (l : Fin 2048) : ∀ (n : ℕ) (hn : n < cfg0.N),
    (outsAt0 m c n hn).2.2 (ix2 x l) = KV m c (n / 2) x l
  | n, hn => by
    have ht : n < 8 := lt_of_lt_of_eq hn N_0
    by_cases h1 : n % 2 = 0
    · by_cases h0 : n % 8 = 0
      · rw [outsAt0_A m c ⟨n, hn⟩ h0 h1]; dsimp only; frame_out
        exact pay_kv m c ⟨n, hn⟩ _ (fun d l => (load_w _ d l).trans (read4 m c ⟨n, hn⟩ d l)) x l
      · rw [outsAt0_C m c ⟨n, hn⟩ h0 h1]; dsimp only; frame_out
        exact pay_kv m c ⟨n, hn⟩ _ (fun d l => carried_w m c (n - 1) _ d l) x l
    · rw [outsAt0_B m c ⟨n, hn⟩ (by dsimp only; omega) h1]; dsimp only
      rw [show n / 2 = (n - 1) / 2 by omega]
      exact scratch_kv c x l (n - 1) _
termination_by n => n
decreasing_by all_goals omega

/-- A load of the keys or values carried from the point before. -/
theorem load_carried (c : Dev nD) (n : ℕ) (hn : n < cfg0.N) (o : ℕ)
    (inb : ∀ a, (![0, o] : Fin 2 → ℕ) a + S256x256.size a ≤ S256x2048.size a) (j d : Fin 256) (l : Fin 2048) (hl : l.val = o + d.val) :
    View.ld (Val := Elt Ideal) (e' := .bf16) (View.read (Elt Ideal) (View.whole cc0_scratch1) ((Memref.isWhole_whole cc0_scratch1).unread (outsAt0 m c n hn).2.2))
      (Rect.unit (s := S256x2048) ![0, o] ![256, 256] inb) (ix2 j d) = KV m c (n / 2) j l := by
  refine (View.ld_unit_apply_of _ _ _ _ _ (ix2 j l) fun a => ?_).trans
    ((congrFun (Memref.IsWhole.read_unread (Memref.isWhole_whole cc0_scratch1) _) (ix2 j l)).trans (scratch_kv m c j l n hn))
  fin_cases a <;> simp [hl]

/-- The arguments which make keys and logits real numbers. -/
structure Finite (c : Dev nD) : Prop where
  query : ∀ (i : Fin 8192) (l : Fin 1024), ∃ r : ℝ, m ((c : Thread nD τ).loc main_arg0) (ix2 i (⟨9216 + l.val, by omega⟩ : Fin 17408)) = (r : EReal)
  memory : ∀ (b : Fin 4) (x : Fin 256) (d : Fin 2048), ∃ r : ℝ, m ((c : Thread nD τ).loc main_arg1) (ix3 b x d) = (r : EReal)
  weight : ∀ d : Fin 2048, ∃ r : ℝ, m ((c : Thread nD τ).loc main_arg2) (ix1 d) = (r : EReal)
  key : ∀ (d : Fin 2048) (l : Fin 1024), ∃ r : ℝ, m ((c : Thread nD τ).loc main_arg3) (ix2 d (⟨l.val, by omega⟩ : Fin 2048)) = (r : EReal)

/-- The norm's divisor is 2048. -/
theorem ofBits_2048 : Ideal.ofBits .f32 0x45000000#32 = ((2048 : ℝ) : EReal) := by
  simp [Ideal.ofBits, Ideal.ieee, -EReal.coe_mul]; norm_num

/-- The norm's offset. -/
theorem ofBits_eps : Ideal.ofBits .f32 0x358637BD#32 = ((8796093 / 2 ^ 43 : ℝ) : EReal) := by
  simp [Ideal.ofBits, Ideal.ieee, -EReal.coe_mul]; norm_num

/-- The scale of the logits. -/
theorem ofBits_scale : Ideal.ofBits .f32 0x3D800000#32 = ((1 / 16 : ℝ) : EReal) := by
  simp [Ideal.ofBits, Ideal.ieee, -EReal.coe_mul]; norm_num

/-- A product of reals is a real. -/
theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

/-- A finite sum of reals is a real. -/
theorem sum_real {ι : Type} (s : Finset ι) (f : ι → EReal) (h : ∀ i, ∃ r : ℝ, f i = (r : EReal)) : ∃ r : ℝ, ∑ i ∈ s, f i = (r : EReal) := by
  choose g hg using h
  exact ⟨∑ i ∈ s, g i, by rw [Cert.Scalar.coe_sum]; exact Finset.sum_congr rfl fun i _ => hg i⟩

/-- The norm of real entries by real weights is real. -/
theorem nrm_real (x w : Fin 2048 → EReal) (hx : ∀ k, ∃ r : ℝ, x k = (r : EReal)) (hw : ∀ k, ∃ r : ℝ, w k = (r : EReal)) (d : Fin 2048) :
    ∃ r : ℝ, nrm x w d = (r : EReal) := by
  refine mul_real (mul_real (hx d) ?_) (hw d)
  choose g hg using hx
  have e : ∑ k : Fin 2048, x k * x k = ((∑ k : Fin 2048, g k * g k : ℝ) : EReal) := by
    rw [Cert.Scalar.coe_sum]
    exact Finset.sum_congr rfl fun k _ => by rw [hg k, EReal.coe_mul]
  rw [e, ofBits_2048, ofBits_eps, Cert.Scalar.div_real _ (by norm_num), ← EReal.coe_mul, ← EReal.coe_add]
  have hp : (0 : ℝ) ≤ ∑ k : Fin 2048, g k * g k := Finset.sum_nonneg fun k _ => mul_self_nonneg _
  exact ⟨_, Cert.Scalar.rsqrt_real (by positivity)⟩

/-- The logits are real. -/
theorem lg_real (c : Dev nD) (hf : Finite m c) (i : Fin 8192) (b : ℕ) (h : Fin 4) (j : Fin 256) :
    ∃ r : ℝ, lg (fun d => m ((c : Thread nD τ).loc main_arg0) (ix2 i (⟨9216 + (h.val * 256 + d.val), by omega⟩ : Fin 17408)))
      (fun j d => KV m c b j ⟨h.val * 256 + d.val, by omega⟩) j = (r : EReal) := by
  refine mul_real (sum_real _ _ fun d => mul_real (hf.query i ⟨h.val * 256 + d.val, by omega⟩) ?_) ⟨_, ofBits_scale⟩
  refine sum_real _ _ fun k => mul_real (nrm_real _ _ (fun k => hf.memory _ _ k) (fun k => hf.weight k) k) ?_
  exact hf.key k ⟨h.val * 256 + d.val, by omega⟩

/-- The result array after the run is the reference's term of the arguments. -/
theorem final (c : Dev nD) (hf : Finite m c) : (dats m 0 c).arrAt 5 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  have ht : t.val < 8 := lt_of_lt_of_eq t.isLt N_0
  obtain ⟨r, l, rfl⟩ : ∃ (r : Fin 1024) (l : Fin 1024), y = ix2 r l := ⟨y 0, y 1, eq_ix2 y⟩
  have hi : t.val * 1024 + r.val < 8192 := by omega
  refine Eq.trans ?_ (congrArg _ (emb_out t r l hi).symm)
  obtain ⟨b, hb⟩ : ∃ b : Fin 4, b.val = t.val / 2 := ⟨⟨t.val / 2, by omega⟩, rfl⟩
  obtain ⟨i, hib⟩ : ∃ i : Fin 2048, i.val = t.val % 2 * 1024 + r.val := ⟨⟨t.val % 2 * 1024 + r.val, by omega⟩, rfl⟩
  obtain ⟨h, hh⟩ : ∃ h : Fin 4, h.val = l.val / 256 := ⟨⟨l.val / 256, by omega⟩, rfl⟩
  obtain ⟨e, he⟩ : ∃ e : Fin 256, e.val = l.val % 256 := ⟨⟨l.val % 256, by omega⟩, rfl⟩
  have hl : l.val = h.val * 256 + e.val := by omega
  have er : (⟨t.val * 1024 + r.val, hi⟩ : Fin 8192) = ⟨b.val * 2048 + i.val, by omega⟩ := Fin.ext (by dsimp only; omega)
  have el : l = (⟨h.val * 256 + e.val, by omega⟩ : Fin 1024) := Fin.ext hl
  have eb : b = Fin.ofNat 4 (t.val / 2) := Fin.ext (by rw [hb]; simp; omega)
  have key : ∀ (L : Fin 256 → EReal)
      (_ : L = lg (fun d => m ((c : Thread nD τ).loc main_arg0) (ix2 (⟨b.val * 2048 + i.val, by omega⟩ : Fin 8192) (⟨9216 + (h.val * 256 + d.val), by omega⟩ : Fin 17408)))
        (fun j d => KV m c (t.val / 2) j ⟨h.val * 256 + d.val, by omega⟩)), _ :=
    fun L hL => ref_apply (m ((c : Thread nD τ).loc main_arg0)) (m ((c : Thread nD τ).loc main_arg1)) (m ((c : Thread nD τ).loc main_arg2)) (m ((c : Thread nD τ).loc main_arg3)) b h i e (KV m c (t.val / 2)) (fun x l => by rw [eb]; rfl) L hL
  refine Eq.trans ?_ ((congrArg (REF _ _ _ _) (congrArg₂ ix2 er el)).trans (key _ rfl)).symm
  have eq0 : ∀ d : Fin 256, iblk m c 0 t (ix2 r (⟨h.val * 256 + d.val, by omega⟩ : Fin 1024))
      = m ((c : Thread nD τ).loc main_arg0) (ix2 (⟨b.val * 2048 + i.val, by omega⟩ : Fin 8192) (⟨9216 + (h.val * 256 + d.val), by omega⟩ : Fin 17408)) :=
    fun d => by rw [read0 m c t r _ hi, er]
  have eg : iblk m c 1 t (ix2 r l)
      = m ((c : Thread nD τ).loc main_arg0) (ix2 (⟨b.val * 2048 + i.val, by omega⟩ : Fin 8192) (⟨10240 + (h.val * 256 + e.val), by omega⟩ : Fin 17408)) := by
    rw [read1 m c t r _ hi, er]
    exact congrArg _ (congrArg _ (Fin.ext (by dsimp only; omega)))
  rw [← eg]
  have hr := lg_real m c hf (⟨b.val * 2048 + i.val, by omega⟩ : Fin 8192) (t.val / 2) h
  by_cases h1 : t.val % 2 = 0
  · by_cases h0 : t.val % 8 = 0
    · have hW : ∀ d l, _ = _ := fun d l => (load_w (iblk m c 4 t) d l).trans (read4 m c t d l)
      rw [outsAt0_A m c t h0 h1]; dsimp only; frame_out
      refine outs _ _ _ _ _ _ _ _ _ _ (KV m c (t.val / 2)) ?_ ?_ ?_ ?_ ?_ ?_ ?_ ?_ r h e l hl _ ?_ hr
      iterate 8 exact fun j d l hl => (load_kv _ _ _ j d l hl).trans (pay_kv m c t _ hW j l)
      exact congrArg (lg · _) (funext fun d => (eq0 d).symm)
    · have hW : ∀ d l, _ = _ := fun d l => carried_w m c (t.val - 1) (lt_of_le_of_lt (Nat.sub_le _ _) t.isLt) d l
      rw [outsAt0_C m c t h0 h1]; dsimp only; frame_out
      refine outs _ _ _ _ _ _ _ _ _ _ (KV m c (t.val / 2)) ?_ ?_ ?_ ?_ ?_ ?_ ?_ ?_ r h e l hl _ ?_ hr
      iterate 8 exact fun j d l hl => (load_kv _ _ _ j d l hl).trans (pay_kv m c t _ hW j l)
      exact congrArg (lg · _) (funext fun d => (eq0 d).symm)
  · rw [outsAt0_B m c t (by omega) h1]; dsimp only; frame_out
    rw [show t.val / 2 = (t.val - 1) / 2 by omega] at hr ⊢
    refine outs _ _ _ _ _ _ _ _ _ _ (KV m c ((t.val - 1) / 2)) ?_ ?_ ?_ ?_ ?_ ?_ ?_ ?_ r h e l hl _ ?_ hr
    iterate 8 exact fun j d l hl => load_carried m c (t.val - 1) _ _ _ j d l hl
    exact congrArg (lg · _) (funext fun d => (eq0 d).symm)

end Cert.MemKIdeal.Value

end
-- ==== Proof.RetPay.lean ====
/- The retention kernel's payloads: the same four computations for every head and chunk, cut differently. -/
module

public import proofs.«01_k».proof.Proof.Gen.RetKIdeal.Value
public import proofs.«01_k».proof.Proof.Gen.RetRIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.RetKIdeal.Value

open Cert.RetKIdeal Cert.RetKIdeal.Gen

/-- The decay between the rows of one chunk, scaled. -/
def DEC (lg : Elt Ideal .f32) : FVec Ideal S256x256 .f32 := k0_pay11 lg
/-- The decay from the chunk's beginning to each row. -/
def QD (lg : Elt Ideal .f32) : FVec Ideal S256x1 .f32 := k0_pay12 lg
/-- The decay from each row to the chunk's end, scaled. -/
def KD (lg : Elt Ideal .f32) : FVec Ideal S256x1 .f32 := k0_pay13 lg
/-- The decay over one chunk. -/
def CD (lg : Elt Ideal .f32) : FVec Ideal S1x128 .f32 := k0_pay15 lg (k0_pay14 (F := Ideal))
/-- One head's norm weights. -/
def GW (w : FVec Ideal S1x128 .f32) : FVec Ideal S1x128 .f32 := k0_pay16 w
/-- The state before the first chunk. -/
def ZERO : FVec Ideal S128x128 .f32 := k0_pay17 (F := Ideal)
/-- The state after a chunk. -/
def NEXT (kd : FVec Ideal S256x1 .f32) (cd : FVec Ideal S1x128 .f32) (S : FVec Ideal S128x128 .f32) (k v : FVec Ideal S256x128 .bf16) :
    FVec Ideal S128x128 .f32 := k0_pay22 kd cd S k v
/-- What a chunk's store writes. -/
def OUT (dec : FVec Ideal S256x256 .f32) (qd : FVec Ideal S256x1 .f32) (gw : FVec Ideal S1x128 .f32) (S : FVec Ideal S128x128 .f32)
    (q k v g : FVec Ideal S256x128 .bf16) : FVec Ideal S256x128 .bf16 :=
  k0_pay24 gw (k0_pay21 dec qd S q k v) (k0_pay23 dec qd S q k v) g

/-- Head 0: its `dec` payload. -/
theorem dec_0 (lg : Elt Ideal .f32) :
    k0_pay11 (F := Ideal) lg = DEC lg := rfl

/-- Head 0: its `qd` payload. -/
theorem qd_0 (lg : Elt Ideal .f32) :
    k0_pay12 (F := Ideal) lg = QD lg := rfl

/-- Head 0: its `kd` payload. -/
theorem kd_0 (lg : Elt Ideal .f32) :
    k0_pay13 (F := Ideal) lg = KD lg := rfl

/-- Head 0: its `cd` payload. -/
theorem cd_0 (lg : Elt Ideal .f32) :
    k0_pay15 (F := Ideal) lg (k0_pay14 (F := Ideal)) = CD lg := rfl

/-- Head 0: its `gw` payload. -/
theorem gw_0 (w : FVec Ideal S1x128 .f32) :
    k0_pay16 (F := Ideal) w = GW w := rfl

/-- Head 0, chunk 0: what its store writes. -/
theorem out_0_0 (dec : FVec Ideal S256x256 .f32) (qd : FVec Ideal S256x1 .f32) (gw : FVec Ideal S1x128 .f32) (q : FVec Ideal S256x128 .bf16) (k : FVec Ideal S256x128 .bf16) (v : FVec Ideal S256x128 .bf16) (g : FVec Ideal S256x128 .bf16) :
    k0_pay20 (F := Ideal) gw (k0_pay19 (F := Ideal) dec qd q k v) g = OUT dec qd gw ZERO q k v g := rfl

/-- Head 0, chunk 0: the state after it. -/
theorem next_0_0 (lg : Elt Ideal .f32) (kd : FVec Ideal S256x1 .f32) (k : FVec Ideal S256x128 .bf16) (v : FVec Ideal S256x128 .bf16) :
    k0_pay18 (F := Ideal) lg kd (k0_pay14 (F := Ideal)) k v = NEXT kd (CD lg) ZERO k v := rfl

/-- Head 0, chunk 1: what its store writes. -/
theorem out_0_1 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay24 (F := Ideal) gw (k0_pay21 (F := Ideal) dec qd S q k v) (k0_pay23 (F := Ideal) dec qd S q k v) g = OUT dec qd gw S q k v g := rfl

/-- Head 0, chunk 1: the state after it. -/
theorem next_0_1 (kd : FVec Ideal S256x1 .f32) (cd : FVec Ideal S1x128 .f32) (S : FVec Ideal S128x128 .f32) (k : FVec Ideal S256x128 .bf16) (v : FVec Ideal S256x128 .bf16) :
    k0_pay22 (F := Ideal) kd cd S k v = NEXT kd cd S k v := rfl

/-- Head 0, chunk 2: what its store writes. -/
theorem out_0_2 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay29 (F := Ideal) gw (k0_pay25 (F := Ideal) dec qd S q k v) g = OUT dec qd gw S q k v g := rfl

/-- Head 0, chunk 2: the state after it. -/
theorem next_0_2 (kd : FVec Ideal S256x1 .f32) (cd : FVec Ideal S1x128 .f32) (S : FVec Ideal S128x128 .f32) (k : FVec Ideal S256x128 .bf16) (v : FVec Ideal S256x128 .bf16) :
    k0_pay28 (F := Ideal) cd S k (k0_pay26 (F := Ideal) v) (k0_pay27 (F := Ideal) kd) = NEXT kd cd S k v := rfl

/-- Head 0, chunk 3: what its store writes. -/
theorem out_0_3 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay32 (F := Ideal) (k0_pay31 (F := Ideal) dec qd gw S q k v g) = OUT dec qd gw S q k v g := rfl

/-- Head 0, chunk 3: the state after it. -/
theorem next_0_3 (kd : FVec Ideal S256x1 .f32) (cd : FVec Ideal S1x128 .f32) (S : FVec Ideal S128x128 .f32) (k : FVec Ideal S256x128 .bf16) (v : FVec Ideal S256x128 .bf16) :
    k0_pay30 (F := Ideal) kd cd S k v = NEXT kd cd S k v := rfl

/-- Head 0, chunk 4: what its store writes. -/
theorem out_0_4 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay35 (F := Ideal) (k0_pay34 (F := Ideal) dec qd gw S q k v) g = OUT dec qd gw S q k v g := rfl

/-- Head 0, chunk 4: the state after it. -/
theorem next_0_4 (kd : FVec Ideal S256x1 .f32) (cd : FVec Ideal S1x128 .f32) (S : FVec Ideal S128x128 .f32) (k : FVec Ideal S256x128 .bf16) (v : FVec Ideal S256x128 .bf16) :
    k0_pay33 (F := Ideal) kd cd S k v = NEXT kd cd S k v := rfl

/-- Head 0, chunk 5: what its store writes. -/
theorem out_0_5 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay39 (F := Ideal) gw (k0_pay37 (F := Ideal) dec qd S q k v) (k0_pay38 (F := Ideal) dec qd S q k v) g = OUT dec qd gw S q k v g := rfl

/-- Head 0, chunk 5: the state after it. -/
theorem next_0_5 (kd : FVec Ideal S256x1 .f32) (cd : FVec Ideal S1x128 .f32) (S : FVec Ideal S128x128 .f32) (k : FVec Ideal S256x128 .bf16) (v : FVec Ideal S256x128 .bf16) :
    k0_pay36 (F := Ideal) kd cd S k v = NEXT kd cd S k v := rfl

/-- Head 0, chunk 6: what its store writes. -/
theorem out_0_6 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay44 (F := Ideal) gw (k0_pay40 (F := Ideal) dec qd S q k v) g = OUT dec qd gw S q k v g := rfl

/-- Head 0, chunk 6: the state after it. -/
theorem next_0_6 (kd : FVec Ideal S256x1 .f32) (cd : FVec Ideal S1x128 .f32) (S : FVec Ideal S128x128 .f32) (k : FVec Ideal S256x128 .bf16) (v : FVec Ideal S256x128 .bf16) :
    k0_pay43 (F := Ideal) k (k0_pay41 (F := Ideal) kd v) (k0_pay42 (F := Ideal) cd S) = NEXT kd cd S k v := rfl

/-- Head 0, chunk 7: what its store writes. -/
theorem out_0_7 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay46 (F := Ideal) qd gw S q v (k0_pay45 (F := Ideal) dec q k) g = OUT dec qd gw S q k v g := rfl

/-- Head 1: its `dec` payload. -/
theorem dec_1 (lg : Elt Ideal .f32) :
    k0_pay48 (F := Ideal) (k0_pay9 (F := Ideal)) lg (k0_pay47 (F := Ideal)) = DEC lg := rfl

/-- Head 1: its `qd` payload. -/
theorem qd_1 (lg : Elt Ideal .f32) :
    k0_pay49 (F := Ideal) (k0_pay10 (F := Ideal)) lg = QD lg := rfl

/-- Head 1: its `kd` payload. -/
theorem kd_1 (lg : Elt Ideal .f32) :
    k0_pay50 (F := Ideal) (k0_pay10 (F := Ideal)) lg = KD lg := rfl

/-- Head 1: its `cd` payload. -/
theorem cd_1 (lg : Elt Ideal .f32) :
    k0_pay51 (F := Ideal) lg = CD lg := rfl

/-- Head 1: its `gw` payload. -/
theorem gw_1 (w : FVec Ideal S1x128 .f32) :
    k0_pay52 (F := Ideal) w = GW w := rfl

/-- Head 1, chunk 0: what its store writes. -/
theorem out_1_0 (lg : Elt Ideal .f32) (gw : FVec Ideal S1x128 .f32) (q : FVec Ideal S256x128 .bf16) (k : FVec Ideal S256x128 .bf16) (v : FVec Ideal S256x128 .bf16) (g : FVec Ideal S256x128 .bf16) :
    k0_pay56 (F := Ideal) gw (k0_pay54 (F := Ideal) (k0_pay9 (F := Ideal)) (k0_pay10 (F := Ideal)) lg (k0_pay47 (F := Ideal)) q k v) g = OUT (DEC lg) (QD lg) gw ZERO q k v g := rfl

/-- Head 1, chunk 0: the state after it. -/
theorem next_1_0 (kd : FVec Ideal S256x1 .f32) (cd : FVec Ideal S1x128 .f32) (k : FVec Ideal S256x128 .bf16) (v : FVec Ideal S256x128 .bf16) :
    k0_pay55 (F := Ideal) kd cd (k0_pay53 (F := Ideal)) k v = NEXT kd cd ZERO k v := rfl

/-- Head 1, chunk 1: what its store writes. -/
theorem out_1_1 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay61 (F := Ideal) (k0_pay58 (F := Ideal) dec qd gw S q k v) (k0_pay59 (F := Ideal) g) (k0_pay60 (F := Ideal) g) = OUT dec qd gw S q k v g := rfl

/-- Head 1, chunk 1: the state after it. -/
theorem next_1_1 (kd : FVec Ideal S256x1 .f32) (cd : FVec Ideal S1x128 .f32) (S : FVec Ideal S128x128 .f32) (k : FVec Ideal S256x128 .bf16) (v : FVec Ideal S256x128 .bf16) :
    k0_pay57 (F := Ideal) kd cd S k v = NEXT kd cd S k v := rfl

/-- Head 1, chunk 2: what its store writes. -/
theorem out_1_2 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay64 (F := Ideal) (k0_pay63 (F := Ideal) dec qd gw S q k v) g = OUT dec qd gw S q k v g := rfl

/-- Head 1, chunk 2: the state after it. -/
theorem next_1_2 (kd : FVec Ideal S256x1 .f32) (cd : FVec Ideal S1x128 .f32) (S : FVec Ideal S128x128 .f32) (k : FVec Ideal S256x128 .bf16) (v : FVec Ideal S256x128 .bf16) :
    k0_pay62 (F := Ideal) kd cd S k v = NEXT kd cd S k v := rfl

/-- Head 1, chunk 3: what its store writes. -/
theorem out_1_3 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay68 (F := Ideal) gw (k0_pay66 (F := Ideal) dec qd S q k v) (k0_pay67 (F := Ideal) dec qd S q k v) g = OUT dec qd gw S q k v g := rfl

/-- Head 1, chunk 3: the state after it. -/
theorem next_1_3 (kd : FVec Ideal S256x1 .f32) (cd : FVec Ideal S1x128 .f32) (S : FVec Ideal S128x128 .f32) (k : FVec Ideal S256x128 .bf16) (v : FVec Ideal S256x128 .bf16) :
    k0_pay65 (F := Ideal) kd cd S k v = NEXT kd cd S k v := rfl

/-- Head 1, chunk 4: what its store writes. -/
theorem out_1_4 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay72 (F := Ideal) gw (k0_pay69 (F := Ideal) dec qd S q k v) g = OUT dec qd gw S q k v g := rfl

/-- Head 1, chunk 4: the state after it. -/
theorem next_1_4 (kd : FVec Ideal S256x1 .f32) (cd : FVec Ideal S1x128 .f32) (S : FVec Ideal S128x128 .f32) (k : FVec Ideal S256x128 .bf16) (v : FVec Ideal S256x128 .bf16) :
    k0_pay71 (F := Ideal) cd S k (k0_pay70 (F := Ideal) kd v) = NEXT kd cd S k v := rfl

/-- Head 1, chunk 5: what its store writes. -/
theorem out_1_5 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    (k0_pay75 (F := Ideal) dec qd gw S q v (k0_pay73 (F := Ideal) q k) g) = OUT dec qd gw S q k v g := rfl

/-- Head 1, chunk 5: the state after it. -/
theorem next_1_5 (kd : FVec Ideal S256x1 .f32) (cd : FVec Ideal S1x128 .f32) (S : FVec Ideal S128x128 .f32) (k : FVec Ideal S256x128 .bf16) (v : FVec Ideal S256x128 .bf16) :
    k0_pay74 (F := Ideal) kd cd S k v = NEXT kd cd S k v := rfl

/-- Head 1, chunk 6: what its store writes. -/
theorem out_1_6 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay79 (F := Ideal) (k0_pay77 (F := Ideal) dec qd gw S q k v) (k0_pay78 (F := Ideal) g) = OUT dec qd gw S q k v g := rfl

/-- Head 1, chunk 6: the state after it. -/
theorem next_1_6 (kd : FVec Ideal S256x1 .f32) (cd : FVec Ideal S1x128 .f32) (S : FVec Ideal S128x128 .f32) (k : FVec Ideal S256x128 .bf16) (v : FVec Ideal S256x128 .bf16) :
    k0_pay76 (F := Ideal) kd cd S k v = NEXT kd cd S k v := rfl

/-- Head 1, chunk 7: what its store writes. -/
theorem out_1_7 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay82 (F := Ideal) (k0_pay80 (F := Ideal) dec qd S q k v) (k0_pay81 (F := Ideal) gw) g = OUT dec qd gw S q k v g := rfl

/-- Head 2: its `dec` payload. -/
theorem dec_2 (lg : Elt Ideal .f32) :
    k0_pay83 (F := Ideal) (k0_pay9 (F := Ideal)) lg = DEC lg := rfl

/-- Head 2: its `qd` payload. -/
theorem qd_2 (lg : Elt Ideal .f32) :
    k0_pay84 (F := Ideal) (k0_pay10 (F := Ideal)) lg = QD lg := rfl

/-- Head 2: its `kd` payload. -/
theorem kd_2 (lg : Elt Ideal .f32) :
    k0_pay85 (F := Ideal) (k0_pay10 (F := Ideal)) lg = KD lg := rfl

/-- Head 2: its `cd` payload. -/
theorem cd_2 (lg : Elt Ideal .f32) :
    k0_pay87 (F := Ideal) lg (k0_pay86 (F := Ideal)) = CD lg := rfl

/-- Head 2: its `gw` payload. -/
theorem gw_2 (w : FVec Ideal S1x128 .f32) :
    k0_pay88 (F := Ideal) w = GW w := rfl

/-- Head 2, chunk 0: what its store writes. -/
theorem out_2_0 (dec : FVec Ideal S256x256 .f32) (qd : FVec Ideal S256x1 .f32) (gw : FVec Ideal S1x128 .f32) (q : FVec Ideal S256x128 .bf16) (k : FVec Ideal S256x128 .bf16) (v : FVec Ideal S256x128 .bf16) (g : FVec Ideal S256x128 .bf16) :
    k0_pay92 (F := Ideal) gw (k0_pay91 (F := Ideal) dec qd q k v) g = OUT dec qd gw ZERO q k v g := rfl

/-- Head 2, chunk 0: the state after it. -/
theorem next_2_0 (lg : Elt Ideal .f32) (kd : FVec Ideal S256x1 .f32) (k : FVec Ideal S256x128 .bf16) (v : FVec Ideal S256x128 .bf16) :
    k0_pay90 (F := Ideal) lg kd (k0_pay86 (F := Ideal)) k v = NEXT kd (CD lg) ZERO k v := rfl

/-- Head 2, chunk 1: what its store writes. -/
theorem out_2_1 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay96 (F := Ideal) gw (k0_pay93 (F := Ideal) dec qd S q k v) (k0_pay95 (F := Ideal) dec qd S q k v) g = OUT dec qd gw S q k v g := rfl

/-- Head 2, chunk 1: the state after it. -/
theorem next_2_1 (kd : FVec Ideal S256x1 .f32) (cd : FVec Ideal S1x128 .f32) (S : FVec Ideal S128x128 .f32) (k : FVec Ideal S256x128 .bf16) (v : FVec Ideal S256x128 .bf16) :
    k0_pay94 (F := Ideal) kd cd S k v = NEXT kd cd S k v := rfl

/-- Head 2, chunk 2: what its store writes. -/
theorem out_2_2 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay101 (F := Ideal) gw (k0_pay97 (F := Ideal) dec qd S q k v) g = OUT dec qd gw S q k v g := rfl

/-- Head 2, chunk 2: the state after it. -/
theorem next_2_2 (kd : FVec Ideal S256x1 .f32) (cd : FVec Ideal S1x128 .f32) (S : FVec Ideal S128x128 .f32) (k : FVec Ideal S256x128 .bf16) (v : FVec Ideal S256x128 .bf16) :
    k0_pay100 (F := Ideal) cd S k (k0_pay98 (F := Ideal) v) (k0_pay99 (F := Ideal) kd) = NEXT kd cd S k v := rfl

/-- Head 2, chunk 3: what its store writes. -/
theorem out_2_3 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay104 (F := Ideal) (k0_pay103 (F := Ideal) dec qd gw S q k v g) = OUT dec qd gw S q k v g := rfl

/-- Head 2, chunk 3: the state after it. -/
theorem next_2_3 (kd : FVec Ideal S256x1 .f32) (cd : FVec Ideal S1x128 .f32) (S : FVec Ideal S128x128 .f32) (k : FVec Ideal S256x128 .bf16) (v : FVec Ideal S256x128 .bf16) :
    k0_pay102 (F := Ideal) kd cd S k v = NEXT kd cd S k v := rfl

/-- Head 2, chunk 4: what its store writes. -/
theorem out_2_4 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay107 (F := Ideal) (k0_pay106 (F := Ideal) dec qd gw S q k v) g = OUT dec qd gw S q k v g := rfl

/-- Head 2, chunk 4: the state after it. -/
theorem next_2_4 (kd : FVec Ideal S256x1 .f32) (cd : FVec Ideal S1x128 .f32) (S : FVec Ideal S128x128 .f32) (k : FVec Ideal S256x128 .bf16) (v : FVec Ideal S256x128 .bf16) :
    k0_pay105 (F := Ideal) kd cd S k v = NEXT kd cd S k v := rfl

/-- Head 2, chunk 5: what its store writes. -/
theorem out_2_5 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay111 (F := Ideal) gw (k0_pay109 (F := Ideal) dec qd S q k v) (k0_pay110 (F := Ideal) dec qd S q k v) g = OUT dec qd gw S q k v g := rfl

/-- Head 2, chunk 5: the state after it. -/
theorem next_2_5 (kd : FVec Ideal S256x1 .f32) (cd : FVec Ideal S1x128 .f32) (S : FVec Ideal S128x128 .f32) (k : FVec Ideal S256x128 .bf16) (v : FVec Ideal S256x128 .bf16) :
    k0_pay108 (F := Ideal) kd cd S k v = NEXT kd cd S k v := rfl

/-- Head 2, chunk 6: what its store writes. -/
theorem out_2_6 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay116 (F := Ideal) gw (k0_pay112 (F := Ideal) dec qd S q k v) g = OUT dec qd gw S q k v g := rfl

/-- Head 2, chunk 6: the state after it. -/
theorem next_2_6 (kd : FVec Ideal S256x1 .f32) (cd : FVec Ideal S1x128 .f32) (S : FVec Ideal S128x128 .f32) (k : FVec Ideal S256x128 .bf16) (v : FVec Ideal S256x128 .bf16) :
    k0_pay115 (F := Ideal) k (k0_pay113 (F := Ideal) kd v) (k0_pay114 (F := Ideal) cd S) = NEXT kd cd S k v := rfl

/-- Head 2, chunk 7: what its store writes. -/
theorem out_2_7 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay118 (F := Ideal) qd gw S q v (k0_pay117 (F := Ideal) dec q k) g = OUT dec qd gw S q k v g := rfl

/-- Head 3: its `dec` payload. -/
theorem dec_3 (lg : Elt Ideal .f32) :
    k0_pay120 (F := Ideal) (k0_pay9 (F := Ideal)) lg (k0_pay119 (F := Ideal)) = DEC lg := rfl

/-- Head 3: its `qd` payload. -/
theorem qd_3 (lg : Elt Ideal .f32) :
    k0_pay121 (F := Ideal) (k0_pay10 (F := Ideal)) lg = QD lg := rfl

/-- Head 3: its `kd` payload. -/
theorem kd_3 (lg : Elt Ideal .f32) :
    k0_pay122 (F := Ideal) (k0_pay10 (F := Ideal)) lg = KD lg := rfl

/-- Head 3: its `cd` payload. -/
theorem cd_3 (lg : Elt Ideal .f32) :
    k0_pay123 (F := Ideal) lg = CD lg := rfl

/-- Head 3: its `gw` payload. -/
theorem gw_3 (w : FVec Ideal S1x128 .f32) :
    k0_pay124 (F := Ideal) w = GW w := rfl

/-- Head 3, chunk 0: what its store writes. -/
theorem out_3_0 (lg : Elt Ideal .f32) (gw : FVec Ideal S1x128 .f32) (q : FVec Ideal S256x128 .bf16) (k : FVec Ideal S256x128 .bf16) (v : FVec Ideal S256x128 .bf16) (g : FVec Ideal S256x128 .bf16) :
    k0_pay128 (F := Ideal) gw (k0_pay126 (F := Ideal) (k0_pay9 (F := Ideal)) (k0_pay10 (F := Ideal)) lg (k0_pay119 (F := Ideal)) q k v) g = OUT (DEC lg) (QD lg) gw ZERO q k v g := rfl

/-- Head 3, chunk 0: the state after it. -/
theorem next_3_0 (kd : FVec Ideal S256x1 .f32) (cd : FVec Ideal S1x128 .f32) (k : FVec Ideal S256x128 .bf16) (v : FVec Ideal S256x128 .bf16) :
    k0_pay127 (F := Ideal) kd cd (k0_pay125 (F := Ideal)) k v = NEXT kd cd ZERO k v := rfl

/-- Head 3, chunk 1: what its store writes. -/
theorem out_3_1 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay133 (F := Ideal) (k0_pay130 (F := Ideal) dec qd gw S q k v) (k0_pay131 (F := Ideal) g) (k0_pay132 (F := Ideal) g) = OUT dec qd gw S q k v g := rfl

/-- Head 3, chunk 1: the state after it. -/
theorem next_3_1 (kd : FVec Ideal S256x1 .f32) (cd : FVec Ideal S1x128 .f32) (S : FVec Ideal S128x128 .f32) (k : FVec Ideal S256x128 .bf16) (v : FVec Ideal S256x128 .bf16) :
    k0_pay129 (F := Ideal) kd cd S k v = NEXT kd cd S k v := rfl

/-- Head 3, chunk 2: what its store writes. -/
theorem out_3_2 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay136 (F := Ideal) (k0_pay135 (F := Ideal) dec qd gw S q k v) g = OUT dec qd gw S q k v g := rfl

/-- Head 3, chunk 2: the state after it. -/
theorem next_3_2 (kd : FVec Ideal S256x1 .f32) (cd : FVec Ideal S1x128 .f32) (S : FVec Ideal S128x128 .f32) (k : FVec Ideal S256x128 .bf16) (v : FVec Ideal S256x128 .bf16) :
    k0_pay134 (F := Ideal) kd cd S k v = NEXT kd cd S k v := rfl

/-- Head 3, chunk 3: what its store writes. -/
theorem out_3_3 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay140 (F := Ideal) gw (k0_pay138 (F := Ideal) dec qd S q k v) (k0_pay139 (F := Ideal) dec qd S q k v) g = OUT dec qd gw S q k v g := rfl

/-- Head 3, chunk 3: the state after it. -/
theorem next_3_3 (kd : FVec Ideal S256x1 .f32) (cd : FVec Ideal S1x128 .f32) (S : FVec Ideal S128x128 .f32) (k : FVec Ideal S256x128 .bf16) (v : FVec Ideal S256x128 .bf16) :
    k0_pay137 (F := Ideal) kd cd S k v = NEXT kd cd S k v := rfl

/-- Head 3, chunk 4: what its store writes. -/
theorem out_3_4 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay144 (F := Ideal) gw (k0_pay141 (F := Ideal) dec qd S q k v) g = OUT dec qd gw S q k v g := rfl

/-- Head 3, chunk 4: the state after it. -/
theorem next_3_4 (kd : FVec Ideal S256x1 .f32) (cd : FVec Ideal S1x128 .f32) (S : FVec Ideal S128x128 .f32) (k : FVec Ideal S256x128 .bf16) (v : FVec Ideal S256x128 .bf16) :
    k0_pay143 (F := Ideal) cd S k (k0_pay142 (F := Ideal) kd v) = NEXT kd cd S k v := rfl

/-- Head 3, chunk 5: what its store writes. -/
theorem out_3_5 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    (k0_pay147 (F := Ideal) dec qd gw S q v (k0_pay145 (F := Ideal) q k) g) = OUT dec qd gw S q k v g := rfl

/-- Head 3, chunk 5: the state after it. -/
theorem next_3_5 (kd : FVec Ideal S256x1 .f32) (cd : FVec Ideal S1x128 .f32) (S : FVec Ideal S128x128 .f32) (k : FVec Ideal S256x128 .bf16) (v : FVec Ideal S256x128 .bf16) :
    k0_pay146 (F := Ideal) kd cd S k v = NEXT kd cd S k v := rfl

/-- Head 3, chunk 6: what its store writes. -/
theorem out_3_6 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay151 (F := Ideal) (k0_pay149 (F := Ideal) dec qd gw S q k v) (k0_pay150 (F := Ideal) g) = OUT dec qd gw S q k v g := rfl

/-- Head 3, chunk 6: the state after it. -/
theorem next_3_6 (kd : FVec Ideal S256x1 .f32) (cd : FVec Ideal S1x128 .f32) (S : FVec Ideal S128x128 .f32) (k : FVec Ideal S256x128 .bf16) (v : FVec Ideal S256x128 .bf16) :
    k0_pay148 (F := Ideal) kd cd S k v = NEXT kd cd S k v := rfl

/-- Head 3, chunk 7: what its store writes. -/
theorem out_3_7 (dec : FVec Ideal S256x256 .f32) (qd : FVec Ideal S256x1 .f32) (gw : FVec Ideal S1x128 .f32) (S : FVec Ideal S128x128 .f32) (q : FVec Ideal S256x128 .bf16) (k : FVec Ideal S256x128 .bf16) (v : FVec Ideal S256x128 .bf16) (g : FVec Ideal S256x128 .bf16) :
    k0_pay1 (F := Ideal) (k0_pay154 (F := Ideal) (k0_pay152 (F := Ideal) dec qd S q k v) (k0_pay153 (F := Ideal) gw) g) = OUT dec qd gw S q k v g := rfl

end Cert.RetKIdeal.Value

end
-- ==== Proof.RetMath.lean ====
/- The arithmetic of a retention head over the reals: the state carried from chunk to chunk and
the rows of the output, in closed form, and how each follows from the chunk before. Nothing here
depends on the length of a chunk, so the two programs may cut the sequence differently. -/
module

public import Idealize.ShloMosaic.Lib.Pointwise
public import Idealize.ShloMosaic.Lib.Claim
public import proofs.«01_k».proof.Proof.Scalar

@[expose] public section

open Idealize.ShloMosaic
open scoped BigOperators

namespace Cert.Retention

/-- One entry of the state after `n` rows: every row decays by `γ` for each row after it. -/
noncomputable def state (γ s : ℝ) (k v : ℕ → ℝ) (n : ℕ) : ℝ :=
  ∑ j ∈ Finset.range n, γ ^ (n - 1 - j) * (s * (k j * v j))

/-- One entry of row `n` of the output, from that row's products with the keys. -/
noncomputable def row (γ s : ℝ) (p v : ℕ → ℝ) (n : ℕ) : ℝ :=
  ∑ j ∈ Finset.range (n + 1), γ ^ (n - j) * (s * (p j * v j))

/-- The state before the first row is zero. -/
theorem state_zero (γ s : ℝ) (k v : ℕ → ℝ) : state γ s k v 0 = 0 := by
  simp [state]

/-- The state after a chunk of `C` rows, from the state before it. -/
theorem state_add (γ s : ℝ) (k v : ℕ → ℝ) (n C : ℕ) :
    state γ s k v (n + C) = state γ s k v n * γ ^ C
      + ∑ c : Fin C, γ ^ (C - 1 - c.val) * (s * (k (n + c.val) * v (n + c.val))) := by
  unfold state
  rw [Fin.sum_univ_eq_sum_range (fun c => γ ^ (C - 1 - c) * (s * (k (n + c) * v (n + c)))) C,
    Finset.sum_range_add, Finset.sum_mul]
  congr 1
  · refine Finset.sum_congr rfl fun j hj => ?_
    have hj := Finset.mem_range.mp hj
    have : n + C - 1 - j = (n - 1 - j) + C := by omega
    rw [this, pow_add]; ring
  · refine Finset.sum_congr rfl fun c _ => ?_
    have : n + C - 1 - (n + c) = C - 1 - c := by omega
    rw [this]

/-- A row's products with the state are the state of its products with the keys. -/
theorem state_sum {ι : Type} [Fintype ι] (γ s : ℝ) (q : ι → ℝ) (k : ℕ → ι → ℝ) (v : ℕ → ℝ)
    (n : ℕ) : ∑ d, q d * state γ s (fun j => k j d) v n
      = state γ s (fun j => ∑ d, q d * k j d) v n := by
  unfold state
  simp only [Finset.mul_sum, Finset.sum_mul]
  rw [Finset.sum_comm]
  refine Finset.sum_congr rfl fun j _ => ?_
  refine Finset.sum_congr rfl fun d _ => ?_
  ring

/-- A row of the output, from its own chunk up to it and the state before the chunk. -/
theorem row_add (γ s : ℝ) (p v : ℕ → ℝ) (n C r : ℕ) (hr : r < C) :
    row γ s p v (n + r) = ∑ c : Fin C, (if c.val ≤ r then γ ^ (r - c.val) else 0)
        * (s * (p (n + c.val) * v (n + c.val))) + state γ s p v n * γ ^ (r + 1) := by
  unfold row state
  rw [Fin.sum_univ_eq_sum_range
    (fun c => (if c ≤ r then γ ^ (r - c) else 0) * (s * (p (n + c) * v (n + c)))) C,
    show n + r + 1 = n + (r + 1) by omega, Finset.sum_range_add, add_comm, Finset.sum_mul]
  congr 1
  · rw [← Finset.sum_subset (Finset.range_mono (by omega : r + 1 ≤ C))]
    · refine Finset.sum_congr rfl fun c hc => ?_
      have hc := Finset.mem_range.mp hc
      have : n + r - (n + c) = r - c := by omega
      rw [this, if_pos (by omega)]
    · intro c _ hc
      have hc : ¬ c < r + 1 := fun h => hc (Finset.mem_range.mpr h)
      rw [if_neg (by omega), zero_mul]
  · refine Finset.sum_congr rfl fun j hj => ?_
    have hj := Finset.mem_range.mp hj
    have : n + r - j = (n - 1 - j) + (r + 1) := by omega
    rw [this, pow_add]; ring

/-- The scale of the keys: the programs' constant, a float near `128 ^ (-1/2)`. -/
noncomputable def scale : ℝ := 11863283 / 134217728

/-- The pattern of the scale denotes it. -/
theorem ofBits_scale : Ideal.ofBits .f32 0x3DB504F3#32 = (scale : EReal) := by
  unfold scale
  simp [Ideal.ofBits, Ideal.ieee, -EReal.coe_mul]; norm_num

/-- The pattern of 127. -/
theorem ofBits_127 : Ideal.ofBits .f32 1123942400#32 = ((127 : ℝ) : EReal) := by
  simp [Ideal.ofBits, Ideal.ieee, -EReal.coe_mul]; norm_num

/-- The pattern of 128. -/
theorem ofBits_128 : Ideal.ofBits .f32 1124073472#32 = ((128 : ℝ) : EReal) := by
  simp [Ideal.ofBits, Ideal.ieee, -EReal.coe_mul]; norm_num

/-- The pattern of 255. -/
theorem ofBits_255 : Ideal.ofBits .f32 1132396544#32 = ((255 : ℝ) : EReal) := by
  simp [Ideal.ofBits, Ideal.ieee, -EReal.coe_mul]; norm_num

/-- The pattern of 256. -/
theorem ofBits_256 : Ideal.ofBits .f32 1132462080#32 = ((256 : ℝ) : EReal) := by
  simp [Ideal.ofBits, Ideal.ieee, -EReal.coe_mul]; norm_num

/-- The pattern of 2. -/
theorem ofBits_2 : Ideal.ofBits .f32 1073741824#32 = ((2 : ℝ) : EReal) := by
  simp [Ideal.ofBits, Ideal.ieee, -EReal.coe_mul]; norm_num

/-- The pattern of -5. -/
theorem ofBits_m5 : Ideal.ofBits .f32 3231711232#32 = ((-5 : ℝ) : EReal) := by
  simp [Ideal.ofBits, Ideal.ieee, -EReal.coe_mul]; norm_num

/-- A small word, read signed, is its number. -/
theorem toInt_small (n : ℕ) (h : n < 2048) : (BitVec.ofNat 32 n).toInt = (n : ℤ) := by
  have e : (BitVec.ofNat 32 n).toNat = n := by rw [BitVec.toNat_ofNat]; omega
  rw [BitVec.toInt_eq_toNat_of_lt (by rw [e]; omega), e]

/-- A small word, converted to a float, is its number. -/
theorem sitofp_ofNat (n : ℕ) (h : n < 2048) :
    (FloatOps.sitofp .f32 (BitVec.ofNat 32 n) : Ideal .f32) = ((n : ℝ) : EReal) := by
  show (((BitVec.ofNat 32 n).toInt : ℝ) : EReal) = _
  rw [toInt_small n h, Int.cast_natCast]

/-- The difference of two small words, converted to a float, is their difference. -/
theorem sitofp_sub (a b : ℕ) (ha : a < 2048) (hb : b < 2048) :
    (FloatOps.sitofp .f32 (IntOp.subi (BitVec.ofNat 32 a) (BitVec.ofNat 32 b)) : Ideal .f32)
      = (((a : ℝ) - (b : ℝ) : ℝ) : EReal) := by
  show (((BitVec.ofNat 32 a - BitVec.ofNat 32 b).toInt : ℝ) : EReal) = _
  rw [BitVec.toInt_sub, toInt_small a ha, toInt_small b hb, Int.bmod_eq_of_le (by omega) (by omega)]
  push_cast
  rfl

/-- The logarithm of head `h`'s decay. -/
noncomputable def logDecay (h : ℕ) : ℝ := Real.log (1 - Real.rpow 2 (-5 - (h : ℝ)))

/-- The logarithm of the decay, as both programs compute it from the head's number. -/
theorem logDecay_eq (h : ℕ) (hh : h < 8) :
    Ideal.log1p (-Ideal.pow (Ideal.ofBits .f32 1073741824#32)
      (Ideal.ofBits .f32 3231711232#32 - (FloatOps.sitofp .f32 (BitVec.ofNat 32 h) : Ideal .f32)))
      = (logDecay h : EReal) := by
  rw [ofBits_2, ofBits_m5, sitofp_ofNat h (by omega)]
  have hlt : Real.rpow 2 (-5 - (h : ℝ)) < 1 :=
    Real.rpow_lt_one_of_one_lt_of_neg (by norm_num) (by have : (0 : ℝ) ≤ h := Nat.cast_nonneg h; linarith)
  have e : (1 : EReal) + -Ideal.pow ((2 : ℝ) : EReal) (((-5 : ℝ) : EReal) - ((h : ℝ) : EReal))
      = ((1 - Real.rpow 2 (-5 - (h : ℝ)) : ℝ) : EReal) := by
    rw [← EReal.coe_sub, sub_eq_add_neg (1 : ℝ), EReal.coe_add, EReal.coe_neg, EReal.coe_one]
    rfl
  show Ideal.log _ = _
  rw [e]
  show (if 1 - Real.rpow 2 (-5 - (h : ℝ)) ≤ 0 then (⊥ : EReal) else _) = _
  rw [if_neg (by linarith)]
  rfl

/-- The exponential of a multiple is a power of the decay. -/
theorem exp_mul (g : ℝ) (n : ℕ) (x : ℝ) (hx : x = n) :
    Ideal.exp ((g : EReal) * (x : EReal)) = ((Real.exp g ^ n : ℝ) : EReal) := by
  rw [← EReal.coe_mul, hx, ← Real.exp_nat_mul, mul_comm (n : ℝ)]
  rfl

/-- The masked decay between two rows: the power of the decay where the row is not before the column. -/
theorem decay_real (g : ℝ) (r c : ℕ) :
    (if (0 : EReal) ≤ (((r : ℝ) - (c : ℝ) : ℝ) : EReal)
      then Ideal.exp ((g : EReal) * max (((r : ℝ) - (c : ℝ) : ℝ) : EReal) 0) else 0)
      = ((if c ≤ r then Real.exp g ^ (r - c) else 0 : ℝ) : EReal) := by
  by_cases h : c ≤ r
  · have e : (r : ℝ) - (c : ℝ) = ((r - c : ℕ) : ℝ) := (Nat.cast_sub h).symm
    have h0 : (0 : EReal) ≤ (((r - c : ℕ) : ℝ) : EReal) := EReal.coe_nonneg.mpr (Nat.cast_nonneg _)
    rw [e, if_pos h0, if_pos h, max_eq_left h0, exp_mul g (r - c) _ rfl]
  · have h0 : ¬ (0 : EReal) ≤ (((r : ℝ) - (c : ℝ) : ℝ) : EReal) := by
      rw [EReal.coe_nonneg, not_le, sub_neg]
      exact Nat.cast_lt.mpr (not_le.mp h)
    rw [if_neg h0, if_neg h, EReal.coe_zero]

/-- Entry `e` of a head's row `o` after the group norm, scaled by `w` and gated by the logistic function of `g` times `g`. -/
noncomputable def normed (o : Fin 128 → EReal) (g w : EReal) (e : Fin 128) : EReal :=
  g * Ideal.div 1 (1 + Ideal.exp (-g)) *
    ((o e - Ideal.div (∑ l, o l) (Ideal.ofBits .f32 1124073472#32)) *
      Ideal.rsqrt (Ideal.div (∑ l, (o l - Ideal.div (∑ l, o l) (Ideal.ofBits .f32 1124073472#32)) * (o l - Ideal.div (∑ l, o l) (Ideal.ofBits .f32 1124073472#32)))
        (Ideal.ofBits .f32 1124073472#32) + Ideal.ofBits .f32 925353388#32) * w)

end Cert.Retention

end
-- ==== Proof.RetChunk.lean ====
/- The retention kernel's payloads at an entry, and over real rows: one chunk of 256 rows takes the closed form of the
   state to the next chunk's, and leaves the closed form of the output's rows. -/
module

public import proofs.«01_k».proof.Proof.Gen.RetKIdeal.Value
public import proofs.«01_k».proof.Proof.Gen.RetRIdeal.Run
public import proofs.«01_k».proof.Proof.RetPay
public import proofs.«01_k».proof.Proof.RetMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.RetKIdeal.Value

open Cert.RetKIdeal Cert.RetKIdeal.Gen Cert.Retention

/-- The table of row differences. -/
theorem pay9_apply (r c : Fin 256) : k0_pay9 (F := Ideal) (ix2 r c) = (((r.val : ℝ) - (c.val : ℝ) : ℝ) : EReal) := by
  pointwise [k0_pay9]
  exact sitofp_sub _ _ (by omega) (by omega)

/-- The table of row numbers. -/
theorem pay10_apply (r : Fin 256) : k0_pay10 (F := Ideal) (ix2 r 0) = ((r.val : ℝ) : EReal) := by
  pointwise [k0_pay10]
  exact sitofp_ofNat _ (by omega)

/-- The scaled decay between two rows of a chunk. -/
theorem dec_apply (g : ℝ) (r c : Fin 256) :
    DEC (g : EReal) (ix2 r c) = (((if c.val ≤ r.val then Real.exp g ^ (r.val - c.val) else 0) * scale : ℝ) : EReal) := by
  have e : DEC (g : EReal) (ix2 r c) = (if 0 ≤ k0_pay9 (F := Ideal) (ix2 r c) then Ideal.exp ((g : EReal) * max (k0_pay9 (F := Ideal) (ix2 r c)) 0) else 0)
      * Ideal.ofBits FTy.f32 1035273459#32 := by pointwise [DEC, k0_pay11]
  rw [e, pay9_apply, decay_real, ofBits_scale, ← EReal.coe_mul]

/-- The decay of a row from the start of its chunk. -/
theorem qd_apply (g : ℝ) (r : Fin 256) : QD (g : EReal) (ix2 r 0) = ((Real.exp g ^ (r.val + 1) : ℝ) : EReal) := by
  have e : QD (g : EReal) (ix2 r 0) = Ideal.exp ((g : EReal) * (k0_pay10 (F := Ideal) (ix2 r 0) + 1)) := by pointwise [QD, k0_pay12]
  rw [e, pay10_apply, ← EReal.coe_one, ← EReal.coe_add, exp_mul g (r.val + 1) _ (by push_cast; ring)]

/-- The scaled decay of a row to the end of its chunk. -/
theorem kd_apply (g : ℝ) (r : Fin 256) : KD (g : EReal) (ix2 r 0) = ((Real.exp g ^ (256 - 1 - r.val) * scale : ℝ) : EReal) := by
  have e : KD (g : EReal) (ix2 r 0) = Ideal.exp ((g : EReal) * (Ideal.ofBits FTy.f32 1132396544#32 - k0_pay10 (F := Ideal) (ix2 r 0)))
      * Ideal.ofBits FTy.f32 1035273459#32 := by pointwise [KD, k0_pay13]
  rw [e, pay10_apply, ofBits_255, ofBits_scale, ← EReal.coe_sub,
    exp_mul g (256 - 1 - r.val) _ (by rw [Nat.cast_sub (by omega)]; norm_num), ← EReal.coe_mul]

/-- The decay over a chunk. -/
theorem cd_apply (g : ℝ) (r : Fin 128) : CD (g : EReal) (ix2 0 r) = ((Real.exp g ^ 256 : ℝ) : EReal) := by
  have e : CD (g : EReal) (ix2 0 r) = Ideal.exp ((g : EReal) * Ideal.ofBits FTy.f32 1132462080#32) := by pointwise [CD, k0_pay15, k0_pay14]
  rw [e, ofBits_256, exp_mul g 256 _ (by norm_num)]

/-- The norm's weights are passed on. -/
theorem gw_apply (w : FVec Ideal S1x128 .f32) (e : Fin 128) : GW w (ix2 0 e) = w (ix2 0 e) := by
  pointwise [GW, k0_pay16]

/-- The first chunk's state is zero. -/
theorem zero_apply (d e : Fin 128) : ZERO (ix2 d e) = 0 := by
  pointwise [ZERO, k0_pay17]

/-- The next chunk's state at an entry. -/
theorem next_apply (kd : FVec Ideal S256x1 .f32) (cd : FVec Ideal S1x128 .f32) (S : FVec Ideal S128x128 .f32) (k v : FVec Ideal S256x128 .bf16) (d e : Fin 128) :
    NEXT kd cd S k v (ix2 d e) = S (ix2 d e) * cd (ix2 0 e) + ∑ x, k (ix2 x d) * (v (ix2 x e) * kd (ix2 x 0)) := by
  pointwise [NEXT, k0_pay22]

/-- A row of a chunk, before the norm. -/
theorem o_apply (dec : FVec Ideal S256x256 .f32) (qd : FVec Ideal S256x1 .f32) (S : FVec Ideal S128x128 .f32) (q k v : FVec Ideal S256x128 .bf16) (r : Fin 256) (e : Fin 128) :
    k0_pay21 (F := Ideal) dec qd S q k v (ix2 r e)
      = ∑ x, (∑ d, q (ix2 r d) * k (ix2 x d)) * dec (ix2 r x) * v (ix2 x e) + (∑ d, q (ix2 r d) * S (ix2 d e)) * qd (ix2 r 0) := by
  pointwise [k0_pay21]

/-- The mean of a row of a chunk. -/
theorem mean_apply (dec : FVec Ideal S256x256 .f32) (qd : FVec Ideal S256x1 .f32) (S : FVec Ideal S128x128 .f32) (q k v : FVec Ideal S256x128 .bf16) (r : Fin 256) (e : Fin 128) :
    k0_pay23 (F := Ideal) dec qd S q k v (ix2 r e)
      = Ideal.div (∑ x, k0_pay21 (F := Ideal) dec qd S q k v (ix2 r x)) (Ideal.ofBits FTy.f32 1124073472#32) := by
  unfold k0_pay23
  generalize k0_pay21 (F := Ideal) dec qd S q k v = o
  pointwise

/-- The group norm of a row `o`, scaled by `w` and gated by `g`. -/
theorem norm_apply (gw : FVec Ideal S1x128 .f32) (o x : FVec Ideal S256x128 .f32) (g : FVec Ideal S256x128 .bf16) (r : Fin 256) (e : Fin 128) :
    k0_pay24 (F := Ideal) gw o x g (ix2 r e) = g (ix2 r e) * Ideal.div 1 (1 + Ideal.exp (-g (ix2 r e))) *
      ((o (ix2 r e) - x (ix2 r e)) * Ideal.rsqrt (Ideal.div (∑ l, (o (ix2 r l) - x (ix2 r l)) * (o (ix2 r l) - x (ix2 r l)))
        (Ideal.ofBits FTy.f32 1124073472#32) + Ideal.ofBits FTy.f32 925353388#32) * gw (ix2 0 e)) := by
  rw [← Cert.Scalar.gate]
  pointwise [k0_pay24]

variable (g : ℝ) (q k v : ℕ → Fin 128 → ℝ)

/-- Over real rows, a chunk takes the state's closed form to the next chunk's. -/
theorem next_real (n : ℕ) (S : FVec Ideal S128x128 .f32) (K V : FVec Ideal S256x128 .bf16)
    (hS : ∀ d e, S (ix2 d e) = ((state (Real.exp g) scale (fun j => k j d) (fun j => v j e) n : ℝ) : EReal))
    (hk : ∀ c d, K (ix2 c d) = ((k (n + c.val) d : ℝ) : EReal)) (hv : ∀ c d, V (ix2 c d) = ((v (n + c.val) d : ℝ) : EReal))
    (d e : Fin 128) :
    NEXT (KD (g : EReal)) (CD (g : EReal)) S K V (ix2 d e)
      = ((state (Real.exp g) scale (fun j => k j d) (fun j => v j e) (n + 256) : ℝ) : EReal) := by
  rw [next_apply]
  simp only [hS, hk, hv, kd_apply, cd_apply, ← EReal.coe_mul, ← Cert.Scalar.coe_sum, ← EReal.coe_add]
  rw [state_add]
  congr 2
  refine Finset.sum_congr rfl fun c _ => ?_
  ring

/-- Over real rows, a chunk's output is the closed form's rows. -/
theorem o_real (n : ℕ) (S : FVec Ideal S128x128 .f32) (Q K V : FVec Ideal S256x128 .bf16)
    (hS : ∀ d e, S (ix2 d e) = ((state (Real.exp g) scale (fun j => k j d) (fun j => v j e) n : ℝ) : EReal))
    (hq : ∀ c d, Q (ix2 c d) = ((q (n + c.val) d : ℝ) : EReal))
    (hk : ∀ c d, K (ix2 c d) = ((k (n + c.val) d : ℝ) : EReal)) (hv : ∀ c d, V (ix2 c d) = ((v (n + c.val) d : ℝ) : EReal))
    (r : Fin 256) (e : Fin 128) :
    k0_pay21 (F := Ideal) (DEC (g : EReal)) (QD (g : EReal)) S Q K V (ix2 r e)
      = ((row (Real.exp g) scale (fun j => ∑ d, q (n + r.val) d * k j d) (fun j => v j e) (n + r.val) : ℝ) : EReal) := by
  rw [o_apply]
  simp only [hS, hq, hk, hv, dec_apply, qd_apply, ← EReal.coe_mul, ← Cert.Scalar.coe_sum, ← EReal.coe_add]
  rw [row_add _ _ _ _ n 256 r.val r.isLt, state_sum]
  congr 2
  refine Finset.sum_congr rfl fun c _ => ?_
  ring

end Cert.RetKIdeal.Value

end
-- ==== Proof.RetLoop.lean ====
/- The retention reference's loop: what it enters with, read at an entry from the arguments, and by induction over its
   sixteen chunks of 128 rows the closed forms of the state and of the rows it has written. -/
module

public import proofs.«01_k».proof.Proof.Gen.RetRIdeal.Run
public import proofs.«01_k».proof.Proof.RetFrame
public import proofs.«01_k».proof.Proof.RetMath
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.ShloMosaic.StableHlo Idealize.SL.Sem
open scoped BigOperators

namespace Cert.RetRIdeal.Value

open Cert.RetRIdeal Cert.RetRIdeal.Gen Cert.Retention

/-- The block of one chunk out of the sixteen. -/
theorem slice_at (x : FVec Ideal S16x4x8x128x128 .f32) (start : Fin 5 → Int) (hf : S16x4x8x128x128.Slices (fun _ => 0) S1x4x8x128x128) (k : Fin 16)
    (h0 : start 0 = k.val) (h1 : start 1 = 0) (h2 : start 2 = 0) (h3 : start 3 = 0) (h4 : start 4 = 0)
    (b : Fin 4) (h : Fin 8) (r d : Fin 128) :
    Host.dynamicSlice S1x4x8x128x128 x start hf (ix5 0 b h r d) = x (ix5 k b h r d) := by
  have cs : ∀ a, Host.clampedStart S16x4x8x128x128 S1x4x8x128x128 hf.1 start a = (![k.val, 0, 0, 0, 0] : Fin 5 → ℕ) a := fun a => by
    have := k.isLt
    refine Host.clampedStart_of_le hf.1 start a _ ?_ ?_
    · fin_cases a; exacts [h0, h1, h2, h3, h4]
    · fin_cases a <;> simp <;> omega
  rw [Host.dynamicSlice_apply, Shape.Idx.norm_def]
  congr 1
  funext a
  apply Fin.ext
  show Host.clampedStart S16x4x8x128x128 S1x4x8x128x128 hf.1 start a + _ = _
  rw [cs]
  fin_cases a <;> simp [ix5]

/-- A chunk without its leading axis. -/
theorem unit_apply (u : FVec Ideal S1x4x8x128x128 .f32) (b : Fin 4) (h : Fin 8) (r d : Fin 128) :
    shapeCast S4x8x128x128 u shapeCasts_S1x4x8x128x128_S4x8x128x128 (ix4 b h r d) = u (ix5 0 b h r d) := by
  pointwise

/-- A chunk with a leading axis. -/
theorem bunit_apply (u : FVec Ideal S4x8x128x128 .f32) (b : Fin 4) (h : Fin 8) (r d : Fin 128) :
    broadcastInDim S1x4x8x128x128 ![1, 2, 3, 4] bcast_S4x8x128x128_S1x4x8x128x128_1_2_3_4 u (ix5 0 b h r d) = u (ix4 b h r d) := by
  pointwise

/-- One chunk of the sixteen overwritten. -/
theorem update_at (x : FVec Ideal S16x4x8x128x128 .f32) (u : FVec Ideal S1x4x8x128x128 .f32) (start : Fin 5 → Int) (hf : S16x4x8x128x128.Slices (fun _ => 0) S1x4x8x128x128) (k : Fin 16)
    (h0 : start 0 = k.val) (h1 : start 1 = 0) (h2 : start 2 = 0) (h3 : start 3 = 0) (h4 : start 4 = 0)
    (i : Fin 16) (b : Fin 4) (h : Fin 8) (r d : Fin 128) :
    Host.dynamicUpdateSlice x u start hf (ix5 i b h r d) = if i = k then u (ix5 0 b h r d) else x (ix5 i b h r d) := by
  have cs : ∀ a, Host.clampedStart S16x4x8x128x128 S1x4x8x128x128 hf.1 start a = (![k.val, 0, 0, 0, 0] : Fin 5 → ℕ) a := fun a => by
    have := k.isLt
    refine Host.clampedStart_of_le hf.1 start a _ ?_ ?_
    · fin_cases a; exacts [h0, h1, h2, h3, h4]
    · fin_cases a <;> simp <;> omega
  rw [Host.dynamicUpdateSlice_apply]
  by_cases e : i = k
  · subst e
    rw [if_pos rfl, dif_pos (fun a => by rw [cs a]; fin_cases a <;> simp <;> omega)]
    congr 1
    funext a
    apply Fin.ext
    rw [Shape.Idx.norm_def]
    show (ix5 i b h r d (a.cast _)).val - Host.clampedStart S16x4x8x128x128 S1x4x8x128x128 hf.1 start (a.cast _) = _
    rw [cs]
    fin_cases a <;> simp [ix5]
  · rw [if_neg e, dif_neg]
    intro hin
    have := hin 0
    rw [cs 0] at this
    have h1 : k.val ≤ i.val ∧ i.val < k.val + 1 := this
    exact e (Fin.ext (by omega))

variable (m : (ℓ : Loc nD τ sig) → Buf (Elt Ideal) ℓ)

/-- The joint projection the call is given. -/
def Z (c : Dev nD) : FVec Ideal S8192x17408 .bf16 := m ((c : Thread nD τ).loc main_arg0)

/-- The rows of a batch, cut into heads and chunks, as the reference does it. -/
def CUT (x : FVec Ideal S4x2048x1024 .f32) : FVec Ideal S16x4x8x128x128 .f32 :=
  transpose S16x4x8x128x128 [2, 0, 1, 3, 4]
    (shapeCast S4x8x16x128x128 (transpose S4x8x2048x128 [0, 2, 1, 3] (shapeCast S4x2048x8x128 x shapeCasts_S4x2048x1024_S4x2048x8x128)
      transposes_S4x2048x8x128_S4x8x2048x128_0_2_1_3) shapeCasts_S4x8x2048x128_S4x8x16x128x128) transposes_S4x8x16x128x128_S16x4x8x128x128_2_0_1_3_4

/-- The same of rows scaled head by head. -/
def CUTS (x : FVec Ideal S4x2048x1024 .f32) : FVec Ideal S16x4x8x128x128 .f32 :=
  transpose S16x4x8x128x128 [2, 0, 1, 3, 4]
    (shapeCast S4x8x16x128x128 (mulf (transpose S4x8x2048x128 [0, 2, 1, 3] (shapeCast S4x2048x8x128 x shapeCasts_S4x2048x1024_S4x2048x8x128)
      transposes_S4x2048x8x128_S4x8x2048x128_0_2_1_3) (broadcastInDim S4x8x2048x128 ![] bcast_S_S4x8x2048x128 (constant S_ FTy.f32 0x3DB504F3#32)))
      shapeCasts_S4x8x2048x128_S4x8x16x128x128) transposes_S4x8x16x128x128_S16x4x8x128x128_2_0_1_3_4

/-- The projection as batches of rows. -/
def ROWS (z : FVec Ideal S8192x17408 .bf16) : FVec Ideal S4x2048x17408 .f32 :=
  shapeCast S4x2048x17408 (extf FTy.f32 z bitsLt_bf16_f32 : FVec Ideal S8192x17408 .f32) shapeCasts_S8192x17408_S4x2048x17408

/-- An entry of the heads' chunks of the columns from 0. -/
theorem cut0_apply (z : FVec Ideal S8192x17408 .bf16) (i : Fin 16) (b : Fin 4) (h : Fin 8) (r d : Fin 128) :
    CUT (extractStridedSlice S4x2048x1024 ![0, 0, 0] (ROWS z) slices_S4x2048x17408_S4x2048x1024_0_0_0) (ix5 i b h r d)
      = z (ix2 (⟨b.val * 2048 + (i.val * 128 + r.val), by omega⟩ : Fin 8192) (⟨(h.val * 128 + d.val), by omega⟩ : Fin 17408)) := by
  pointwise [CUT, ROWS]

/-- An entry of the heads' chunks of the columns from 1024. -/
theorem cut1_apply (z : FVec Ideal S8192x17408 .bf16) (i : Fin 16) (b : Fin 4) (h : Fin 8) (r d : Fin 128) :
    CUTS (extractStridedSlice S4x2048x1024 ![0, 0, 1024] (ROWS z) slices_S4x2048x17408_S4x2048x1024_0_0_1024) (ix5 i b h r d)
      = z (ix2 (⟨b.val * 2048 + (i.val * 128 + r.val), by omega⟩ : Fin 8192) (⟨1024 + (h.val * 128 + d.val), by omega⟩ : Fin 17408)) * (scale : EReal) := by
  rw [← ofBits_scale]
  pointwise [CUTS, ROWS]

/-- An entry of the heads' chunks of the columns from 2048. -/
theorem cut2_apply (z : FVec Ideal S8192x17408 .bf16) (i : Fin 16) (b : Fin 4) (h : Fin 8) (r d : Fin 128) :
    CUT (extractStridedSlice S4x2048x1024 ![0, 0, 2048] (ROWS z) slices_S4x2048x17408_S4x2048x1024_0_0_2048) (ix5 i b h r d)
      = z (ix2 (⟨b.val * 2048 + (i.val * 128 + r.val), by omega⟩ : Fin 8192) (⟨2048 + (h.val * 128 + d.val), by omega⟩ : Fin 17408)) := by
  pointwise [CUT, ROWS]

/-- The differences of two rows of a chunk, as the reference computes them. -/
def DIFF : FVec Ideal S128x128 .f32 :=
  subf (broadcastInDim S128x128 ![0, 1] bcast_S128x1_S128x128_0_1 (broadcastInDim S128x1 ![0] bcast_S128_S128x1_0 (sitofp FTy.f32 (iotaInDim S128 32 0))))
    (broadcastInDim S128x128 ![0, 1] bcast_S1x128_S128x128_0_1 (broadcastInDim S1x128 ![1] bcast_S128_S1x128_1 (sitofp FTy.f32 (iotaInDim S128 32 0))))

/-- The logarithms of the heads' decays, as the reference computes them. -/
def LG : FVec Ideal S8 .f32 :=
  Host.log1p (Host.negf (Host.powf (broadcastInDim S8 ![] bcast_S_S8 (constant S_ FTy.f32 1073741824#32))
    (subf (broadcastInDim S8 ![] bcast_S_S8 (constant S_ FTy.f32 3231711232#32)) (sitofp FTy.f32 (iotaInDim S8 32 0)))))

/-- The table of masked decays within a chunk, as the reference computes it. -/
def DECAY : FVec Ideal S8x128x128 .f32 :=
  select (broadcastInDim S8x128x128 ![1, 2] bcast_S128x128_S8x128x128_1_2
      (cmpf CmpFPredicate.oge (DIFF : FVec Ideal S128x128 .f32) (broadcastInDim S128x128 ![] bcast_S_S128x128 (constant S_ FTy.f32 0#32)) : IVec S128x128 1))
    (Host.exp (mulf
      (broadcastInDim S8x128x128 ![0, 1, 2] bcast_S8x1x1_S8x128x128_0_1_2 (broadcastInDim S8x1x1 ![0] bcast_S8_S8x1x1_0 LG))
      (broadcastInDim S8x128x128 ![0, 1, 2] bcast_S1x128x128_S8x128x128_0_1_2 (broadcastInDim S1x128x128 ![1, 2] bcast_S128x128_S1x128x128_1_2
        (maximumf DIFF (broadcastInDim S128x128 ![] bcast_S_S128x128 (constant S_ FTy.f32 0#32)))))))
    (broadcastInDim S8x128x128 ![] bcast_S_S8x128x128 (constant S_ FTy.f32 0#32))

/-- The queries, chunk by chunk, as the loop is entered. -/
def E0 (c : Dev nD) : FVec Ideal S16x4x8x128x128 .f32 := entryContents preI m c (Proc.devRef .tc main_v68_0)
/-- The scaled keys, chunk by chunk, as the loop is entered. -/
def E1 (c : Dev nD) : FVec Ideal S16x4x8x128x128 .f32 := entryContents preI m c (Proc.devRef .tc main_v68_1)
/-- The values, chunk by chunk, as the loop is entered. -/
def E2 (c : Dev nD) : FVec Ideal S16x4x8x128x128 .f32 := entryContents preI m c (Proc.devRef .tc main_v68_2)
/-- The decays between two rows of a chunk, as the loop is entered. -/
def E3 (c : Dev nD) : FVec Ideal S8x128x128 .f32 := entryContents preI m c (Proc.devRef .tc main_v68_3)
/-- The decays of a row from the start of its chunk, as the loop is entered. -/
def E4 (c : Dev nD) : FVec Ideal S1x8x128x1 .f32 := entryContents preI m c (Proc.devRef .tc main_v68_4)
/-- The decays over a chunk, as the loop is entered. -/
def E5 (c : Dev nD) : FVec Ideal S1x8x1x1 .f32 := entryContents preI m c (Proc.devRef .tc main_v68_5)
/-- The decays of a row to the end of its chunk, as the loop is entered. -/
def E6 (c : Dev nD) : FVec Ideal S1x8x128x1 .f32 := entryContents preI m c (Proc.devRef .tc main_v68_6)
/-- The first state, as the loop is entered. -/
def E8 (c : Dev nD) : FVec Ideal S4x8x128x128 .f32 := entryContents preI m c (Proc.devRef .tc main_v68_8)

/-- The queries, chunk by chunk, as cut from the projection. -/
theorem e0_eq (c : Dev nD) : E0 m c = CUT (extractStridedSlice S4x2048x1024 ![0, 0, 0] (ROWS (Z m c)) slices_S4x2048x17408_S4x2048x1024_0_0_0) := by
  simp only [E0, entryContents, preI, afterL_cons, afterL_nil]
  entry_read
  rfl

/-- The queries, chunk by chunk, at an entry. -/
theorem e0 (c : Dev nD) (i : Fin 16) (b : Fin 4) (h : Fin 8) (r d : Fin 128) : E0 m c (ix5 i b h r d) = Z m c (ix2 (⟨b.val * 2048 + (i.val * 128 + r.val), by omega⟩ : Fin 8192) (⟨h.val * 128 + d.val, by omega⟩ : Fin 17408)) := by
  rw [e0_eq, cut0_apply]

/-- The scaled keys, chunk by chunk, as cut from the projection. -/
theorem e1_eq (c : Dev nD) : E1 m c = CUTS (extractStridedSlice S4x2048x1024 ![0, 0, 1024] (ROWS (Z m c)) slices_S4x2048x17408_S4x2048x1024_0_0_1024) := by
  simp only [E1, entryContents, preI, afterL_cons, afterL_nil]
  entry_read
  rfl

/-- The scaled keys, chunk by chunk, at an entry. -/
theorem e1 (c : Dev nD) (i : Fin 16) (b : Fin 4) (h : Fin 8) (r d : Fin 128) : E1 m c (ix5 i b h r d) = Z m c (ix2 (⟨b.val * 2048 + (i.val * 128 + r.val), by omega⟩ : Fin 8192) (⟨1024 + (h.val * 128 + d.val), by omega⟩ : Fin 17408)) * (scale : EReal) := by
  rw [e1_eq, cut1_apply]

/-- The values, chunk by chunk, as cut from the projection. -/
theorem e2_eq (c : Dev nD) : E2 m c = CUT (extractStridedSlice S4x2048x1024 ![0, 0, 2048] (ROWS (Z m c)) slices_S4x2048x17408_S4x2048x1024_0_0_2048) := by
  simp only [E2, entryContents, preI, afterL_cons, afterL_nil]
  entry_read
  rfl

/-- The values, chunk by chunk, at an entry. -/
theorem e2 (c : Dev nD) (i : Fin 16) (b : Fin 4) (h : Fin 8) (r d : Fin 128) : E2 m c (ix5 i b h r d) = Z m c (ix2 (⟨b.val * 2048 + (i.val * 128 + r.val), by omega⟩ : Fin 8192) (⟨2048 + (h.val * 128 + d.val), by omega⟩ : Fin 17408)) := by
  rw [e2_eq, cut2_apply]

/-- The decays between two rows of a chunk, at an entry. -/
theorem e3 (c : Dev nD) (h : Fin 8) (r d : Fin 128) : E3 m c (ix3 h r d) = ((if d.val ≤ r.val then Real.exp (logDecay h.val) ^ (r.val - d.val) else 0 : ℝ) : EReal) := by
  simp only [E3, entryContents, preI, afterL_cons, afterL_nil]
  entry_read
  rw [← decay_real, ← logDecay_eq h.val h.isLt, EReal.coe_sub, ← sitofp_ofNat r.val (by omega), ← sitofp_ofNat d.val (by omega)]
  refine Eq.trans (b := DECAY (ix3 h r d)) rfl ?_
  pointwise [DECAY, DIFF, LG]

/-- The decays of a row from the start of its chunk, at an entry. -/
theorem e4 (c : Dev nD) (h : Fin 8) (r : Fin 128) : E4 m c (ix4 0 h r 0) = ((Real.exp (logDecay h.val) ^ (r.val + 1) : ℝ) : EReal) := by
  simp only [E4, entryContents, preI, afterL_cons, afterL_nil]
  entry_read
  pointwise
  rw [logDecay_eq h.val h.isLt, sitofp_ofNat r.val (by omega), ← EReal.coe_one, ← EReal.coe_add, exp_mul _ (r.val + 1) _ (by push_cast; ring)]

/-- The decays over a chunk, at an entry. -/
theorem e5 (c : Dev nD) (h : Fin 8) : E5 m c (ix4 0 h 0 0) = ((Real.exp (logDecay h.val) ^ 128 : ℝ) : EReal) := by
  simp only [E5, entryContents, preI, afterL_cons, afterL_nil]
  entry_read
  pointwise
  rw [logDecay_eq h.val h.isLt, ofBits_128, exp_mul _ 128 _ (by norm_num)]

/-- The decays of a row to the end of its chunk, at an entry. -/
theorem e6 (c : Dev nD) (h : Fin 8) (r : Fin 128) : E6 m c (ix4 0 h r 0) = ((Real.exp (logDecay h.val) ^ (128 - 1 - r.val) : ℝ) : EReal) := by
  simp only [E6, entryContents, preI, afterL_cons, afterL_nil]
  entry_read
  pointwise
  rw [logDecay_eq h.val h.isLt, ofBits_127, sitofp_ofNat r.val (by omega), ← EReal.coe_sub,
    exp_mul _ (128 - 1 - r.val) _ (by rw [Nat.cast_sub (by omega)]; norm_num)]

/-- The first state, at an entry. -/
theorem e8 (c : Dev nD) (b : Fin 4) (h : Fin 8) (d e : Fin 128) : E8 m c (ix4 b h d e) = (0 : EReal) := by
  simp only [E8, entryContents, preI, afterL_cons, afterL_nil]
  entry_read
  pointwise

/-- A trip's queries: the counter's chunk. -/
theorem chunk_q (V : Valuation τ sig (Elt Ideal)) (k : Fin 16) (hk : V (Proc.devRef .tc main_v68_7) = fun _ => BitVec.ofNat 32 k.val) (b : Fin 4) (h : Fin 8) (r d : Fin 128) :
    (res_main_while0b_v117 V : FVec Ideal S4x8x128x128 .f32) (ix4 b h r d) = (V (Proc.devRef .tc main_v68_0) : FVec Ideal S16x4x8x128x128 .f32) (ix5 k b h r d) := by
  unfold res_main_while0b_v117
  rw [hk]
  refine (unit_apply _ b h r d).trans ?_
  exact slice_at _ _ _ k (toInt_small k.val (by omega)) rfl rfl rfl rfl b h r d

/-- A trip's keys: the counter's chunk. -/
theorem chunk_k (V : Valuation τ sig (Elt Ideal)) (k : Fin 16) (hk : V (Proc.devRef .tc main_v68_7) = fun _ => BitVec.ofNat 32 k.val) (b : Fin 4) (h : Fin 8) (r d : Fin 128) :
    (res_main_while0b_v118 V : FVec Ideal S4x8x128x128 .f32) (ix4 b h r d) = (V (Proc.devRef .tc main_v68_1) : FVec Ideal S16x4x8x128x128 .f32) (ix5 k b h r d) := by
  unfold res_main_while0b_v118
  rw [hk]
  refine (unit_apply _ b h r d).trans ?_
  exact slice_at _ _ _ k (toInt_small k.val (by omega)) rfl rfl rfl rfl b h r d

/-- A trip's values: the counter's chunk. -/
theorem chunk_v (V : Valuation τ sig (Elt Ideal)) (k : Fin 16) (hk : V (Proc.devRef .tc main_v68_7) = fun _ => BitVec.ofNat 32 k.val) (b : Fin 4) (h : Fin 8) (r d : Fin 128) :
    (res_main_while0b_v119 V : FVec Ideal S4x8x128x128 .f32) (ix4 b h r d) = (V (Proc.devRef .tc main_v68_2) : FVec Ideal S16x4x8x128x128 .f32) (ix5 k b h r d) := by
  unfold res_main_while0b_v119
  rw [hk]
  refine (unit_apply _ b h r d).trans ?_
  exact slice_at _ _ _ k (toInt_small k.val (by omega)) rfl rfl rfl rfl b h r d

/-- The rows one trip computes, from its chunks, the decays and the state. -/
def OUTB (q k v : FVec Ideal S4x8x128x128 .f32) (dec : FVec Ideal S8x128x128 .f32) (qd : FVec Ideal S1x8x128x1 .f32) (S : FVec Ideal S4x8x128x128 .f32) : FVec Ideal S4x8x128x128 .f32 :=
  addf
    (Host.dotGeneral dot_S4x8x128x128_S4x8x128x128_S4x8x128x128_3_2_2_3_01_01 none
      (mulf (Host.dotGeneral dot_S4x8x128x128_S4x8x128x128_S4x8x128x128_3_3_2_2_01_01 none q k)
        (broadcastInDim S4x8x128x128 ![0, 1, 2, 3] bcast_S1x8x128x128_S4x8x128x128_0_1_2_3 (broadcastInDim S1x8x128x128 ![1, 2, 3] bcast_S8x128x128_S1x8x128x128_1_2_3 dec))) v)
    (Host.dotGeneral dot_S4x8x128x128_S4x8x128x128_S4x8x128x128_3_2_2_3_01_01 none
      (mulf q (broadcastInDim S4x8x128x128 ![0, 1, 2, 3] bcast_S1x8x128x1_S4x8x128x128_0_1_2_3 qd)) S)

/-- The state after one trip. -/
def NEXTB (k v : FVec Ideal S4x8x128x128 .f32) (cd : FVec Ideal S1x8x1x1 .f32) (kd : FVec Ideal S1x8x128x1 .f32) (S : FVec Ideal S4x8x128x128 .f32) : FVec Ideal S4x8x128x128 .f32 :=
  addf (mulf S (broadcastInDim S4x8x128x128 ![0, 1, 2, 3] bcast_S1x8x1x1_S4x8x128x128_0_1_2_3 cd))
    (Host.dotGeneral dot_S4x8x128x128_S4x8x128x128_S4x8x128x128_2_2_3_3_01_01 none
      (mulf k (broadcastInDim S4x8x128x128 ![0, 1, 2, 3] bcast_S1x8x128x1_S4x8x128x128_0_1_2_3 kd)) v)

/-- An entry of the rows one trip computes. -/
theorem outb_apply (q k v : FVec Ideal S4x8x128x128 .f32) (dec : FVec Ideal S8x128x128 .f32) (qd : FVec Ideal S1x8x128x1 .f32) (S : FVec Ideal S4x8x128x128 .f32)
    (b : Fin 4) (h : Fin 8) (r e : Fin 128) :
    OUTB q k v dec qd S (ix4 b h r e) = ∑ x, (∑ d, q (ix4 b h r d) * k (ix4 b h x d)) * dec (ix3 h r x) * v (ix4 b h x e)
      + ∑ d, q (ix4 b h r d) * qd (ix4 0 h r 0) * S (ix4 b h d e) := by
  pointwise [OUTB]

/-- An entry of the state after one trip. -/
theorem nextb_apply (k v : FVec Ideal S4x8x128x128 .f32) (cd : FVec Ideal S1x8x1x1 .f32) (kd : FVec Ideal S1x8x128x1 .f32) (S : FVec Ideal S4x8x128x128 .f32)
    (b : Fin 4) (h : Fin 8) (d e : Fin 128) :
    NEXTB k v cd kd S (ix4 b h d e) = S (ix4 b h d e) * cd (ix4 0 h 0 0) + ∑ x, k (ix4 b h x d) * kd (ix4 0 h x 0) * v (ix4 b h x e) := by
  pointwise [NEXTB]

/-- The trip's state, from the carried buffers. -/
theorem step8_eq (V : Valuation τ sig (Elt Ideal)) :
    step_main_v68_8 V = NEXTB (res_main_while0b_v118 V) (res_main_while0b_v119 V) (V (Proc.devRef .tc main_v68_5)) (V (Proc.devRef .tc main_v68_6)) (V (Proc.devRef .tc main_v68_8)) := rfl

/-- The trip's output: the counter's chunk is written, the others stay. -/
theorem step9_apply (V : Valuation τ sig (Elt Ideal)) (k : Fin 16) (hk : V (Proc.devRef .tc main_v68_7) = fun _ => BitVec.ofNat 32 k.val) (i : Fin 16) (b : Fin 4) (h : Fin 8) (r d : Fin 128) :
    (step_main_v68_9 V : FVec Ideal S16x4x8x128x128 .f32) (ix5 i b h r d)
      = if i = k then OUTB (res_main_while0b_v117 V) (res_main_while0b_v118 V) (res_main_while0b_v119 V) (V (Proc.devRef .tc main_v68_3)) (V (Proc.devRef .tc main_v68_4)) (V (Proc.devRef .tc main_v68_8)) (ix4 b h r d)
        else (V (Proc.devRef .tc main_v68_9) : FVec Ideal S16x4x8x128x128 .f32) (ix5 i b h r d) := by
  unfold step_main_v68_9
  rw [hk]
  refine Eq.trans (update_at (V (Proc.devRef .tc main_v68_9)) _ _ updateFits_S16x4x8x128x128_S1x4x8x128x128 k (toInt_small k.val (by omega)) rfl rfl rfl rfl i b h r d) ?_
  rw [bunit_apply]
  rfl

/-- The contents before trip `k`. -/
def W (c : Dev nD) (k : ℕ) : Valuation τ sig (Elt Ideal) := STEP^[k] (entryContents preI m c)

/-- One more trip. -/
theorem W_succ (c : Dev nD) (k : ℕ) : W m c (k + 1) = STEP (W m c k) := Function.iterate_succ_apply' _ _ _

/-- The loop does not change its queries, chunk by chunk. -/
theorem W_0 (c : Dev nD) : ∀ k, W m c k (Proc.devRef .tc main_v68_0) = E0 m c
  | 0 => rfl
  | k + 1 => by rw [W_succ, STEP_main_v68_0, W_0 c k]
/-- The loop does not change its scaled keys, chunk by chunk. -/
theorem W_1 (c : Dev nD) : ∀ k, W m c k (Proc.devRef .tc main_v68_1) = E1 m c
  | 0 => rfl
  | k + 1 => by rw [W_succ, STEP_main_v68_1, W_1 c k]
/-- The loop does not change its values, chunk by chunk. -/
theorem W_2 (c : Dev nD) : ∀ k, W m c k (Proc.devRef .tc main_v68_2) = E2 m c
  | 0 => rfl
  | k + 1 => by rw [W_succ, STEP_main_v68_2, W_2 c k]
/-- The loop does not change its decays between two rows of a chunk. -/
theorem W_3 (c : Dev nD) : ∀ k, W m c k (Proc.devRef .tc main_v68_3) = E3 m c
  | 0 => rfl
  | k + 1 => by rw [W_succ, STEP_main_v68_3, W_3 c k]
/-- The loop does not change its decays of a row from the start of its chunk. -/
theorem W_4 (c : Dev nD) : ∀ k, W m c k (Proc.devRef .tc main_v68_4) = E4 m c
  | 0 => rfl
  | k + 1 => by rw [W_succ, STEP_main_v68_4, W_4 c k]
/-- The loop does not change its decays over a chunk. -/
theorem W_5 (c : Dev nD) : ∀ k, W m c k (Proc.devRef .tc main_v68_5) = E5 m c
  | 0 => rfl
  | k + 1 => by rw [W_succ, STEP_main_v68_5, W_5 c k]
/-- The loop does not change its decays of a row to the end of its chunk. -/
theorem W_6 (c : Dev nD) : ∀ k, W m c k (Proc.devRef .tc main_v68_6) = E6 m c
  | 0 => rfl
  | k + 1 => by rw [W_succ, STEP_main_v68_6, W_6 c k]
/-- The counter counts the trips. -/
theorem W_7 (c : Dev nD) : ∀ k, W m c k (Proc.devRef .tc main_v68_7) = fun _ => BitVec.ofNat 32 k
  | 0 => ctr_entry m c
  | k + 1 => by
    rw [W_succ, STEP_main_v68_7]
    unfold step_main_v68_7
    rw [W_7 c k]
    funext i
    show BitVec.ofNat 32 k + 1#32 = BitVec.ofNat 32 (k + 1)
    rw [BitVec.ofNat_add]

/-- The columns of queries, keys and values are real: entry `(i, l)` is `z i l`. -/
def Rows (c : Dev nD) (z : ℕ → ℕ → ℝ) : Prop := ∀ (i : Fin 8192) (l : Fin 17408), l.val < 3072 → Z m c (ix2 i l) = ((z i.val l.val : ℝ) : EReal)

/-- Batch `b`'s row `n`, head `h`'s column `d` of the queries. -/
def qr (z : ℕ → ℕ → ℝ) (b h n : ℕ) (d : Fin 128) : ℝ := z (b * 2048 + n) (h * 128 + d.val)
/-- The same of the keys. -/
def kr (z : ℕ → ℕ → ℝ) (b h n : ℕ) (d : Fin 128) : ℝ := z (b * 2048 + n) (1024 + (h * 128 + d.val))
/-- The same of the values. -/
def vr (z : ℕ → ℕ → ℝ) (b h n : ℕ) (d : Fin 128) : ℝ := z (b * 2048 + n) (2048 + (h * 128 + d.val))

/-- The state before row `n`. -/
def ST (z : ℕ → ℕ → ℝ) (b h n : ℕ) (d e : Fin 128) : ℝ :=
  state (Real.exp (logDecay h)) scale (fun j => kr z b h j d) (fun j => vr z b h j e) n
/-- Row `n` of the output, before the norm. -/
def RW (z : ℕ → ℕ → ℝ) (b h n : ℕ) (e : Fin 128) : ℝ :=
  row (Real.exp (logDecay h)) scale (fun j => ∑ d, qr z b h n d * kr z b h j d) (fun j => vr z b h j e) n

variable (c : Dev nD) (z : ℕ → ℕ → ℝ) (hz : Rows m c z)
include hz

/-- A trip's queries, over real columns. -/
theorem q_real (k : Fin 16) (b : Fin 4) (h : Fin 8) (r d : Fin 128) :
    (res_main_while0b_v117 (W m c k.val) : FVec Ideal S4x8x128x128 .f32) (ix4 b h r d) = ((qr z b.val h.val (k.val * 128 + r.val) d : ℝ) : EReal) := by
  rw [chunk_q _ k (W_7 m c k.val), W_0, e0, hz _ _ (by show h.val * 128 + d.val < 3072; omega)]
  rfl

/-- A trip's scaled keys. -/
theorem k_real (k : Fin 16) (b : Fin 4) (h : Fin 8) (r d : Fin 128) :
    (res_main_while0b_v118 (W m c k.val) : FVec Ideal S4x8x128x128 .f32) (ix4 b h r d) = ((kr z b.val h.val (k.val * 128 + r.val) d * scale : ℝ) : EReal) := by
  rw [chunk_k _ k (W_7 m c k.val), W_1, e1, hz _ _ (by show 1024 + (h.val * 128 + d.val) < 3072; omega), EReal.coe_mul]
  rfl

/-- A trip's values. -/
theorem v_real (k : Fin 16) (b : Fin 4) (h : Fin 8) (r d : Fin 128) :
    (res_main_while0b_v119 (W m c k.val) : FVec Ideal S4x8x128x128 .f32) (ix4 b h r d) = ((vr z b.val h.val (k.val * 128 + r.val) d : ℝ) : EReal) := by
  rw [chunk_v _ k (W_7 m c k.val), W_2, e2, hz _ _ (by show 2048 + (h.val * 128 + d.val) < 3072; omega)]
  rfl

/-- The state before each trip, in closed form. -/
theorem W_8 : ∀ k ≤ 16, ∀ (b : Fin 4) (h : Fin 8) (d e : Fin 128),
    (W m c k (Proc.devRef .tc main_v68_8) : FVec Ideal S4x8x128x128 .f32) (ix4 b h d e) = ((ST z b.val h.val (k * 128) d e : ℝ) : EReal)
  | 0, _, b, h, d, e => by
    refine (e8 m c b h d e).trans ?_
    unfold ST
    rw [Nat.zero_mul, state_zero, EReal.coe_zero]
  | k + 1, hk, b, h, d, e => by
    rw [W_succ, STEP_main_v68_8, step8_eq, nextb_apply, W_8 k (by omega), W_5, W_6, e5]
    simp only [k_real m c z hz ⟨k, by omega⟩, v_real m c z hz ⟨k, by omega⟩, e6, ← EReal.coe_mul, ← Cert.Scalar.coe_sum, ← EReal.coe_add]
    unfold ST
    rw [show (k + 1) * 128 = k * 128 + 128 by ring, state_add]
    congr 2
    refine Finset.sum_congr rfl fun x _ => ?_
    ring

/-- The chunks written before each trip hold the output's rows. -/
theorem W_9 : ∀ k ≤ 16, ∀ (i : Fin 16), i.val < k → ∀ (b : Fin 4) (h : Fin 8) (r e : Fin 128),
    (W m c k (Proc.devRef .tc main_v68_9) : FVec Ideal S16x4x8x128x128 .f32) (ix5 i b h r e) = ((RW z b.val h.val (i.val * 128 + r.val) e : ℝ) : EReal)
  | 0, _, i, hi, _, _, _, _ => absurd hi (Nat.not_lt_zero _)
  | k + 1, hk, i, hi, b, h, r, e => by
    rw [W_succ, STEP_main_v68_9, step9_apply _ ⟨k, by omega⟩ (W_7 m c k)]
    by_cases hik : i = ⟨k, by omega⟩
    · rw [if_pos hik, outb_apply, hik, W_3, W_4, e4]
      simp only [q_real m c z hz ⟨k, by omega⟩, k_real m c z hz ⟨k, by omega⟩, v_real m c z hz ⟨k, by omega⟩, e3, W_8 m c z hz k (by omega),
        ← EReal.coe_mul, ← Cert.Scalar.coe_sum, ← EReal.coe_add]
      unfold RW ST
      rw [row_add _ _ _ _ (k * 128) 128 r.val r.isLt, ← state_sum, Finset.sum_mul]
      congr 2
      · refine Finset.sum_congr rfl fun x _ => ?_
        rw [show ∑ d, qr z b.val h.val (k * 128 + r.val) d * (kr z b.val h.val (k * 128 + x.val) d * scale)
          = scale * ∑ d, qr z b.val h.val (k * 128 + r.val) d * kr z b.val h.val (k * 128 + x.val) d by
            rw [Finset.mul_sum]; exact Finset.sum_congr rfl fun d _ => by ring]
        ring
      · refine Finset.sum_congr rfl fun d _ => ?_
        ring
    · rw [if_neg hik]
      refine W_9 k (by omega) i ?_ b h r e
      have : i.val ≠ k := fun h' => hik (Fin.ext h')
      omega

/-- After the loop every chunk holds the output's rows. -/
theorem loop_out (i : Fin 16) (b : Fin 4) (h : Fin 8) (r e : Fin 128) :
    (atK m 16 c (Proc.devRef .tc main_v68_9) : FVec Ideal S16x4x8x128x128 .f32) (ix5 i b h r e) = ((RW z b.val h.val (i.val * 128 + r.val) e : ℝ) : EReal) := by
  rw [atK_agree m c 16 main_v68_9 (by decide)]
  exact W_9 m c z hz 16 (le_refl _) i i.isLt b h r e

end Cert.RetRIdeal.Value

end
-- ==== Proof.RetTail.lean ====
/- The retention reference after its loop: the group norm of the rows, gated and scaled, and the weight blocks, each read at
   an entry, and what its five results hold. -/
module

public import proofs.«01_k».proof.Proof.Gen.RetRIdeal.Run
public import proofs.«01_k».proof.Proof.RetLoop
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.ShloMosaic.StableHlo Idealize.SL.Sem
open scoped BigOperators

namespace Cert.RetRIdeal.Value

open Cert.RetRIdeal Cert.RetRIdeal.Gen Cert.Retention

/-- The chunks put back into rows. -/
def OB (x : FVec Ideal S16x4x8x128x128 .f32) : FVec Ideal S4x8x2048x128 .f32 :=
  shapeCast S4x8x2048x128 (transpose S4x8x16x128x128 [1, 2, 0, 3, 4] x transposes_S16x4x8x128x128_S4x8x16x128x128_1_2_0_3_4) shapeCasts_S4x8x16x128x128_S4x8x2048x128

/-- The rows' means. -/
def MEANB (o : FVec Ideal S4x8x2048x128 .f32) : FVec Ideal S4x8x2048x1 .f32 :=
  Host.divf (broadcastInDim S4x8x2048x1 ![0, 1, 2] bcast_S4x8x2048_S4x8x2048x1_0_1_2
    (Host.reduceAdd o (constant S_ FTy.f32 0#32) reducesTo_S4x8x2048x128_S4x8x2048_d3 h_S_))
    (broadcastInDim S4x8x2048x1 ![] bcast_S_S4x8x2048x1 (constant S_ FTy.f32 1124073472#32))

/-- The rows less their means. -/
def CENB (o : FVec Ideal S4x8x2048x128 .f32) : FVec Ideal S4x8x2048x128 .f32 :=
  subf o (broadcastInDim S4x8x2048x128 ![0, 1, 2, 3] bcast_S4x8x2048x1_S4x8x2048x128_0_1_2_3 (MEANB o))

/-- The rows normed. -/
def NORMB (x : FVec Ideal S4x8x2048x128 .f32) : FVec Ideal S4x8x2048x128 .f32 :=
  mulf x (broadcastInDim S4x8x2048x128 ![0, 1, 2, 3] bcast_S4x8x2048x1_S4x8x2048x128_0_1_2_3
    (Host.rsqrt (addf (MEANB (mulf x x)) (broadcastInDim S4x8x2048x1 ![] bcast_S_S4x8x2048x1 (constant S_ FTy.f32 925353388#32)))))

/-- The gate. -/
def SILUB (g : FVec Ideal S4x2048x1024 .f32) : FVec Ideal S4x2048x1024 .f32 :=
  mulf g (Host.divf (broadcastInDim S4x2048x1024 ![] bcast_S_S4x2048x1024 (constant S_ .f32 0x3F800000#32))
    (addf (broadcastInDim S4x2048x1024 ![] bcast_S_S4x2048x1024 (constant S_ .f32 0x3F800000#32)) (Host.exp (Host.negf g))))

/-- The heads side by side, scaled and gated. -/
def FINB (s : FVec Ideal S4x2048x1024 .f32) (x : FVec Ideal S4x8x2048x128 .f32) (w : FVec Ideal S1024 .f32) : FVec Ideal S8192x1024 .bf16 :=
  truncf FTy.bf16 (shapeCast S8192x1024 (mulf s (mulf
    (shapeCast S4x2048x1024 (transpose S4x2048x8x128 [0, 2, 1, 3] x transposes_S4x8x2048x128_S4x2048x8x128_0_2_1_3) shapeCasts_S4x2048x8x128_S4x2048x1024)
    (broadcastInDim S4x2048x1024 ![0, 1, 2] bcast_S1x1x1024_S4x2048x1024_0_1_2 (broadcastInDim S1x1x1024 ![2] bcast_S1024_S1x1x1024_2 w))))
    shapeCasts_S4x2048x1024_S8192x1024 : FVec Ideal S8192x1024 .f32) bitsLt_bf16_f32

/-- The two halves of a weight's columns, one block each. -/
def HALVES (w : FVec Ideal S1024x2048 .f32) : FVec Ideal S2x1024x1024 .bf16 :=
  truncf FTy.bf16 (concatenate S2x1024x1024 0
    [⟨S1x1024x1024, broadcastInDim S1x1024x1024 ![1, 2] bcast_S1024x1024_S1x1024x1024_1_2
        (extractStridedSlice S1024x1024 ![0, 0] w slices_S1024x2048_S1024x1024_0_0)⟩,
      ⟨S1x1024x1024, broadcastInDim S1x1024x1024 ![1, 2] bcast_S1024x1024_S1x1024x1024_1_2
        (extractStridedSlice S1024x1024 ![0, 1024] w slices_S1024x2048_S1024x1024_0_1024)⟩]
    concatenates_S1x1024x1024_S1x1024x1024_S2x1024x1024_d0 : FVec Ideal S2x1024x1024 .f32) bitsLt_bf16_f32

/-- A row of the rows put back. -/
theorem ob_apply (x : FVec Ideal S16x4x8x128x128 .f32) (b : Fin 4) (h : Fin 8) (n : Fin 2048) (e : Fin 128) :
    OB x (ix4 b h n e) = x (ix5 (⟨n.val / 128, by omega⟩ : Fin 16) b h (⟨n.val % 128, by omega⟩ : Fin 128) e) := by
  pointwise [OB]

/-- A row's mean. -/
theorem meanb_apply (o : FVec Ideal S4x8x2048x128 .f32) (b : Fin 4) (h : Fin 8) (n : Fin 2048) :
    MEANB o (ix4 b h n 0) = Ideal.div (∑ l, o (ix4 b h n l)) (Ideal.ofBits .f32 1124073472#32) := by
  pointwise [MEANB]

/-- A row less its mean. -/
theorem cenb_apply (o : FVec Ideal S4x8x2048x128 .f32) (b : Fin 4) (h : Fin 8) (n : Fin 2048) (e : Fin 128) :
    CENB o (ix4 b h n e) = o (ix4 b h n e) - Ideal.div (∑ l, o (ix4 b h n l)) (Ideal.ofBits .f32 1124073472#32) := by
  rw [← meanb_apply]
  unfold CENB
  generalize MEANB o = u
  pointwise

/-- A normed row, from the row less its mean. -/
theorem normb_apply (x : FVec Ideal S4x8x2048x128 .f32) (b : Fin 4) (h : Fin 8) (n : Fin 2048) (e : Fin 128) :
    NORMB x (ix4 b h n e) = x (ix4 b h n e) * Ideal.rsqrt (Ideal.div (∑ l, x (ix4 b h n l) * x (ix4 b h n l)) (Ideal.ofBits .f32 1124073472#32) + Ideal.ofBits .f32 925353388#32) := by
  have e1 : ∑ l, x (ix4 b h n l) * x (ix4 b h n l) = ∑ l, (mulf x x : FVec Ideal S4x8x2048x128 .f32) (ix4 b h n l) := rfl
  rw [e1, ← meanb_apply]
  unfold NORMB
  generalize MEANB (mulf x x) = u
  pointwise

/-- An entry of the gate. -/
theorem silub_apply (g : FVec Ideal S4x2048x1024 .f32) (b : Fin 4) (n : Fin 2048) (l : Fin 1024) :
    SILUB g (ix3 b n l) = g (ix3 b n l) * Ideal.div 1 (1 + Ideal.exp (-g (ix3 b n l))) := by
  pointwise [SILUB]

/-- An entry of the heads side by side. -/
theorem finb_apply (s : FVec Ideal S4x2048x1024 .f32) (x : FVec Ideal S4x8x2048x128 .f32) (w : FVec Ideal S1024 .f32) (b : Fin 4) (h : Fin 8) (n : Fin 2048) (e : Fin 128) :
    FINB s x w (ix2 (⟨b.val * 2048 + n.val, by omega⟩ : Fin 8192) (⟨h.val * 128 + e.val, by omega⟩ : Fin 1024))
      = s (ix3 b n (⟨h.val * 128 + e.val, by omega⟩ : Fin 1024)) * (x (ix4 b h n e) * w (ix1 (⟨h.val * 128 + e.val, by omega⟩ : Fin 1024))) := by
  pointwise [FINB]

/-- The gate's columns of the projection. -/
theorem gate_apply (z : FVec Ideal S8192x17408 .bf16) (b : Fin 4) (n : Fin 2048) (l : Fin 1024) :
    extractStridedSlice S4x2048x1024 ![0, 0, 3072] (ROWS z) slices_S4x2048x17408_S4x2048x1024_0_0_3072 (ix3 b n l)
      = z (ix2 (⟨b.val * 2048 + n.val, by omega⟩ : Fin 8192) (⟨3072 + l.val, by omega⟩ : Fin 17408)) := by
  pointwise [ROWS]

/-- An entry of the halves. -/
theorem halves_apply (w : FVec Ideal S1024x2048 .f32) (p : Fin 2) (r l : Fin 1024) :
    HALVES w (ix3 p r l) = w (ix2 r (⟨p.val * 1024 + l.val, by omega⟩ : Fin 2048)) := by
  pointwise [HALVES]
  split
  · exact congrArg (fun l => w (ix2 r l)) (Fin.ext (by simp only; omega))
  · exact congrArg (fun l => w (ix2 r l)) (Fin.ext (by simp only; omega))

variable (m : (ℓ : Loc nD τ sig) → Buf (Elt Ideal) ℓ)

/-- The references the loop writes. -/
abbrev loopWritten : List (Ref sig .tc) :=
  condOps_W ++ while0Ops0_W ++ while0Ops0_1_W ++ while0Ops0_2_W ++ while0Ops0_3_W ++ while0Ops0_4_W ++ while0Ops0_5_W

/-- A reference the loop does not write keeps its contents over one trip. -/
theorem trip_keeps' (X : Valuation τ sig (Elt Ideal)) (r : Ref sig .tc) (h : r ∉ loopWritten) :
    afterL bodyI (after condOps X) (Proc.devRef .tc r) = X (Proc.devRef .tc r) := by
  simp only [loopWritten, List.mem_append, not_or] at h
  obtain ⟨⟨⟨⟨⟨⟨hc, h0⟩, h1⟩, h2⟩, h3⟩, h4⟩, h5⟩ := h
  simp only [afterL_cons, afterL_nil]
  exact (after_of_writes_sub while0Ops0_5 _ while0Ops0_5_writes h5).trans <|
    (after_of_writes_sub while0Ops0_4 _ while0Ops0_4_writes h4).trans <|
    (after_of_writes_sub while0Ops0_3 _ while0Ops0_3_writes h3).trans <|
    (after_of_writes_sub while0Ops0_2 _ while0Ops0_2_writes h2).trans <|
    (after_of_writes_sub while0Ops0_1 _ while0Ops0_1_writes h1).trans <|
    (after_of_writes_sub while0Ops0 _ while0Ops0_writes h0).trans <|
    after_of_writes_sub condOps _ condOps_writes hc

/-- A reference the loop does not write has the contents it was entered with. -/
theorem atK_keeps' (c : Dev nD) (r : Ref sig .tc) (h : r ∉ loopWritten) :
    ∀ k, atK m k c (Proc.devRef .tc r) = entryContents preI m c (Proc.devRef .tc r)
  | 0 => rfl
  | k + 1 => (trip_keeps' (atK m k c) r h).trans (atK_keeps' c r h k)

/-- The gate's columns, after the loop. -/
theorem gate_eq (c : Dev nD) : (atK m 16 c (Proc.devRef .tc main_v5) : FVec Ideal S4x2048x1024 .f32)
    = extractStridedSlice S4x2048x1024 ![0, 0, 3072] (ROWS (Z m c)) slices_S4x2048x17408_S4x2048x1024_0_0_3072 := by
  refine (atK_keeps' m c main_v5 (by decide) 16).trans ?_
  simp only [entryContents, preI, afterL_cons, afterL_nil]
  entry_read
  rfl

/-- What the operations after the loop leave in result `main_v97`, from the contents they start with. -/
theorem post_97 (V : Valuation τ sig (Elt Ideal)) : (afterL postI (after condOps V) (Proc.devRef .tc main_v97) : FVec Ideal S8192x1024 .bf16) = FINB (SILUB (V (Proc.devRef .tc main_v5))) (NORMB (CENB (OB (V (Proc.devRef .tc main_v68_9))))) (V (Proc.devRef .tc main_arg1)) := by
  simp only [postI, afterL_cons, afterL_nil]
  entry_read
  rfl

/-- What the operations after the loop leave in result `main_v103`, from the contents they start with. -/
theorem post_103 (V : Valuation τ sig (Elt Ideal)) : (afterL postI (after condOps V) (Proc.devRef .tc main_v103) : FVec Ideal S2x1024x1024 .bf16) = HALVES (V (Proc.devRef .tc main_arg2)) := by
  simp only [postI, afterL_cons, afterL_nil]
  entry_read
  rfl

/-- What the operations after the loop leave in result `main_v109`, from the contents they start with. -/
theorem post_109 (V : Valuation τ sig (Elt Ideal)) : (afterL postI (after condOps V) (Proc.devRef .tc main_v109) : FVec Ideal S2x1024x1024 .bf16) = HALVES (V (Proc.devRef .tc main_arg3)) := by
  simp only [postI, afterL_cons, afterL_nil]
  entry_read
  rfl

/-- What the operations after the loop leave in result `main_v115`, from the contents they start with. -/
theorem post_115 (V : Valuation τ sig (Elt Ideal)) : (afterL postI (after condOps V) (Proc.devRef .tc main_v115) : FVec Ideal S2x1024x1024 .bf16) = HALVES (V (Proc.devRef .tc main_arg4)) := by
  simp only [postI, afterL_cons, afterL_nil]
  entry_read
  rfl

/-- What the operations after the loop leave in result `main_v116`, from the contents they start with. -/
theorem post_116 (V : Valuation τ sig (Elt Ideal)) : (afterL postI (after condOps V) (Proc.devRef .tc main_v116) : FVec Ideal S2048x2048 .bf16) = (truncf FTy.bf16 (V (Proc.devRef .tc main_arg5) : FVec Ideal S2048x2048 .f32) bitsLt_bf16_f32 : FVec Ideal S2048x2048 .bf16) := by
  simp only [postI, afterL_cons, afterL_nil]
  entry_read
  rfl

/-- The first result: the rows of the retention, normed, scaled and gated. -/
theorem res_97 (c : Dev nD) (z : ℕ → ℕ → ℝ) (hz : Rows m c z) (b : Fin 4) (h : Fin 8) (n : Fin 2048) (e : Fin 128) :
    (finalContents condOps preI bodyI postI 16 m c (Proc.devRef .tc main_v97) : FVec Ideal S8192x1024 .bf16) (ix2 (⟨b.val * 2048 + n.val, by omega⟩ : Fin 8192) (⟨h.val * 128 + e.val, by omega⟩ : Fin 1024))
      = normed (fun l => ((RW z b.val h.val n.val l : ℝ) : EReal)) (Z m c (ix2 (⟨b.val * 2048 + n.val, by omega⟩ : Fin 8192) (⟨3072 + (h.val * 128 + e.val), by omega⟩ : Fin 17408)))
        ((m ((c : Thread nD τ).loc main_arg1) : FVec Ideal S1024 .f32) (ix1 (⟨h.val * 128 + e.val, by omega⟩ : Fin 1024))) e := by
  have ho : ∀ l, OB (atK m 16 c (Proc.devRef .tc main_v68_9)) (ix4 b h n l) = ((RW z b.val h.val n.val l : ℝ) : EReal) := fun l => by
    rw [ob_apply, loop_out m c z hz]
    show ((RW z b.val h.val (n.val / 128 * 128 + n.val % 128) l : ℝ) : EReal) = _
    rw [Nat.div_add_mod']
  refine (congrFun (post_97 (atK m 16 c)) _).trans ?_
  rw [finb_apply, silub_apply, gate_eq, gate_apply, normb_apply, atK_keeps m c main_arg1 (by decide) 16]
  simp only [cenb_apply, ho]
  rfl

/-- Result `main_v103`: the halves of argument 2. -/
theorem res_103 (c : Dev nD) : (finalContents condOps preI bodyI postI 16 m c (Proc.devRef .tc main_v103) : FVec Ideal S2x1024x1024 .bf16) = HALVES (m ((c : Thread nD τ).loc main_arg2)) :=
  (post_103 (atK m 16 c)).trans (congrArg HALVES (atK_keeps m c main_arg2 (by decide) 16))

/-- Result `main_v109`: the halves of argument 3. -/
theorem res_109 (c : Dev nD) : (finalContents condOps preI bodyI postI 16 m c (Proc.devRef .tc main_v109) : FVec Ideal S2x1024x1024 .bf16) = HALVES (m ((c : Thread nD τ).loc main_arg3)) :=
  (post_109 (atK m 16 c)).trans (congrArg HALVES (atK_keeps m c main_arg3 (by decide) 16))

/-- Result `main_v115`: the halves of argument 4. -/
theorem res_115 (c : Dev nD) : (finalContents condOps preI bodyI postI 16 m c (Proc.devRef .tc main_v115) : FVec Ideal S2x1024x1024 .bf16) = HALVES (m ((c : Thread nD τ).loc main_arg4)) :=
  (post_115 (atK m 16 c)).trans (congrArg HALVES (atK_keeps m c main_arg4 (by decide) 16))

/-- Result `main_v116`: argument 5, its numbers unchanged. -/
theorem res_116 (c : Dev nD) : (finalContents condOps preI bodyI postI 16 m c (Proc.devRef .tc main_v116) : FVec Ideal S2048x2048 .bf16) = m ((c : Thread nD τ).loc main_arg5) :=
  (post_116 (atK m 16 c)).trans (atK_keeps m c main_arg5 (by decide) 16)

/-- What a buffer holds after the reference's run. -/
def FIN (c : Dev nD) (b : Ref sig .tc) : Buf (Elt Ideal) ((c : Thread nD τ).loc b) := finalContents condOps preI bodyI postI 16 m c (Proc.devRef .tc b)

/-- The reference's run: its results, and its arguments as they were. -/
theorem run_results (ρ : Dev nD → PrngReg) : θ_run (defs (F := Ideal)) (onTc (τ := τ) (main (F := Ideal))) ⟨m, fun _ => 0, ρ⟩ fun r => ∀ c : Dev nD,
      r.2.mem ((c : Thread nD τ).loc main_v97) = FIN m c main_v97
      ∧ r.2.mem ((c : Thread nD τ).loc main_v103) = FIN m c main_v103
      ∧ r.2.mem ((c : Thread nD τ).loc main_v109) = FIN m c main_v109
      ∧ r.2.mem ((c : Thread nD τ).loc main_v115) = FIN m c main_v115
      ∧ r.2.mem ((c : Thread nD τ).loc main_v116) = FIN m c main_v116
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨h c main_v97 (by decide), h c main_v103 (by decide), h c main_v109 (by decide), h c main_v115 (by decide), h c main_v116 (by decide), (h c main_arg0 (by decide)).trans (final_keeps m c _ (by decide +kernel)), (h c main_arg1 (by decide)).trans (final_keeps m c _ (by decide +kernel)), (h c main_arg2 (by decide)).trans (final_keeps m c _ (by decide +kernel)), (h c main_arg3 (by decide)).trans (final_keeps m c _ (by decide +kernel)), (h c main_arg4 (by decide)).trans (final_keeps m c _ (by decide +kernel)), (h c main_arg5 (by decide)).trans (final_keeps m c _ (by decide +kernel))⟩) (run_fold m ρ)

end Cert.RetRIdeal.Value

end
-- ==== Proof.RetReads.lean ====
/- What each grid point of the retention kernel reads, and what it stores for one chunk of one head. -/
module

public import proofs.«01_k».proof.Proof.Gen.RetKIdeal.Value
public import proofs.«01_k».proof.Proof.Gen.RetRIdeal.Run
public import proofs.«01_k».proof.Proof.RetChunk
public import proofs.«01_k».proof.Proof.RetTail
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.RetKIdeal.Value

open Cert.RetKIdeal Cert.RetKIdeal.Gen Cert.Retention
open Cert.RetRIdeal.Value (qr kr vr ST RW HALVES)

variable (m : (ℓ : Loc nD τ sig) → Buf (Elt Ideal) ℓ)

/-- The layer's projections. -/
def ZK (c : Dev nD) : FVec Ideal S8192x17408 .bf16 := m ((c : Thread nD τ).loc main_arg0)
/-- The norm's weights. -/
def WK (c : Dev nD) : FVec Ideal S1024 .f32 := m ((c : Thread nD τ).loc main_arg1)

/-- The columns of queries, keys and values are the real numbers `z`. -/
def RowsK (c : Dev nD) (z : ℕ → ℕ → ℝ) : Prop := ∀ (i : Fin 8192) (l : Fin 17408), l.val < 3072 → ZK m c (ix2 i l) = ((z i.val l.val : ℝ) : EReal)

/-- The block index of every input at every grid point. -/
theorem idx : ∀ t : Fin cfg0.N, win0_0.index t = ![0] ∧ win0_1.index t = ![t.val / 2, t.val % 2] ∧ win0_2.index t = ![t.val / 2, 2 + t.val % 2]
    ∧ win0_3.index t = ![t.val / 2, 4 + t.val % 2] ∧ win0_4.index t = ![t.val / 2, 6 + t.val % 2] ∧ win0_5.index t = ![0, t.val % 2]
    ∧ win0_6.index t = ![t.val, 0] ∧ win0_7.index t = ![t.val, 0] ∧ win0_8.index t = ![t.val, 0] ∧ win0_9.index t = ![t.val, 0] :=
  (by decide +kernel : ∀ t : Fin grid0.N, _)

/-- The block index of every result at every grid point. -/
theorem idxo : ∀ t : Fin cfg0.N, win0_10.index t = ![t.val / 2, t.val % 2] ∧ win0_11.index t = ![0, t.val, 0] ∧ win0_12.index t = ![0, t.val, 0]
    ∧ win0_13.index t = ![0, t.val, 0] ∧ win0_14.index t = ![t.val, 0] :=
  (by decide +kernel : ∀ t : Fin grid0.N, _)

/-- The block of queries at a point. -/
theorem read1 (c : Dev nD) (t : Fin cfg0.N) (r : Fin 2048) (l : Fin 512) (i : Fin 8192) (j : Fin 17408) (hi : i.val = t.val / 2 * 2048 + r.val)
    (hj : j.val = 0 + (t.val % 2 * 512 + l.val)) : iblk m c 1 t (ix2 r l) = ZK m c (ix2 i j) := by
  unfold ZK
  blk_ext [iblk, V, idx t]

/-- The block of keys at a point. -/
theorem read2 (c : Dev nD) (t : Fin cfg0.N) (r : Fin 2048) (l : Fin 512) (i : Fin 8192) (j : Fin 17408) (hi : i.val = t.val / 2 * 2048 + r.val)
    (hj : j.val = 1024 + (t.val % 2 * 512 + l.val)) : iblk m c 2 t (ix2 r l) = ZK m c (ix2 i j) := by
  unfold ZK
  blk_ext [iblk, V, idx t]

/-- The block of values at a point. -/
theorem read3 (c : Dev nD) (t : Fin cfg0.N) (r : Fin 2048) (l : Fin 512) (i : Fin 8192) (j : Fin 17408) (hi : i.val = t.val / 2 * 2048 + r.val)
    (hj : j.val = 2048 + (t.val % 2 * 512 + l.val)) : iblk m c 3 t (ix2 r l) = ZK m c (ix2 i j) := by
  unfold ZK
  blk_ext [iblk, V, idx t]

/-- The block of gates at a point. -/
theorem read4 (c : Dev nD) (t : Fin cfg0.N) (r : Fin 2048) (l : Fin 512) (i : Fin 8192) (j : Fin 17408) (hi : i.val = t.val / 2 * 2048 + r.val)
    (hj : j.val = 3072 + (t.val % 2 * 512 + l.val)) : iblk m c 4 t (ix2 r l) = ZK m c (ix2 i j) := by
  unfold ZK
  blk_ext [iblk, V, idx t]

/-- The block of norm weights at a point. -/
theorem read5 (c : Dev nD) (t : Fin cfg0.N) (l : Fin 512) (j : Fin 1024) (hj : j.val = t.val % 2 * 512 + l.val) :
    iblk m c 5 t (ix2 (0 : Fin 1) l) = WK m c (ix1 j) := by
  unfold WK
  blk_simp [iblk]
  entry_read
  pointwise
  blk_ext [idx t]

/-- The block of decays at a point. -/
theorem read0 (c : Dev nD) (t : Fin cfg0.N) (j : Fin 8) : iblk m c 0 t (ix1 j) = ((logDecay j.val : ℝ) : EReal) := by
  rw [← logDecay_eq j.val j.isLt]
  blk_simp [iblk]
  entry_read
  pointwise
  have e : ((View.whole main_v6).slice (win0_0.rect t)).emb (ix1 j) = ix1 j := by blk_ext [idx t]
  rw [e]
  rfl

/-- The block of argument 2 at a point. -/
theorem read6 (c : Dev nD) (t : Fin cfg0.N) (r : Fin 128) (l : Fin 2048) (i : Fin 1024) (hi : i.val = t.val * 128 + r.val) :
    iblk m c 6 t (ix2 r l) = m ((c : Thread nD τ).loc main_arg2) (ix2 i l) := by
  blk_ext [iblk, V, idx t]

/-- The block of argument 3 at a point. -/
theorem read7 (c : Dev nD) (t : Fin cfg0.N) (r : Fin 128) (l : Fin 2048) (i : Fin 1024) (hi : i.val = t.val * 128 + r.val) :
    iblk m c 7 t (ix2 r l) = m ((c : Thread nD τ).loc main_arg3) (ix2 i l) := by
  blk_ext [iblk, V, idx t]

/-- The block of argument 4 at a point. -/
theorem read8 (c : Dev nD) (t : Fin cfg0.N) (r : Fin 128) (l : Fin 2048) (i : Fin 1024) (hi : i.val = t.val * 128 + r.val) :
    iblk m c 8 t (ix2 r l) = m ((c : Thread nD τ).loc main_arg4) (ix2 i l) := by
  blk_ext [iblk, V, idx t]

/-- The block of argument 5 at a point. -/
theorem read9 (c : Dev nD) (t : Fin cfg0.N) (r : Fin 256) (l : Fin 2048) (i : Fin 2048) (hi : i.val = t.val * 256 + r.val) :
    iblk m c 9 t (ix2 r l) = m ((c : Thread nD τ).loc main_arg5) (ix2 i l) := by
  blk_ext [iblk, V, idx t]

/-- The decay of head 0 of a point. -/
theorem lg_0 (c : Dev nD) (t : Fin cfg0.N) (inb) (p) :
    View.ld (Val := Elt Ideal) (e' := .f32) (iblk m c 0 t) (Rect.unit (s := S8) (k0_off1 (grid0.coords t) 0#32) ![1] inb) (Shape.Idx.first p) = ((logDecay (t.val % 2 * 4 + 0) : ℝ) : EReal) := by
  have e : ∀ t : Fin cfg0.N, k0_off1 (grid0.coords t) 0#32 = ![t.val % 2 * 4 + 0] := (by decide +kernel : ∀ t : Fin grid0.N, _)
  refine (View.ld_unit_apply_of _ _ _ _ (Shape.Idx.first p) (ix1 (⟨t.val % 2 * 4 + 0, by omega⟩ : Fin 8)) fun a => ?_).trans (read0 m c t _)
  have e' := congrFun (e t) 0
  fin_cases a
  show t.val % 2 * 4 + 0 = k0_off1 (grid0.coords t) 0#32 0 + 0
  rw [e']; rfl

/-- The decay of head 1 of a point. -/
theorem lg_1 (c : Dev nD) (t : Fin cfg0.N) (inb) (p) :
    View.ld (Val := Elt Ideal) (e' := .f32) (iblk m c 0 t) (Rect.unit (s := S8) (k0_off1 (grid0.coords t) 1#32) ![1] inb) (Shape.Idx.first p) = ((logDecay (t.val % 2 * 4 + 1) : ℝ) : EReal) := by
  have e : ∀ t : Fin cfg0.N, k0_off1 (grid0.coords t) 1#32 = ![t.val % 2 * 4 + 1] := (by decide +kernel : ∀ t : Fin grid0.N, _)
  refine (View.ld_unit_apply_of _ _ _ _ (Shape.Idx.first p) (ix1 (⟨t.val % 2 * 4 + 1, by omega⟩ : Fin 8)) fun a => ?_).trans (read0 m c t _)
  have e' := congrFun (e t) 0
  fin_cases a
  show t.val % 2 * 4 + 1 = k0_off1 (grid0.coords t) 1#32 0 + 0
  rw [e']; rfl

/-- The decay of head 2 of a point. -/
theorem lg_2 (c : Dev nD) (t : Fin cfg0.N) (inb) (p) :
    View.ld (Val := Elt Ideal) (e' := .f32) (iblk m c 0 t) (Rect.unit (s := S8) (k0_off1 (grid0.coords t) 2#32) ![1] inb) (Shape.Idx.first p) = ((logDecay (t.val % 2 * 4 + 2) : ℝ) : EReal) := by
  have e : ∀ t : Fin cfg0.N, k0_off1 (grid0.coords t) 2#32 = ![t.val % 2 * 4 + 2] := (by decide +kernel : ∀ t : Fin grid0.N, _)
  refine (View.ld_unit_apply_of _ _ _ _ (Shape.Idx.first p) (ix1 (⟨t.val % 2 * 4 + 2, by omega⟩ : Fin 8)) fun a => ?_).trans (read0 m c t _)
  have e' := congrFun (e t) 0
  fin_cases a
  show t.val % 2 * 4 + 2 = k0_off1 (grid0.coords t) 2#32 0 + 0
  rw [e']; rfl

/-- The decay of head 3 of a point. -/
theorem lg_3 (c : Dev nD) (t : Fin cfg0.N) (inb) (p) :
    View.ld (Val := Elt Ideal) (e' := .f32) (iblk m c 0 t) (Rect.unit (s := S8) (k0_off1 (grid0.coords t) 3#32) ![1] inb) (Shape.Idx.first p) = ((logDecay (t.val % 2 * 4 + 3) : ℝ) : EReal) := by
  have e : ∀ t : Fin cfg0.N, k0_off1 (grid0.coords t) 3#32 = ![t.val % 2 * 4 + 3] := (by decide +kernel : ∀ t : Fin grid0.N, _)
  refine (View.ld_unit_apply_of _ _ _ _ (Shape.Idx.first p) (ix1 (⟨t.val % 2 * 4 + 3, by omega⟩ : Fin 8)) fun a => ?_).trans (read0 m c t _)
  have e' := congrFun (e t) 0
  fin_cases a
  show t.val % 2 * 4 + 3 = k0_off1 (grid0.coords t) 3#32 0 + 0
  rw [e']; rfl

end Cert.RetKIdeal.Value

end
-- ==== Proof.RetValue.lean ====
/- The retention kernel's results: every chunk's store is the closed form of the recurrence, normed and gated. -/
module

public import proofs.«01_k».proof.Proof.Gen.RetKIdeal.Value
public import proofs.«01_k».proof.Proof.Gen.RetRIdeal.Run
public import proofs.«01_k».proof.Proof.RetReads
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.RetKIdeal.Value

open Cert.RetKIdeal Cert.RetKIdeal.Gen Cert.Retention
open Cert.RetRIdeal.Value (qr kr vr ST RW HALVES halves_apply)

/-- The retention output: each row of the closed form, normed by head and gated. -/
def RES (z : ℕ → ℕ → ℝ) (x : FVec Ideal S8192x17408 .bf16) (w : FVec Ideal S1024 .f32) (i : Fin 8192) (j : Fin 1024) : EReal :=
  normed (fun l => ((RW z (i.val / 2048) (j.val / 128) (i.val % 2048) l : ℝ) : EReal)) (x (ix2 i (⟨3072 + j.val, by omega⟩ : Fin 17408))) (w (ix1 j))
    ⟨j.val % 128, Nat.mod_lt _ (by norm_num)⟩

/-- An entry of it, by batch, head and row. -/
theorem res_at (z : ℕ → ℕ → ℝ) (x : FVec Ideal S8192x17408 .bf16) (w : FVec Ideal S1024 .f32) (i : Fin 8192) (j : Fin 1024) (j' : Fin 17408) (b h n : ℕ) (e : Fin 128)
    (hn : n < 2048) (hi : i.val = b * 2048 + n) (hj : j.val = h * 128 + e.val) (hj' : j'.val = 3072 + j.val) :
    RES z x w i j = normed (fun l => ((RW z b h n l : ℝ) : EReal)) (x (ix2 i j')) (w (ix1 j)) e := by
  have e1 : i.val / 2048 = b := by omega
  have e2 : j.val / 128 = h := by have := e.isLt; omega
  have e3 : i.val % 2048 = n := by omega
  have e4 : (⟨j.val % 128, Nat.mod_lt _ (by norm_num)⟩ : Fin 128) = e := Fin.ext (by have := e.isLt; show j.val % 128 = e.val; omega)
  have e5 : (⟨3072 + j.val, by omega⟩ : Fin 17408) = j' := Fin.ext hj'.symm
  unfold RES
  rw [e1, e2, e3, e4, e5]

/-- What a chunk stores: the closed form's rows, normed and gated. -/
theorem out_real (g : ℝ) (q k v : ℕ → Fin 128 → ℝ) (n : ℕ) (S : FVec Ideal S128x128 .f32) (Q K V G : FVec Ideal S256x128 .bf16) (w : FVec Ideal S1x128 .f32)
    (hS : ∀ d e, S (ix2 d e) = ((state (Real.exp g) scale (fun j => k j d) (fun j => v j e) n : ℝ) : EReal))
    (hq : ∀ (c : Fin 256) (d : Fin 128), Q (ix2 c d) = ((q (n + c.val) d : ℝ) : EReal))
    (hk : ∀ (c : Fin 256) (d : Fin 128), K (ix2 c d) = ((k (n + c.val) d : ℝ) : EReal))
    (hv : ∀ (c : Fin 256) (d : Fin 128), V (ix2 c d) = ((v (n + c.val) d : ℝ) : EReal)) (r : Fin 256) (e : Fin 128) :
    OUT (DEC (g : EReal)) (QD (g : EReal)) (GW w) S Q K V G (ix2 r e)
      = normed (fun l => ((row (Real.exp g) scale (fun j => ∑ d, q (n + r.val) d * k j d) (fun j => v j l) (n + r.val) : ℝ) : EReal))
          (G (ix2 r e)) (w (ix2 (0 : Fin 1) e)) e := by
  unfold OUT
  rw [norm_apply, gw_apply]
  simp only [mean_apply, o_real g q k v n S Q K V hS hq hk hv]
  rfl

variable (m : (ℓ : Loc nD τ sig) → Buf (Elt Ideal) ℓ) (c : Dev nD) (z : ℕ → ℕ → ℝ) (t : Fin cfg0.N)

/-- A state is the closed form before row `n`. -/
def Good (hh n : ℕ) (S : FVec Ideal S128x128 .f32) : Prop := ∀ d e : Fin 128, S (ix2 d e) = ((ST z (t.val / 2) (t.val % 2 * 4 + hh) n d e : ℝ) : EReal)

/-- The state before the first chunk. -/
theorem good_zero (hh : ℕ) : Good z t hh 0 ZERO := fun d e => by
  rw [zero_apply]
  show _ = ((state _ _ _ _ 0 : ℝ) : EReal)
  rw [state_zero]
  rfl

/-- The entry of the projections a chunk reads of a head, in one of the four column groups. -/
theorem ld_at (p : ℕ) (X : FVec Ideal S2048x512 .bf16) (hX : ∀ (r : Fin 2048) (l : Fin 512) (i : Fin 8192) (j : Fin 17408), i.val = t.val / 2 * 2048 + r.val →
      j.val = p + (t.val % 2 * 512 + l.val) → X (ix2 r l) = ZK m c (ix2 i j))
    (hh n o1 : ℕ) (ho : o1 = hh * 128) (inb) (r : Fin 256) (e : Fin 128) (i : Fin 8192) (j : Fin 17408) (hi : i.val = t.val / 2 * 2048 + (n + r.val))
    (hj : j.val = p + ((t.val % 2 * 4 + hh) * 128 + e.val)) :
    View.ld (Val := Elt Ideal) (e' := .bf16) X (Rect.unit (s := S2048x512) ![n, o1] ![256, 128] inb) (ix2 r e) = ZK m c (ix2 i j) := by
  have h0 : n + 256 ≤ 2048 := inb 0
  have h1 : o1 + 128 ≤ 512 := inb 1
  refine (View.ld_unit_apply_of _ _ _ _ (ix2 r e) (ix2 (⟨n + r.val, by omega⟩ : Fin 2048) (⟨o1 + e.val, by omega⟩ : Fin 512)) fun a => ?_).trans
    (hX _ _ i j (by simp only; omega) (by simp only; omega))
  fin_cases a <;> rfl

/-- A chunk's queries of a head. -/
theorem ld_qr (hz : RowsK m c z) (hh n o1 : ℕ) (ho : o1 = hh * 128) (inb) (r : Fin 256) (e : Fin 128) :
    View.ld (Val := Elt Ideal) (e' := .bf16) (iblk m c 1 t) (Rect.unit (s := S2048x512) ![n, o1] ![256, 128] inb) (ix2 r e)
      = ((qr z (t.val / 2) (t.val % 2 * 4 + hh) (n + r.val) e : ℝ) : EReal) := by
  have h0 : n + 256 ≤ 2048 := inb 0
  have h1 : o1 + 128 ≤ 512 := inb 1
  have ht : t.val < 8 := lt_of_lt_of_eq t.isLt N_0
  refine (ld_at m c t 0 _ (fun r l => read1 m c t r l) hh n o1 ho inb r e (⟨t.val / 2 * 2048 + (n + r.val), by omega⟩ : Fin 8192)
    (⟨0 + ((t.val % 2 * 4 + hh) * 128 + e.val), by omega⟩ : Fin 17408) rfl rfl).trans ((hz _ _ ?_).trans ?_)
  · simp only; omega
  · unfold qr
    exact congrArg (fun k => ((z _ k : ℝ) : EReal)) (Nat.zero_add _)

/-- A chunk's keys of a head. -/
theorem ld_kr (hz : RowsK m c z) (hh n o1 : ℕ) (ho : o1 = hh * 128) (inb) (r : Fin 256) (e : Fin 128) :
    View.ld (Val := Elt Ideal) (e' := .bf16) (iblk m c 2 t) (Rect.unit (s := S2048x512) ![n, o1] ![256, 128] inb) (ix2 r e)
      = ((kr z (t.val / 2) (t.val % 2 * 4 + hh) (n + r.val) e : ℝ) : EReal) := by
  have h0 : n + 256 ≤ 2048 := inb 0
  have h1 : o1 + 128 ≤ 512 := inb 1
  have ht : t.val < 8 := lt_of_lt_of_eq t.isLt N_0
  refine (ld_at m c t 1024 _ (fun r l => read2 m c t r l) hh n o1 ho inb r e (⟨t.val / 2 * 2048 + (n + r.val), by omega⟩ : Fin 8192)
    (⟨1024 + ((t.val % 2 * 4 + hh) * 128 + e.val), by omega⟩ : Fin 17408) rfl rfl).trans ((hz _ _ ?_).trans ?_)
  · simp only; omega
  · unfold kr
    rfl

/-- A chunk's values of a head. -/
theorem ld_vr (hz : RowsK m c z) (hh n o1 : ℕ) (ho : o1 = hh * 128) (inb) (r : Fin 256) (e : Fin 128) :
    View.ld (Val := Elt Ideal) (e' := .bf16) (iblk m c 3 t) (Rect.unit (s := S2048x512) ![n, o1] ![256, 128] inb) (ix2 r e)
      = ((vr z (t.val / 2) (t.val % 2 * 4 + hh) (n + r.val) e : ℝ) : EReal) := by
  have h0 : n + 256 ≤ 2048 := inb 0
  have h1 : o1 + 128 ≤ 512 := inb 1
  have ht : t.val < 8 := lt_of_lt_of_eq t.isLt N_0
  refine (ld_at m c t 2048 _ (fun r l => read3 m c t r l) hh n o1 ho inb r e (⟨t.val / 2 * 2048 + (n + r.val), by omega⟩ : Fin 8192)
    (⟨2048 + ((t.val % 2 * 4 + hh) * 128 + e.val), by omega⟩ : Fin 17408) rfl rfl).trans ((hz _ _ ?_).trans ?_)
  · simp only; omega
  · unfold vr
    rfl

/-- A head's weights of the norm. -/
theorem ld_w (hh o1 : ℕ) (ho : o1 = hh * 128) (inb) (e : Fin 128) (j : Fin 1024) (hj : j.val = (t.val % 2 * 4 + hh) * 128 + e.val) :
    View.ld (Val := Elt Ideal) (e' := .f32) (iblk m c 5 t) (Rect.unit (s := S1x512) ![0, o1] ![1, 128] inb) (ix2 (0 : Fin 1) e) = WK m c (ix1 j) := by
  have h1 : o1 + 128 ≤ 512 := inb 1
  refine (View.ld_unit_apply_of _ _ _ _ (ix2 (0 : Fin 1) e) (ix2 (0 : Fin 1) (⟨o1 + e.val, by omega⟩ : Fin 512)) fun a => ?_).trans
    (read5 m c t _ j (by simp only; omega))
  fin_cases a <;> rfl

/-- The state after one more chunk. -/
theorem good_next (hz : RowsK m c z) (hh n n' o1 : ℕ) (ho : o1 = hh * 128) (hn : n' = n + 256) (inb) (S : FVec Ideal S128x128 .f32) (hS : Good z t hh n S) :
    Good z t hh n' (NEXT (KD ((logDecay (t.val % 2 * 4 + hh) : ℝ) : EReal)) (CD ((logDecay (t.val % 2 * 4 + hh) : ℝ) : EReal)) S
      (View.ld (Val := Elt Ideal) (e' := .bf16) (iblk m c 2 t) (Rect.unit (s := S2048x512) ![n, o1] ![256, 128] inb))
      (View.ld (Val := Elt Ideal) (e' := .bf16) (iblk m c 3 t) (Rect.unit (s := S2048x512) ![n, o1] ![256, 128] inb))) := by
  subst hn
  exact next_real _ (kr z (t.val / 2) (t.val % 2 * 4 + hh)) (vr z (t.val / 2) (t.val % 2 * 4 + hh)) n S _ _ hS
    (ld_kr m c z t hz hh n o1 ho inb) (ld_vr m c z t hz hh n o1 ho inb)

/-- One chunk of one head: its store holds the retention output's entries. -/
theorem piece (hz : RowsK m c z) (hh n o1 : ℕ) (ho : o1 = hh * 128) (inb) (inbw) (S : FVec Ideal S128x128 .f32) (hS : Good z t hh n S) (r : Fin 256) (e : Fin 128)
    (i : Fin 8192) (j : Fin 1024) (hi : i.val = t.val / 2 * 2048 + (n + r.val)) (hj : j.val = (t.val % 2 * 4 + hh) * 128 + e.val) :
    OUT (DEC ((logDecay (t.val % 2 * 4 + hh) : ℝ) : EReal)) (QD ((logDecay (t.val % 2 * 4 + hh) : ℝ) : EReal))
      (GW (View.ld (Val := Elt Ideal) (e' := .f32) (iblk m c 5 t) (Rect.unit (s := S1x512) ![0, o1] ![1, 128] inbw))) S
      (View.ld (Val := Elt Ideal) (e' := .bf16) (iblk m c 1 t) (Rect.unit (s := S2048x512) ![n, o1] ![256, 128] inb))
      (View.ld (Val := Elt Ideal) (e' := .bf16) (iblk m c 2 t) (Rect.unit (s := S2048x512) ![n, o1] ![256, 128] inb))
      (View.ld (Val := Elt Ideal) (e' := .bf16) (iblk m c 3 t) (Rect.unit (s := S2048x512) ![n, o1] ![256, 128] inb))
      (View.ld (Val := Elt Ideal) (e' := .bf16) (iblk m c 4 t) (Rect.unit (s := S2048x512) ![n, o1] ![256, 128] inb)) (ix2 r e)
      = RES z (ZK m c) (WK m c) i j := by
  have h0 : n + 256 ≤ 2048 := inb 0
  have h1 : o1 + 128 ≤ 512 := inb 1
  have hj' : 3072 + j.val < 17408 := by omega
  rw [res_at z _ _ i j ⟨3072 + j.val, hj'⟩ (t.val / 2) (t.val % 2 * 4 + hh) (n + r.val) e (by omega) hi hj rfl]
  refine (out_real _ (qr z (t.val / 2) (t.val % 2 * 4 + hh)) (kr z (t.val / 2) (t.val % 2 * 4 + hh)) (vr z (t.val / 2) (t.val % 2 * 4 + hh)) n S _ _ _ _ _ hS
    (ld_qr m c z t hz hh n o1 ho inb) (ld_kr m c z t hz hh n o1 ho inb) (ld_vr m c z t hz hh n o1 ho inb) r e).trans ?_
  rw [ld_w m c t hh o1 ho inbw e j hj, ld_at m c t 3072 _ (fun r l => read4 m c t r l) hh n o1 ho inb r e i ⟨3072 + j.val, hj'⟩ hi (by simp only; omega)]
  rfl

/-- Where a point's block of the first result lies. -/
theorem emb10 (r : Fin 2048) (l : Fin 512) (i : Fin 8192) (j : Fin 1024) (hi : i.val = t.val / 2 * 2048 + r.val) (hj : j.val = t.val % 2 * 512 + l.val) :
    ((cfg0.win 10).blk t).view.emb (ix2 r l) = ix2 i j := by
  blk_ext [idxo t]

set_option maxHeartbeats 4000000 in
/-- The first result is the retention output. -/
theorem final10 (hz : RowsK m c z) : (dats m 0 c).arrAt 10 (cfgs 0).N
    = fun y : S8192x1024.Idx => RES z (ZK m c) (WK m c) (y 0) (y 1) := by
  refine (dats m 0 c).arrAt_eq_of_covers 10 _ (by decide +kernel) fun t _ y => ?_
  blk_simp
  rw [after0_10]
  have ht : t.val < 8 := lt_of_lt_of_eq t.isLt N_0
  obtain ⟨r, l, rfl⟩ : ∃ (r : Fin 2048) (l : Fin 512), y = ix2 r l := ⟨y 0, y 1, eq_ix2 y⟩
  obtain ⟨i, hi⟩ : ∃ i : Fin 8192, i.val = t.val / 2 * 2048 + r.val := ⟨⟨_, by omega⟩, rfl⟩
  obtain ⟨j, hj⟩ : ∃ j : Fin 1024, j.val = t.val % 2 * 512 + l.val := ⟨⟨_, by omega⟩, rfl⟩
  refine Eq.trans ?_ (congrArg (fun y : S8192x1024.Idx => RES z (ZK m c) (WK m c) (y 0) (y 1)) (emb10 t r l i j hi hj).symm)
  show _ = RES z (ZK m c) (WK m c) i j
  unfold outsAt0
  dsimp only
  frame_out
  canon_tiles x hx
  · obtain ⟨r', e, rfl⟩ : ∃ (r' : Fin 256) (e : Fin 128), x = ix2 r' e := ⟨x 0, x 1, eq_ix2 x⟩
    replace hx0 : r.val = 1792 + r'.val := hx0
    replace hx1 : l.val = 384 + e.val := hx1
    simp only [out_0_3, next_0_3, out_1_3, next_1_3, out_2_3, next_2_3, dec_3, qd_3, kd_3, cd_3, gw_3, out_3_0, next_3_0, out_3_1, next_3_1, out_3_2, next_3_2, out_3_3, next_3_3, out_3_4, next_3_4, out_3_5, next_3_5, out_3_6, next_3_6, out_3_7, lg_3]
    exact piece m c z t hz 3 1792 384 rfl _ _ _ (good_next m c z t hz 3 1536 1792 384 rfl rfl _ _ (good_next m c z t hz 3 1280 1536 384 rfl rfl _ _ (good_next m c z t hz 3 1024 1280 384 rfl rfl _ _ (good_next m c z t hz 3 768 1024 384 rfl rfl _ _ (good_next m c z t hz 3 512 768 384 rfl rfl _ _ (good_next m c z t hz 3 256 512 384 rfl rfl _ _ (good_next m c z t hz 3 0 256 384 rfl rfl _ _ (good_zero z t 3)))))))) r' e i j (by omega) (by omega)
  · obtain ⟨r', e, rfl⟩ : ∃ (r' : Fin 256) (e : Fin 128), x = ix2 r' e := ⟨x 0, x 1, eq_ix2 x⟩
    replace hx0 : r.val = 1536 + r'.val := hx0
    replace hx1 : l.val = 384 + e.val := hx1
    simp only [out_0_3, next_0_3, out_1_3, next_1_3, out_2_3, next_2_3, dec_3, qd_3, kd_3, cd_3, gw_3, out_3_0, next_3_0, out_3_1, next_3_1, out_3_2, next_3_2, out_3_3, next_3_3, out_3_4, next_3_4, out_3_5, next_3_5, out_3_6, next_3_6, out_3_7, lg_3]
    exact piece m c z t hz 3 1536 384 rfl _ _ _ (good_next m c z t hz 3 1280 1536 384 rfl rfl _ _ (good_next m c z t hz 3 1024 1280 384 rfl rfl _ _ (good_next m c z t hz 3 768 1024 384 rfl rfl _ _ (good_next m c z t hz 3 512 768 384 rfl rfl _ _ (good_next m c z t hz 3 256 512 384 rfl rfl _ _ (good_next m c z t hz 3 0 256 384 rfl rfl _ _ (good_zero z t 3))))))) r' e i j (by omega) (by omega)
  · obtain ⟨r', e, rfl⟩ : ∃ (r' : Fin 256) (e : Fin 128), x = ix2 r' e := ⟨x 0, x 1, eq_ix2 x⟩
    replace hx0 : r.val = 1280 + r'.val := hx0
    replace hx1 : l.val = 384 + e.val := hx1
    simp only [out_0_3, next_0_3, out_1_3, next_1_3, out_2_3, next_2_3, dec_3, qd_3, kd_3, cd_3, gw_3, out_3_0, next_3_0, out_3_1, next_3_1, out_3_2, next_3_2, out_3_3, next_3_3, out_3_4, next_3_4, out_3_5, next_3_5, out_3_6, next_3_6, out_3_7, lg_3]
    exact piece m c z t hz 3 1280 384 rfl _ _ _ (good_next m c z t hz 3 1024 1280 384 rfl rfl _ _ (good_next m c z t hz 3 768 1024 384 rfl rfl _ _ (good_next m c z t hz 3 512 768 384 rfl rfl _ _ (good_next m c z t hz 3 256 512 384 rfl rfl _ _ (good_next m c z t hz 3 0 256 384 rfl rfl _ _ (good_zero z t 3)))))) r' e i j (by omega) (by omega)
  · obtain ⟨r', e, rfl⟩ : ∃ (r' : Fin 256) (e : Fin 128), x = ix2 r' e := ⟨x 0, x 1, eq_ix2 x⟩
    replace hx0 : r.val = 1024 + r'.val := hx0
    replace hx1 : l.val = 384 + e.val := hx1
    simp only [out_0_3, next_0_3, out_1_3, next_1_3, out_2_3, next_2_3, dec_3, qd_3, kd_3, cd_3, gw_3, out_3_0, next_3_0, out_3_1, next_3_1, out_3_2, next_3_2, out_3_3, next_3_3, out_3_4, next_3_4, out_3_5, next_3_5, out_3_6, next_3_6, out_3_7, lg_3]
    exact piece m c z t hz 3 1024 384 rfl _ _ _ (good_next m c z t hz 3 768 1024 384 rfl rfl _ _ (good_next m c z t hz 3 512 768 384 rfl rfl _ _ (good_next m c z t hz 3 256 512 384 rfl rfl _ _ (good_next m c z t hz 3 0 256 384 rfl rfl _ _ (good_zero z t 3))))) r' e i j (by omega) (by omega)
  · obtain ⟨r', e, rfl⟩ : ∃ (r' : Fin 256) (e : Fin 128), x = ix2 r' e := ⟨x 0, x 1, eq_ix2 x⟩
    replace hx0 : r.val = 768 + r'.val := hx0
    replace hx1 : l.val = 384 + e.val := hx1
    simp only [out_0_3, next_0_3, out_1_3, next_1_3, out_2_3, next_2_3, dec_3, qd_3, kd_3, cd_3, gw_3, out_3_0, next_3_0, out_3_1, next_3_1, out_3_2, next_3_2, out_3_3, next_3_3, out_3_4, next_3_4, out_3_5, next_3_5, out_3_6, next_3_6, out_3_7, lg_3]
    exact piece m c z t hz 3 768 384 rfl _ _ _ (good_next m c z t hz 3 512 768 384 rfl rfl _ _ (good_next m c z t hz 3 256 512 384 rfl rfl _ _ (good_next m c z t hz 3 0 256 384 rfl rfl _ _ (good_zero z t 3)))) r' e i j (by omega) (by omega)
  · obtain ⟨r', e, rfl⟩ : ∃ (r' : Fin 256) (e : Fin 128), x = ix2 r' e := ⟨x 0, x 1, eq_ix2 x⟩
    replace hx0 : r.val = 512 + r'.val := hx0
    replace hx1 : l.val = 384 + e.val := hx1
    simp only [out_0_3, next_0_3, out_1_3, next_1_3, out_2_3, next_2_3, dec_3, qd_3, kd_3, cd_3, gw_3, out_3_0, next_3_0, out_3_1, next_3_1, out_3_2, next_3_2, out_3_3, next_3_3, out_3_4, next_3_4, out_3_5, next_3_5, out_3_6, next_3_6, out_3_7, lg_3]
    exact piece m c z t hz 3 512 384 rfl _ _ _ (good_next m c z t hz 3 256 512 384 rfl rfl _ _ (good_next m c z t hz 3 0 256 384 rfl rfl _ _ (good_zero z t 3))) r' e i j (by omega) (by omega)
  · obtain ⟨r', e, rfl⟩ : ∃ (r' : Fin 256) (e : Fin 128), x = ix2 r' e := ⟨x 0, x 1, eq_ix2 x⟩
    replace hx0 : r.val = 256 + r'.val := hx0
    replace hx1 : l.val = 384 + e.val := hx1
    simp only [out_0_3, next_0_3, out_1_3, next_1_3, out_2_3, next_2_3, dec_3, qd_3, kd_3, cd_3, gw_3, out_3_0, next_3_0, out_3_1, next_3_1, out_3_2, next_3_2, out_3_3, next_3_3, out_3_4, next_3_4, out_3_5, next_3_5, out_3_6, next_3_6, out_3_7, lg_3]
    exact piece m c z t hz 3 256 384 rfl _ _ _ (good_next m c z t hz 3 0 256 384 rfl rfl _ _ (good_zero z t 3)) r' e i j (by omega) (by omega)
  · obtain ⟨r', e, rfl⟩ : ∃ (r' : Fin 256) (e : Fin 128), x = ix2 r' e := ⟨x 0, x 1, eq_ix2 x⟩
    replace hx0 : r.val = r'.val := hx0
    replace hx1 : l.val = 384 + e.val := hx1
    simp only [out_0_3, next_0_3, out_1_3, next_1_3, out_2_3, next_2_3, dec_3, qd_3, kd_3, cd_3, gw_3, out_3_0, next_3_0, out_3_1, next_3_1, out_3_2, next_3_2, out_3_3, next_3_3, out_3_4, next_3_4, out_3_5, next_3_5, out_3_6, next_3_6, out_3_7, lg_3]
    exact piece m c z t hz 3 0 384 rfl _ _ _ (good_zero z t 3) r' e i j (by omega) (by omega)
  · obtain ⟨r', e, rfl⟩ : ∃ (r' : Fin 256) (e : Fin 128), x = ix2 r' e := ⟨x 0, x 1, eq_ix2 x⟩
    replace hx0 : r.val = 1792 + r'.val := hx0
    replace hx1 : l.val = 256 + e.val := hx1
    simp only [out_0_2, next_0_2, out_1_2, next_1_2, dec_2, qd_2, kd_2, cd_2, gw_2, out_2_0, next_2_0, out_2_1, next_2_1, out_2_2, next_2_2, out_2_3, next_2_3, out_2_4, next_2_4, out_2_5, next_2_5, out_2_6, next_2_6, out_2_7, out_3_2, next_3_2, lg_2]
    exact piece m c z t hz 2 1792 256 rfl _ _ _ (good_next m c z t hz 2 1536 1792 256 rfl rfl _ _ (good_next m c z t hz 2 1280 1536 256 rfl rfl _ _ (good_next m c z t hz 2 1024 1280 256 rfl rfl _ _ (good_next m c z t hz 2 768 1024 256 rfl rfl _ _ (good_next m c z t hz 2 512 768 256 rfl rfl _ _ (good_next m c z t hz 2 256 512 256 rfl rfl _ _ (good_next m c z t hz 2 0 256 256 rfl rfl _ _ (good_zero z t 2)))))))) r' e i j (by omega) (by omega)
  · obtain ⟨r', e, rfl⟩ : ∃ (r' : Fin 256) (e : Fin 128), x = ix2 r' e := ⟨x 0, x 1, eq_ix2 x⟩
    replace hx0 : r.val = 1536 + r'.val := hx0
    replace hx1 : l.val = 256 + e.val := hx1
    simp only [out_0_2, next_0_2, out_1_2, next_1_2, dec_2, qd_2, kd_2, cd_2, gw_2, out_2_0, next_2_0, out_2_1, next_2_1, out_2_2, next_2_2, out_2_3, next_2_3, out_2_4, next_2_4, out_2_5, next_2_5, out_2_6, next_2_6, out_2_7, out_3_2, next_3_2, lg_2]
    exact piece m c z t hz 2 1536 256 rfl _ _ _ (good_next m c z t hz 2 1280 1536 256 rfl rfl _ _ (good_next m c z t hz 2 1024 1280 256 rfl rfl _ _ (good_next m c z t hz 2 768 1024 256 rfl rfl _ _ (good_next m c z t hz 2 512 768 256 rfl rfl _ _ (good_next m c z t hz 2 256 512 256 rfl rfl _ _ (good_next m c z t hz 2 0 256 256 rfl rfl _ _ (good_zero z t 2))))))) r' e i j (by omega) (by omega)
  · obtain ⟨r', e, rfl⟩ : ∃ (r' : Fin 256) (e : Fin 128), x = ix2 r' e := ⟨x 0, x 1, eq_ix2 x⟩
    replace hx0 : r.val = 1280 + r'.val := hx0
    replace hx1 : l.val = 256 + e.val := hx1
    simp only [out_0_2, next_0_2, out_1_2, next_1_2, dec_2, qd_2, kd_2, cd_2, gw_2, out_2_0, next_2_0, out_2_1, next_2_1, out_2_2, next_2_2, out_2_3, next_2_3, out_2_4, next_2_4, out_2_5, next_2_5, out_2_6, next_2_6, out_2_7, out_3_2, next_3_2, lg_2]
    exact piece m c z t hz 2 1280 256 rfl _ _ _ (good_next m c z t hz 2 1024 1280 256 rfl rfl _ _ (good_next m c z t hz 2 768 1024 256 rfl rfl _ _ (good_next m c z t hz 2 512 768 256 rfl rfl _ _ (good_next m c z t hz 2 256 512 256 rfl rfl _ _ (good_next m c z t hz 2 0 256 256 rfl rfl _ _ (good_zero z t 2)))))) r' e i j (by omega) (by omega)
  · obtain ⟨r', e, rfl⟩ : ∃ (r' : Fin 256) (e : Fin 128), x = ix2 r' e := ⟨x 0, x 1, eq_ix2 x⟩
    replace hx0 : r.val = 1024 + r'.val := hx0
    replace hx1 : l.val = 256 + e.val := hx1
    simp only [out_0_2, next_0_2, out_1_2, next_1_2, dec_2, qd_2, kd_2, cd_2, gw_2, out_2_0, next_2_0, out_2_1, next_2_1, out_2_2, next_2_2, out_2_3, next_2_3, out_2_4, next_2_4, out_2_5, next_2_5, out_2_6, next_2_6, out_2_7, out_3_2, next_3_2, lg_2]
    exact piece m c z t hz 2 1024 256 rfl _ _ _ (good_next m c z t hz 2 768 1024 256 rfl rfl _ _ (good_next m c z t hz 2 512 768 256 rfl rfl _ _ (good_next m c z t hz 2 256 512 256 rfl rfl _ _ (good_next m c z t hz 2 0 256 256 rfl rfl _ _ (good_zero z t 2))))) r' e i j (by omega) (by omega)
  · obtain ⟨r', e, rfl⟩ : ∃ (r' : Fin 256) (e : Fin 128), x = ix2 r' e := ⟨x 0, x 1, eq_ix2 x⟩
    replace hx0 : r.val = 768 + r'.val := hx0
    replace hx1 : l.val = 256 + e.val := hx1
    simp only [out_0_2, next_0_2, out_1_2, next_1_2, dec_2, qd_2, kd_2, cd_2, gw_2, out_2_0, next_2_0, out_2_1, next_2_1, out_2_2, next_2_2, out_2_3, next_2_3, out_2_4, next_2_4, out_2_5, next_2_5, out_2_6, next_2_6, out_2_7, out_3_2, next_3_2, lg_2]
    exact piece m c z t hz 2 768 256 rfl _ _ _ (good_next m c z t hz 2 512 768 256 rfl rfl _ _ (good_next m c z t hz 2 256 512 256 rfl rfl _ _ (good_next m c z t hz 2 0 256 256 rfl rfl _ _ (good_zero z t 2)))) r' e i j (by omega) (by omega)
  · obtain ⟨r', e, rfl⟩ : ∃ (r' : Fin 256) (e : Fin 128), x = ix2 r' e := ⟨x 0, x 1, eq_ix2 x⟩
    replace hx0 : r.val = 512 + r'.val := hx0
    replace hx1 : l.val = 256 + e.val := hx1
    simp only [out_0_2, next_0_2, out_1_2, next_1_2, dec_2, qd_2, kd_2, cd_2, gw_2, out_2_0, next_2_0, out_2_1, next_2_1, out_2_2, next_2_2, out_2_3, next_2_3, out_2_4, next_2_4, out_2_5, next_2_5, out_2_6, next_2_6, out_2_7, out_3_2, next_3_2, lg_2]
    exact piece m c z t hz 2 512 256 rfl _ _ _ (good_next m c z t hz 2 256 512 256 rfl rfl _ _ (good_next m c z t hz 2 0 256 256 rfl rfl _ _ (good_zero z t 2))) r' e i j (by omega) (by omega)
  · obtain ⟨r', e, rfl⟩ : ∃ (r' : Fin 256) (e : Fin 128), x = ix2 r' e := ⟨x 0, x 1, eq_ix2 x⟩
    replace hx0 : r.val = 256 + r'.val := hx0
    replace hx1 : l.val = 256 + e.val := hx1
    simp only [out_0_2, next_0_2, out_1_2, next_1_2, dec_2, qd_2, kd_2, cd_2, gw_2, out_2_0, next_2_0, out_2_1, next_2_1, out_2_2, next_2_2, out_2_3, next_2_3, out_2_4, next_2_4, out_2_5, next_2_5, out_2_6, next_2_6, out_2_7, out_3_2, next_3_2, lg_2]
    exact piece m c z t hz 2 256 256 rfl _ _ _ (good_next m c z t hz 2 0 256 256 rfl rfl _ _ (good_zero z t 2)) r' e i j (by omega) (by omega)
  · obtain ⟨r', e, rfl⟩ : ∃ (r' : Fin 256) (e : Fin 128), x = ix2 r' e := ⟨x 0, x 1, eq_ix2 x⟩
    replace hx0 : r.val = r'.val := hx0
    replace hx1 : l.val = 256 + e.val := hx1
    simp only [out_0_2, next_0_2, out_1_2, next_1_2, dec_2, qd_2, kd_2, cd_2, gw_2, out_2_0, next_2_0, out_2_1, next_2_1, out_2_2, next_2_2, out_2_3, next_2_3, out_2_4, next_2_4, out_2_5, next_2_5, out_2_6, next_2_6, out_2_7, out_3_2, next_3_2, lg_2]
    exact piece m c z t hz 2 0 256 rfl _ _ _ (good_zero z t 2) r' e i j (by omega) (by omega)
  · obtain ⟨r', e, rfl⟩ : ∃ (r' : Fin 256) (e : Fin 128), x = ix2 r' e := ⟨x 0, x 1, eq_ix2 x⟩
    replace hx0 : r.val = 1792 + r'.val := hx0
    replace hx1 : l.val = 128 + e.val := hx1
    simp only [out_0_1, next_0_1, dec_1, qd_1, kd_1, cd_1, gw_1, out_1_0, next_1_0, out_1_1, next_1_1, out_1_2, next_1_2, out_1_3, next_1_3, out_1_4, next_1_4, out_1_5, next_1_5, out_1_6, next_1_6, out_1_7, out_2_1, next_2_1, out_3_1, next_3_1, lg_1]
    exact piece m c z t hz 1 1792 128 rfl _ _ _ (good_next m c z t hz 1 1536 1792 128 rfl rfl _ _ (good_next m c z t hz 1 1280 1536 128 rfl rfl _ _ (good_next m c z t hz 1 1024 1280 128 rfl rfl _ _ (good_next m c z t hz 1 768 1024 128 rfl rfl _ _ (good_next m c z t hz 1 512 768 128 rfl rfl _ _ (good_next m c z t hz 1 256 512 128 rfl rfl _ _ (good_next m c z t hz 1 0 256 128 rfl rfl _ _ (good_zero z t 1)))))))) r' e i j (by omega) (by omega)
  · obtain ⟨r', e, rfl⟩ : ∃ (r' : Fin 256) (e : Fin 128), x = ix2 r' e := ⟨x 0, x 1, eq_ix2 x⟩
    replace hx0 : r.val = 1536 + r'.val := hx0
    replace hx1 : l.val = 128 + e.val := hx1
    simp only [out_0_1, next_0_1, dec_1, qd_1, kd_1, cd_1, gw_1, out_1_0, next_1_0, out_1_1, next_1_1, out_1_2, next_1_2, out_1_3, next_1_3, out_1_4, next_1_4, out_1_5, next_1_5, out_1_6, next_1_6, out_1_7, out_2_1, next_2_1, out_3_1, next_3_1, lg_1]
    exact piece m c z t hz 1 1536 128 rfl _ _ _ (good_next m c z t hz 1 1280 1536 128 rfl rfl _ _ (good_next m c z t hz 1 1024 1280 128 rfl rfl _ _ (good_next m c z t hz 1 768 1024 128 rfl rfl _ _ (good_next m c z t hz 1 512 768 128 rfl rfl _ _ (good_next m c z t hz 1 256 512 128 rfl rfl _ _ (good_next m c z t hz 1 0 256 128 rfl rfl _ _ (good_zero z t 1))))))) r' e i j (by omega) (by omega)
  · obtain ⟨r', e, rfl⟩ : ∃ (r' : Fin 256) (e : Fin 128), x = ix2 r' e := ⟨x 0, x 1, eq_ix2 x⟩
    replace hx0 : r.val = 1280 + r'.val := hx0
    replace hx1 : l.val = 128 + e.val := hx1
    simp only [out_0_1, next_0_1, dec_1, qd_1, kd_1, cd_1, gw_1, out_1_0, next_1_0, out_1_1, next_1_1, out_1_2, next_1_2, out_1_3, next_1_3, out_1_4, next_1_4, out_1_5, next_1_5, out_1_6, next_1_6, out_1_7, out_2_1, next_2_1, out_3_1, next_3_1, lg_1]
    exact piece m c z t hz 1 1280 128 rfl _ _ _ (good_next m c z t hz 1 1024 1280 128 rfl rfl _ _ (good_next m c z t hz 1 768 1024 128 rfl rfl _ _ (good_next m c z t hz 1 512 768 128 rfl rfl _ _ (good_next m c z t hz 1 256 512 128 rfl rfl _ _ (good_next m c z t hz 1 0 256 128 rfl rfl _ _ (good_zero z t 1)))))) r' e i j (by omega) (by omega)
  · obtain ⟨r', e, rfl⟩ : ∃ (r' : Fin 256) (e : Fin 128), x = ix2 r' e := ⟨x 0, x 1, eq_ix2 x⟩
    replace hx0 : r.val = 1024 + r'.val := hx0
    replace hx1 : l.val = 128 + e.val := hx1
    simp only [out_0_1, next_0_1, dec_1, qd_1, kd_1, cd_1, gw_1, out_1_0, next_1_0, out_1_1, next_1_1, out_1_2, next_1_2, out_1_3, next_1_3, out_1_4, next_1_4, out_1_5, next_1_5, out_1_6, next_1_6, out_1_7, out_2_1, next_2_1, out_3_1, next_3_1, lg_1]
    exact piece m c z t hz 1 1024 128 rfl _ _ _ (good_next m c z t hz 1 768 1024 128 rfl rfl _ _ (good_next m c z t hz 1 512 768 128 rfl rfl _ _ (good_next m c z t hz 1 256 512 128 rfl rfl _ _ (good_next m c z t hz 1 0 256 128 rfl rfl _ _ (good_zero z t 1))))) r' e i j (by omega) (by omega)
  · obtain ⟨r', e, rfl⟩ : ∃ (r' : Fin 256) (e : Fin 128), x = ix2 r' e := ⟨x 0, x 1, eq_ix2 x⟩
    replace hx0 : r.val = 768 + r'.val := hx0
    replace hx1 : l.val = 128 + e.val := hx1
    simp only [out_0_1, next_0_1, dec_1, qd_1, kd_1, cd_1, gw_1, out_1_0, next_1_0, out_1_1, next_1_1, out_1_2, next_1_2, out_1_3, next_1_3, out_1_4, next_1_4, out_1_5, next_1_5, out_1_6, next_1_6, out_1_7, out_2_1, next_2_1, out_3_1, next_3_1, lg_1]
    exact piece m c z t hz 1 768 128 rfl _ _ _ (good_next m c z t hz 1 512 768 128 rfl rfl _ _ (good_next m c z t hz 1 256 512 128 rfl rfl _ _ (good_next m c z t hz 1 0 256 128 rfl rfl _ _ (good_zero z t 1)))) r' e i j (by omega) (by omega)
  · obtain ⟨r', e, rfl⟩ : ∃ (r' : Fin 256) (e : Fin 128), x = ix2 r' e := ⟨x 0, x 1, eq_ix2 x⟩
    replace hx0 : r.val = 512 + r'.val := hx0
    replace hx1 : l.val = 128 + e.val := hx1
    simp only [out_0_1, next_0_1, dec_1, qd_1, kd_1, cd_1, gw_1, out_1_0, next_1_0, out_1_1, next_1_1, out_1_2, next_1_2, out_1_3, next_1_3, out_1_4, next_1_4, out_1_5, next_1_5, out_1_6, next_1_6, out_1_7, out_2_1, next_2_1, out_3_1, next_3_1, lg_1]
    exact piece m c z t hz 1 512 128 rfl _ _ _ (good_next m c z t hz 1 256 512 128 rfl rfl _ _ (good_next m c z t hz 1 0 256 128 rfl rfl _ _ (good_zero z t 1))) r' e i j (by omega) (by omega)
  · obtain ⟨r', e, rfl⟩ : ∃ (r' : Fin 256) (e : Fin 128), x = ix2 r' e := ⟨x 0, x 1, eq_ix2 x⟩
    replace hx0 : r.val = 256 + r'.val := hx0
    replace hx1 : l.val = 128 + e.val := hx1
    simp only [out_0_1, next_0_1, dec_1, qd_1, kd_1, cd_1, gw_1, out_1_0, next_1_0, out_1_1, next_1_1, out_1_2, next_1_2, out_1_3, next_1_3, out_1_4, next_1_4, out_1_5, next_1_5, out_1_6, next_1_6, out_1_7, out_2_1, next_2_1, out_3_1, next_3_1, lg_1]
    exact piece m c z t hz 1 256 128 rfl _ _ _ (good_next m c z t hz 1 0 256 128 rfl rfl _ _ (good_zero z t 1)) r' e i j (by omega) (by omega)
  · obtain ⟨r', e, rfl⟩ : ∃ (r' : Fin 256) (e : Fin 128), x = ix2 r' e := ⟨x 0, x 1, eq_ix2 x⟩
    replace hx0 : r.val = r'.val := hx0
    replace hx1 : l.val = 128 + e.val := hx1
    simp only [out_0_1, next_0_1, dec_1, qd_1, kd_1, cd_1, gw_1, out_1_0, next_1_0, out_1_1, next_1_1, out_1_2, next_1_2, out_1_3, next_1_3, out_1_4, next_1_4, out_1_5, next_1_5, out_1_6, next_1_6, out_1_7, out_2_1, next_2_1, out_3_1, next_3_1, lg_1]
    exact piece m c z t hz 1 0 128 rfl _ _ _ (good_zero z t 1) r' e i j (by omega) (by omega)
  · obtain ⟨r', e, rfl⟩ : ∃ (r' : Fin 256) (e : Fin 128), x = ix2 r' e := ⟨x 0, x 1, eq_ix2 x⟩
    replace hx0 : r.val = 1792 + r'.val := hx0
    replace hx1 : l.val = e.val := hx1
    simp only [dec_0, qd_0, kd_0, cd_0, gw_0, out_0_0, next_0_0, out_0_1, next_0_1, out_0_2, next_0_2, out_0_3, next_0_3, out_0_4, next_0_4, out_0_5, next_0_5, out_0_6, next_0_6, out_0_7, out_1_0, next_1_0, out_2_0, next_2_0, out_3_0, next_3_0, lg_0]
    exact piece m c z t hz 0 1792 0 rfl _ _ _ (good_next m c z t hz 0 1536 1792 0 rfl rfl _ _ (good_next m c z t hz 0 1280 1536 0 rfl rfl _ _ (good_next m c z t hz 0 1024 1280 0 rfl rfl _ _ (good_next m c z t hz 0 768 1024 0 rfl rfl _ _ (good_next m c z t hz 0 512 768 0 rfl rfl _ _ (good_next m c z t hz 0 256 512 0 rfl rfl _ _ (good_next m c z t hz 0 0 256 0 rfl rfl _ _ (good_zero z t 0)))))))) r' e i j (by omega) (by omega)
  · obtain ⟨r', e, rfl⟩ : ∃ (r' : Fin 256) (e : Fin 128), x = ix2 r' e := ⟨x 0, x 1, eq_ix2 x⟩
    replace hx0 : r.val = 1536 + r'.val := hx0
    replace hx1 : l.val = e.val := hx1
    simp only [dec_0, qd_0, kd_0, cd_0, gw_0, out_0_0, next_0_0, out_0_1, next_0_1, out_0_2, next_0_2, out_0_3, next_0_3, out_0_4, next_0_4, out_0_5, next_0_5, out_0_6, next_0_6, out_0_7, out_1_0, next_1_0, out_2_0, next_2_0, out_3_0, next_3_0, lg_0]
    exact piece m c z t hz 0 1536 0 rfl _ _ _ (good_next m c z t hz 0 1280 1536 0 rfl rfl _ _ (good_next m c z t hz 0 1024 1280 0 rfl rfl _ _ (good_next m c z t hz 0 768 1024 0 rfl rfl _ _ (good_next m c z t hz 0 512 768 0 rfl rfl _ _ (good_next m c z t hz 0 256 512 0 rfl rfl _ _ (good_next m c z t hz 0 0 256 0 rfl rfl _ _ (good_zero z t 0))))))) r' e i j (by omega) (by omega)
  · obtain ⟨r', e, rfl⟩ : ∃ (r' : Fin 256) (e : Fin 128), x = ix2 r' e := ⟨x 0, x 1, eq_ix2 x⟩
    replace hx0 : r.val = 1280 + r'.val := hx0
    replace hx1 : l.val = e.val := hx1
    simp only [dec_0, qd_0, kd_0, cd_0, gw_0, out_0_0, next_0_0, out_0_1, next_0_1, out_0_2, next_0_2, out_0_3, next_0_3, out_0_4, next_0_4, out_0_5, next_0_5, out_0_6, next_0_6, out_0_7, out_1_0, next_1_0, out_2_0, next_2_0, out_3_0, next_3_0, lg_0]
    exact piece m c z t hz 0 1280 0 rfl _ _ _ (good_next m c z t hz 0 1024 1280 0 rfl rfl _ _ (good_next m c z t hz 0 768 1024 0 rfl rfl _ _ (good_next m c z t hz 0 512 768 0 rfl rfl _ _ (good_next m c z t hz 0 256 512 0 rfl rfl _ _ (good_next m c z t hz 0 0 256 0 rfl rfl _ _ (good_zero z t 0)))))) r' e i j (by omega) (by omega)
  · obtain ⟨r', e, rfl⟩ : ∃ (r' : Fin 256) (e : Fin 128), x = ix2 r' e := ⟨x 0, x 1, eq_ix2 x⟩
    replace hx0 : r.val = 1024 + r'.val := hx0
    replace hx1 : l.val = e.val := hx1
    simp only [dec_0, qd_0, kd_0, cd_0, gw_0, out_0_0, next_0_0, out_0_1, next_0_1, out_0_2, next_0_2, out_0_3, next_0_3, out_0_4, next_0_4, out_0_5, next_0_5, out_0_6, next_0_6, out_0_7, out_1_0, next_1_0, out_2_0, next_2_0, out_3_0, next_3_0, lg_0]
    exact piece m c z t hz 0 1024 0 rfl _ _ _ (good_next m c z t hz 0 768 1024 0 rfl rfl _ _ (good_next m c z t hz 0 512 768 0 rfl rfl _ _ (good_next m c z t hz 0 256 512 0 rfl rfl _ _ (good_next m c z t hz 0 0 256 0 rfl rfl _ _ (good_zero z t 0))))) r' e i j (by omega) (by omega)
  · obtain ⟨r', e, rfl⟩ : ∃ (r' : Fin 256) (e : Fin 128), x = ix2 r' e := ⟨x 0, x 1, eq_ix2 x⟩
    replace hx0 : r.val = 768 + r'.val := hx0
    replace hx1 : l.val = e.val := hx1
    simp only [dec_0, qd_0, kd_0, cd_0, gw_0, out_0_0, next_0_0, out_0_1, next_0_1, out_0_2, next_0_2, out_0_3, next_0_3, out_0_4, next_0_4, out_0_5, next_0_5, out_0_6, next_0_6, out_0_7, out_1_0, next_1_0, out_2_0, next_2_0, out_3_0, next_3_0, lg_0]
    exact piece m c z t hz 0 768 0 rfl _ _ _ (good_next m c z t hz 0 512 768 0 rfl rfl _ _ (good_next m c z t hz 0 256 512 0 rfl rfl _ _ (good_next m c z t hz 0 0 256 0 rfl rfl _ _ (good_zero z t 0)))) r' e i j (by omega) (by omega)
  · obtain ⟨r', e, rfl⟩ : ∃ (r' : Fin 256) (e : Fin 128), x = ix2 r' e := ⟨x 0, x 1, eq_ix2 x⟩
    replace hx0 : r.val = 512 + r'.val := hx0
    replace hx1 : l.val = e.val := hx1
    simp only [dec_0, qd_0, kd_0, cd_0, gw_0, out_0_0, next_0_0, out_0_1, next_0_1, out_0_2, next_0_2, out_0_3, next_0_3, out_0_4, next_0_4, out_0_5, next_0_5, out_0_6, next_0_6, out_0_7, out_1_0, next_1_0, out_2_0, next_2_0, out_3_0, next_3_0, lg_0]
    exact piece m c z t hz 0 512 0 rfl _ _ _ (good_next m c z t hz 0 256 512 0 rfl rfl _ _ (good_next m c z t hz 0 0 256 0 rfl rfl _ _ (good_zero z t 0))) r' e i j (by omega) (by omega)
  · obtain ⟨r', e, rfl⟩ : ∃ (r' : Fin 256) (e : Fin 128), x = ix2 r' e := ⟨x 0, x 1, eq_ix2 x⟩
    replace hx0 : r.val = 256 + r'.val := hx0
    replace hx1 : l.val = e.val := hx1
    simp only [dec_0, qd_0, kd_0, cd_0, gw_0, out_0_0, next_0_0, out_0_1, next_0_1, out_0_2, next_0_2, out_0_3, next_0_3, out_0_4, next_0_4, out_0_5, next_0_5, out_0_6, next_0_6, out_0_7, out_1_0, next_1_0, out_2_0, next_2_0, out_3_0, next_3_0, lg_0]
    exact piece m c z t hz 0 256 0 rfl _ _ _ (good_next m c z t hz 0 0 256 0 rfl rfl _ _ (good_zero z t 0)) r' e i j (by omega) (by omega)
  · obtain ⟨r', e, rfl⟩ : ∃ (r' : Fin 256) (e : Fin 128), x = ix2 r' e := ⟨x 0, x 1, eq_ix2 x⟩
    replace hx0 : r.val = r'.val := hx0
    replace hx1 : l.val = e.val := hx1
    simp only [dec_0, qd_0, kd_0, cd_0, gw_0, out_0_0, next_0_0, out_0_1, next_0_1, out_0_2, next_0_2, out_0_3, next_0_3, out_0_4, next_0_4, out_0_5, next_0_5, out_0_6, next_0_6, out_0_7, out_1_0, next_1_0, out_2_0, next_2_0, out_3_0, next_3_0, lg_0]
    exact piece m c z t hz 0 0 0 rfl _ _ _ (good_zero z t 0) r' e i j (by omega) (by omega)

/-- Result 1: the halves of argument 2. -/
theorem final11 : (dats m 0 c).arrAt 11 (cfgs 0).N = HALVES (m ((c : Thread nD τ).loc main_arg2)) := by
  refine (dats m 0 c).arrAt_eq_of_covers 11 _ (by decide +kernel) fun t _ y => ?_
  blk_simp
  rw [after0_11]
  have ht : t.val < 8 := lt_of_lt_of_eq t.isLt N_0
  obtain ⟨p, r, l, rfl⟩ : ∃ (p : Fin 2) (r : Fin 128) (l : Fin 1024), y = ix3 p r l := ⟨y 0, y 1, y 2, eq_ix3 y⟩
  have e : ((cfg0.win 11).blk t).view.emb (ix3 p r l) = ix3 p (⟨t.val * 128 + r.val, by omega⟩ : Fin 1024) l := by blk_ext [idxo t]
  refine Eq.trans ?_ ((congrArg (HALVES _) e).trans (halves_apply _ _ _ _)).symm
  unfold outsAt0
  dsimp only
  frame_out
  canon_tiles x hx
  · obtain ⟨p', r', l', rfl⟩ : ∃ (p' : Fin 1) (r' : Fin 128) (l' : Fin 1024), x = ix3 p' r' l' := ⟨x 0, x 1, x 2, eq_ix3 x⟩
    replace hx0 : p.val = 1 + p'.val := hx0
    replace hx1 : r.val = r'.val := hx1
    replace hx2 : l.val = l'.val := hx2
    obtain rfl : r = r' := Fin.ext hx1
    pointwise [k0_pay3]
    exact (read6 m c t r _ (⟨t.val * 128 + r.val, by omega⟩ : Fin 1024) rfl).trans
      (congrArg (fun k => m ((c : Thread nD τ).loc main_arg2) (ix2 _ k)) (Fin.ext (by simp only; omega)))
  · obtain ⟨p', r', l', rfl⟩ : ∃ (p' : Fin 1) (r' : Fin 128) (l' : Fin 1024), x = ix3 p' r' l' := ⟨x 0, x 1, x 2, eq_ix3 x⟩
    replace hx0 : p.val = p'.val := hx0
    replace hx1 : r.val = r'.val := hx1
    replace hx2 : l.val = l'.val := hx2
    obtain rfl : r = r' := Fin.ext hx1
    pointwise [k0_pay2]
    exact (read6 m c t r _ (⟨t.val * 128 + r.val, by omega⟩ : Fin 1024) rfl).trans
      (congrArg (fun k => m ((c : Thread nD τ).loc main_arg2) (ix2 _ k)) (Fin.ext (by simp only; omega)))

/-- Result 2: the halves of argument 3. -/
theorem final12 : (dats m 0 c).arrAt 12 (cfgs 0).N = HALVES (m ((c : Thread nD τ).loc main_arg3)) := by
  refine (dats m 0 c).arrAt_eq_of_covers 12 _ (by decide +kernel) fun t _ y => ?_
  blk_simp
  rw [after0_12]
  have ht : t.val < 8 := lt_of_lt_of_eq t.isLt N_0
  obtain ⟨p, r, l, rfl⟩ : ∃ (p : Fin 2) (r : Fin 128) (l : Fin 1024), y = ix3 p r l := ⟨y 0, y 1, y 2, eq_ix3 y⟩
  have e : ((cfg0.win 12).blk t).view.emb (ix3 p r l) = ix3 p (⟨t.val * 128 + r.val, by omega⟩ : Fin 1024) l := by blk_ext [idxo t]
  refine Eq.trans ?_ ((congrArg (HALVES _) e).trans (halves_apply _ _ _ _)).symm
  unfold outsAt0
  dsimp only
  frame_out
  canon_tiles x hx
  · obtain ⟨p', r', l', rfl⟩ : ∃ (p' : Fin 1) (r' : Fin 128) (l' : Fin 1024), x = ix3 p' r' l' := ⟨x 0, x 1, x 2, eq_ix3 x⟩
    replace hx0 : p.val = 1 + p'.val := hx0
    replace hx1 : r.val = r'.val := hx1
    replace hx2 : l.val = l'.val := hx2
    obtain rfl : r = r' := Fin.ext hx1
    pointwise [k0_pay5]
    exact (read7 m c t r _ (⟨t.val * 128 + r.val, by omega⟩ : Fin 1024) rfl).trans
      (congrArg (fun k => m ((c : Thread nD τ).loc main_arg3) (ix2 _ k)) (Fin.ext (by simp only; omega)))
  · obtain ⟨p', r', l', rfl⟩ : ∃ (p' : Fin 1) (r' : Fin 128) (l' : Fin 1024), x = ix3 p' r' l' := ⟨x 0, x 1, x 2, eq_ix3 x⟩
    replace hx0 : p.val = p'.val := hx0
    replace hx1 : r.val = r'.val := hx1
    replace hx2 : l.val = l'.val := hx2
    obtain rfl : r = r' := Fin.ext hx1
    pointwise [k0_pay4]
    exact (read7 m c t r _ (⟨t.val * 128 + r.val, by omega⟩ : Fin 1024) rfl).trans
      (congrArg (fun k => m ((c : Thread nD τ).loc main_arg3) (ix2 _ k)) (Fin.ext (by simp only; omega)))

/-- Result 3: the halves of argument 4. -/
theorem final13 : (dats m 0 c).arrAt 13 (cfgs 0).N = HALVES (m ((c : Thread nD τ).loc main_arg4)) := by
  refine (dats m 0 c).arrAt_eq_of_covers 13 _ (by decide +kernel) fun t _ y => ?_
  blk_simp
  rw [after0_13]
  have ht : t.val < 8 := lt_of_lt_of_eq t.isLt N_0
  obtain ⟨p, r, l, rfl⟩ : ∃ (p : Fin 2) (r : Fin 128) (l : Fin 1024), y = ix3 p r l := ⟨y 0, y 1, y 2, eq_ix3 y⟩
  have e : ((cfg0.win 13).blk t).view.emb (ix3 p r l) = ix3 p (⟨t.val * 128 + r.val, by omega⟩ : Fin 1024) l := by blk_ext [idxo t]
  refine Eq.trans ?_ ((congrArg (HALVES _) e).trans (halves_apply _ _ _ _)).symm
  unfold outsAt0
  dsimp only
  frame_out
  canon_tiles x hx
  · obtain ⟨p', r', l', rfl⟩ : ∃ (p' : Fin 1) (r' : Fin 128) (l' : Fin 1024), x = ix3 p' r' l' := ⟨x 0, x 1, x 2, eq_ix3 x⟩
    replace hx0 : p.val = 1 + p'.val := hx0
    replace hx1 : r.val = r'.val := hx1
    replace hx2 : l.val = l'.val := hx2
    obtain rfl : r = r' := Fin.ext hx1
    pointwise [k0_pay7]
    exact (read8 m c t r _ (⟨t.val * 128 + r.val, by omega⟩ : Fin 1024) rfl).trans
      (congrArg (fun k => m ((c : Thread nD τ).loc main_arg4) (ix2 _ k)) (Fin.ext (by simp only; omega)))
  · obtain ⟨p', r', l', rfl⟩ : ∃ (p' : Fin 1) (r' : Fin 128) (l' : Fin 1024), x = ix3 p' r' l' := ⟨x 0, x 1, x 2, eq_ix3 x⟩
    replace hx0 : p.val = p'.val := hx0
    replace hx1 : r.val = r'.val := hx1
    replace hx2 : l.val = l'.val := hx2
    obtain rfl : r = r' := Fin.ext hx1
    pointwise [k0_pay6]
    exact (read8 m c t r _ (⟨t.val * 128 + r.val, by omega⟩ : Fin 1024) rfl).trans
      (congrArg (fun k => m ((c : Thread nD τ).loc main_arg4) (ix2 _ k)) (Fin.ext (by simp only; omega)))

/-- The last result: argument 5, its numbers unchanged. -/
theorem final14 : (dats m 0 c).arrAt 14 (cfgs 0).N = m ((c : Thread nD τ).loc main_arg5) := by
  refine (dats m 0 c).arrAt_eq_of_covers 14 _ (by decide +kernel) fun t _ y => ?_
  blk_simp
  rw [after0_14]
  have ht : t.val < 8 := lt_of_lt_of_eq t.isLt N_0
  obtain ⟨r, l, rfl⟩ : ∃ (r : Fin 256) (l : Fin 2048), y = ix2 r l := ⟨y 0, y 1, eq_ix2 y⟩
  have e : ((cfg0.win 14).blk t).view.emb (ix2 r l) = ix2 (⟨t.val * 256 + r.val, by omega⟩ : Fin 2048) l := by blk_ext [idxo t]
  refine Eq.trans ?_ (congrArg (m ((c : Thread nD τ).loc main_arg5)) e).symm
  unfold outsAt0
  dsimp only
  frame_out
  exact read9 m c t r l _ rfl

/-- The reference's first result, at real columns of queries, keys and values. -/
theorem ref_97 (m' : (ℓ : Loc Cert.RetRIdeal.nD Cert.RetRIdeal.τ Cert.RetRIdeal.sig) → Buf (Elt Ideal) ℓ) (c : Dev Cert.RetRIdeal.nD) (z : ℕ → ℕ → ℝ)
    (hz : Cert.RetRIdeal.Value.Rows m' c z) :
    (Cert.RetRIdeal.Value.FIN m' c Cert.RetRIdeal.main_v97 : FVec Ideal S8192x1024 .bf16)
      = fun y => RES z (Cert.RetRIdeal.Value.Z m' c) (m' ((c.tc : Thread Cert.RetRIdeal.nD Cert.RetRIdeal.τ).loc Cert.RetRIdeal.main_arg1)) (y 0) (y 1) := by
  funext y
  obtain ⟨i, j, rfl⟩ : ∃ (i : Fin 8192) (j : Fin 1024), y = ix2 i j := ⟨y 0, y 1, eq_ix2 y⟩
  obtain ⟨b, hb⟩ : ∃ b : Fin 4, b.val = i.val / 2048 := ⟨⟨_, by omega⟩, rfl⟩
  obtain ⟨n, hn⟩ : ∃ n : Fin 2048, n.val = i.val % 2048 := ⟨⟨_, by omega⟩, rfl⟩
  obtain ⟨h, hh⟩ : ∃ h : Fin 8, h.val = j.val / 128 := ⟨⟨_, by omega⟩, rfl⟩
  obtain ⟨e, he⟩ : ∃ e : Fin 128, e.val = j.val % 128 := ⟨⟨_, by omega⟩, rfl⟩
  have ei : i = (⟨b.val * 2048 + n.val, by omega⟩ : Fin 8192) := Fin.ext (by simp only; omega)
  have ej : j = (⟨h.val * 128 + e.val, by omega⟩ : Fin 1024) := Fin.ext (by simp only; omega)
  rw [ei, ej]
  exact (Cert.RetRIdeal.Value.res_97 m' c z hz b h n e).trans (res_at z _ _ _ _ _ b.val h.val n.val e n.isLt rfl rfl rfl).symm

end Cert.RetKIdeal.Value

end
-- ==== Proof.lean ====
/- The certificate: every kernel and reference ends with its arguments unchanged and every counter at zero, each kernel is
   preserved by the idealization, and each idealized call whose value is claimed computes its reference's results. -/
module

public import proofs.«01_k».proof.Defs
public import proofs.«01_k».proof.Proof.Gen.RetK.Frame
public import proofs.«01_k».proof.Proof.Gen.RetKIdeal.Frame
public import proofs.«01_k».proof.Proof.Gen.RetKIdeal.Value
public import proofs.«01_k».proof.Proof.Gen.RetRIdeal.Run
public import proofs.«01_k».proof.Proof.Gen.MemK.Frame
public import proofs.«01_k».proof.Proof.Gen.MemKIdeal.Frame
public import proofs.«01_k».proof.Proof.Gen.MemKIdeal.Value
public import proofs.«01_k».proof.Proof.Gen.MemRIdeal.Run
public import proofs.«01_k».proof.Proof.Gen.PrjK.Frame
public import proofs.«01_k».proof.Proof.Gen.PrjKIdeal.Frame
public import proofs.«01_k».proof.Proof.Gen.PrjKIdeal.Value
public import proofs.«01_k».proof.Proof.Gen.PrjRIdeal.Run
public import proofs.«01_k».proof.Proof.Gen.PreK.Frame
public import proofs.«01_k».proof.Proof.Gen.PreKIdeal.Frame
public import proofs.«01_k».proof.Proof.Gen.PreKIdeal.Value
public import proofs.«01_k».proof.Proof.Gen.PreRIdeal.Run
public import proofs.«01_k».proof.Proof.Gen.MrgK.Frame
public import proofs.«01_k».proof.Proof.Gen.MrgKIdeal.Frame
public import proofs.«01_k».proof.Proof.Gen.MrgKIdeal.Value
public import proofs.«01_k».proof.Proof.Gen.MrgRIdeal.Run
public import proofs.«01_k».proof.Proof.Gen.OutK.Frame
public import proofs.«01_k».proof.Proof.Gen.OutKIdeal.Frame
public import proofs.«01_k».proof.Proof.Gen.OutKIdeal.Value
public import proofs.«01_k».proof.Proof.Gen.OutRIdeal.Run
public import proofs.«01_k».proof.Proof.RetFrame
public import proofs.«01_k».proof.Proof.PrjValue
public import proofs.«01_k».proof.Proof.PreValue
public import proofs.«01_k».proof.Proof.MrgValue
public import proofs.«01_k».proof.Proof.OutValue
public import proofs.«01_k».proof.Proof.MemValue
public import proofs.«01_k».proof.Proof.RetValue
public import proofs.«01_k».proof.Proof.Gen.Pre_finite_attention
public import proofs.«01_k».proof.Proof.Gen.Pre_finite_retention
public import Idealize.ShloMosaic.Lib.Claim
public import Idealize.ShloMosaic.Lib.ReduceAll

@[expose] public section

set_option maxRecDepth 16384

noncomputable section

open Idealize.ShloMosaic Idealize.ShloMosaic.TcCoe Idealize.SL.Sem

namespace Cert.Proof

/-- The kernel of the retention call leaves its arguments as they were and its counters at zero. -/
theorem frame_RetK [hRetK : Cert.RetK.Facts] : Cert.quiescent_RetK :=
  fun m ρ _ => Cert.RetK.Gen.frame m ρ

/-- The idealized kernel of the retention call leaves its arguments as they were and its counters at zero. -/
theorem frame_RetKIdeal [hRetKIdeal : Cert.RetKIdeal.Facts] : Cert.quiescent_RetKIdeal :=
  fun m ρ _ => Cert.RetKIdeal.Gen.frame m ρ

/-- The same, under the precondition of the value claim. -/
theorem frame_RetKIdeal_pre [hRetKIdeal : Cert.RetKIdeal.Facts] [hPre_finite_retention : Cert.Pre_finite_retention.Facts] : Cert.quiescent_RetKIdeal_pre_finite_retention :=
  fun m ρ _ => Cert.RetKIdeal.Gen.frame m ρ

/-- The reference of the retention call leaves its arguments as they were and its counters at zero. -/
theorem frame_RetRIdeal [hRetRIdeal : Cert.RetRIdeal.Facts] : Cert.quiescent_RetRIdeal := fun m ρ _ =>
  (θ_run Cert.RetRIdeal.defs _ _).mono
    (fun r h => ⟨fun c => ⟨(h c Cert.RetRIdeal.main_arg0 (by decide)).trans (Cert.RetRIdeal.Value.final_keeps m c _ (by decide +kernel)), (h c Cert.RetRIdeal.main_arg1 (by decide)).trans (Cert.RetRIdeal.Value.final_keeps m c _ (by decide +kernel)), (h c Cert.RetRIdeal.main_arg2 (by decide)).trans (Cert.RetRIdeal.Value.final_keeps m c _ (by decide +kernel)), (h c Cert.RetRIdeal.main_arg3 (by decide)).trans (Cert.RetRIdeal.Value.final_keeps m c _ (by decide +kernel)), (h c Cert.RetRIdeal.main_arg4 (by decide)).trans (Cert.RetRIdeal.Value.final_keeps m c _ (by decide +kernel)), (h c Cert.RetRIdeal.main_arg5 (by decide)).trans (Cert.RetRIdeal.Value.final_keeps m c _ (by decide +kernel))⟩,
      Idealize.ShloMosaic.sem_eq_zero_of_no_sems (by decide) r.2⟩) (Cert.RetRIdeal.Value.run_fold m ρ)

/-- The same, under the precondition of the value claim. -/
theorem frame_RetRIdeal_pre [hRetRIdeal : Cert.RetRIdeal.Facts] [hPre_finite_retention : Cert.Pre_finite_retention.Facts] : Cert.quiescent_RetRIdeal_pre_finite_retention := fun m ρ _ =>
  frame_RetRIdeal m ρ trivial

/-- Under the precondition the columns of queries, keys and values are real numbers. -/
theorem finite_Ret [hPre_finite_retention : Cert.Pre_finite_retention.Facts]
    (m : (ℓ : Loc Cert.RetKIdeal.nD Cert.RetKIdeal.τ Cert.RetKIdeal.sig) → Buf (Elt Ideal) ℓ)
    (h : Cert.Pre_RetKIdeal_finite_retention m) (c : Dev Cert.RetKIdeal.nD) : ∃ z : ℕ → ℕ → ℝ, Cert.RetKIdeal.Value.RowsK m c z := by
  refine ⟨fun a b => (Cert.RetKIdeal.Value.ZK m c (ix2 (Fin.ofNat 8192 a) (Fin.ofNat 17408 b))).toReal, fun i l hl => ?_⟩
  have ei : Fin.ofNat 8192 i.val = i := Fin.ext (Nat.mod_eq_of_lt i.isLt)
  have el : Fin.ofNat 17408 l.val = l := Fin.ext (Nat.mod_eq_of_lt l.isLt)
  have e := congrFun (h c) (fun a => a.elim0)
  dsimp only [Cert.Pre_finite_retention.fn] at e
  obtain ⟨r, hr⟩ := Cert.Scalar.real_of_olt (Host.reduce_andi_all _ _ _ _ _ e (ix2 i (⟨l.val, hl⟩ : Fin 3072)))
  have hr' : Cert.RetKIdeal.Value.ZK m c (ix2 i l) = (r : EReal) := by
    refine Eq.trans (congrArg _ ?_) hr
    funext a; apply Fin.ext; fin_cases a <;> simp [ix2]
  simp only [ei, el, hr', EReal.toReal_coe]

set_option maxHeartbeats 2000000 in
/-- The retention call's results are its reference's, at finite queries, keys and values. -/
theorem value_Ret [hRetKIdeal : Cert.RetKIdeal.Facts] [hRetRIdeal : Cert.RetRIdeal.Facts]
    [hPre_finite_retention : Cert.Pre_finite_retention.Facts] : Cert.algebraic_RetKIdeal_RetRIdeal_pre_finite_retention := by
  pair_intro
  · run_from Cert.RetKIdeal.Value.run_blocks m g
  run_from Cert.RetRIdeal.Value.run_results m' g'
  all_goals obtain ⟨h0, h1, h2, h3, h4, h5⟩ := hagree c
  · obtain ⟨z, hz⟩ := finite_Ret m hpre c
    have hz' : Cert.RetRIdeal.Value.Rows m' c z := by
      unfold Cert.RetRIdeal.Value.Rows Cert.RetRIdeal.Value.Z
      rw [h0]
      exact hz
    refine (Cert.RetKIdeal.Value.ref_97 m' c z hz').trans (Eq.trans ?_ (Cert.RetKIdeal.Value.final10 m c z hz).symm)
    unfold Cert.RetRIdeal.Value.Z
    rw [h0, h1]
    rfl
  · exact (Cert.RetRIdeal.Value.res_103 m' c).trans ((congrArg Cert.RetRIdeal.Value.HALVES h2).trans (Cert.RetKIdeal.Value.final11 m c).symm)
  · exact (Cert.RetRIdeal.Value.res_109 m' c).trans ((congrArg Cert.RetRIdeal.Value.HALVES h3).trans (Cert.RetKIdeal.Value.final12 m c).symm)
  · exact (Cert.RetRIdeal.Value.res_115 m' c).trans ((congrArg Cert.RetRIdeal.Value.HALVES h4).trans (Cert.RetKIdeal.Value.final13 m c).symm)
  · exact (Cert.RetRIdeal.Value.res_116 m' c).trans (h5.trans (Cert.RetKIdeal.Value.final14 m c).symm)

/-- The kernel of the memory attention call leaves its arguments as they were and its counters at zero. -/
theorem frame_MemK [hMemK : Cert.MemK.Facts] : Cert.quiescent_MemK :=
  fun m ρ _ => Cert.MemK.Gen.frame m ρ

/-- The idealized kernel of the memory attention call leaves its arguments as they were and its counters at zero. -/
theorem frame_MemKIdeal [hMemKIdeal : Cert.MemKIdeal.Facts] : Cert.quiescent_MemKIdeal :=
  fun m ρ _ => Cert.MemKIdeal.Gen.frame m ρ

/-- The same, under the precondition of the value claim. -/
theorem frame_MemKIdeal_pre [hMemKIdeal : Cert.MemKIdeal.Facts] [hPre_finite_attention : Cert.Pre_finite_attention.Facts] : Cert.quiescent_MemKIdeal_pre_finite_attention :=
  fun m ρ _ => Cert.MemKIdeal.Gen.frame m ρ

/-- The reference of the memory attention call leaves its arguments as they were and its counters at zero. -/
theorem frame_MemRIdeal [hMemRIdeal : Cert.MemRIdeal.Facts] : Cert.quiescent_MemRIdeal := fun m ρ _ =>
  (θ_run Cert.MemRIdeal.defs _ _).mono
    (fun r h => ⟨fun c => (h c).2, Idealize.ShloMosaic.sem_eq_zero_of_no_sems (by decide) r.2⟩) (Cert.MemRIdeal.Value.run m ρ)

/-- The same, under the precondition of the value claim. -/
theorem frame_MemRIdeal_pre [hMemRIdeal : Cert.MemRIdeal.Facts] [hPre_finite_attention : Cert.Pre_finite_attention.Facts] : Cert.quiescent_MemRIdeal_pre_finite_attention := fun m ρ _ =>
  frame_MemRIdeal m ρ trivial

/-- Under the precondition the queries, the memory, the norm's weights and the key weights are real numbers. -/
theorem finite_Mem [hPre_finite_attention : Cert.Pre_finite_attention.Facts]
    (m : (ℓ : Loc Cert.MemKIdeal.nD Cert.MemKIdeal.τ Cert.MemKIdeal.sig) → Buf (Elt Ideal) ℓ)
    (h : Cert.Pre_MemKIdeal_finite_attention m) (c : Dev Cert.MemKIdeal.nD) : Cert.MemKIdeal.Value.Finite m c := by
  have e := congrFun (h c) (fun a => a.elim0)
  dsimp only [Cert.Pre_finite_attention.fn, Cert.Pre_finite_attention.fn_part1] at e
  obtain ⟨e, e3⟩ := IntOp.andi_eq_one.1 e
  obtain ⟨e, e2⟩ := IntOp.andi_eq_one.1 e
  obtain ⟨e0, e1⟩ := IntOp.andi_eq_one.1 e
  refine ⟨fun i l => ?_, fun b x d => ?_, fun d => ?_, fun d l => ?_⟩
  · obtain ⟨r, hr⟩ := Cert.Scalar.real_of_olt (Host.reduce_andi_all _ _ _ _ _ e0 (ix2 i l))
    refine ⟨r, Eq.trans (congrArg _ ?_) hr⟩
    funext a; apply Fin.ext; fin_cases a <;> simp [ix2]
  · exact Cert.Scalar.real_of_olt (Host.reduce_andi_all _ _ _ _ _ e1 (ix3 b x d))
  · exact Cert.Scalar.real_of_olt (Host.reduce_andi_all _ _ _ _ _ e2 (ix1 d))
  · obtain ⟨r, hr⟩ := Cert.Scalar.real_of_olt (Host.reduce_andi_all _ _ _ _ _ e3 (ix2 d l))
    refine ⟨r, Eq.trans (congrArg _ ?_) hr⟩
    funext a; apply Fin.ext; fin_cases a <;> simp [ix2]

/-- The memory attention call's result is its reference's. -/
theorem value_Mem [hMemKIdeal : Cert.MemKIdeal.Facts] [hMemRIdeal : Cert.MemRIdeal.Facts]
    [hPre_finite_attention : Cert.Pre_finite_attention.Facts] : Cert.algebraic_MemKIdeal_MemRIdeal_pre_finite_attention := by
  pair_intro
  · run_from Cert.MemKIdeal.Value.run_blocks m g
  run_from Cert.MemRIdeal.Value.run m' g'
  obtain ⟨h0, h1, h2, h3⟩ := hagree c
  refine (Cert.MemRIdeal.Value.res_eq m' c).trans (Eq.trans ?_ (Cert.MemKIdeal.Value.final m c (finite_Mem m hpre c)).symm)
  rw [h0, h1, h2, h3]

/-- The kernel of the input projection leaves its arguments as they were and its counters at zero. -/
theorem frame_PrjK [hPrjK : Cert.PrjK.Facts] : Cert.quiescent_PrjK :=
  fun m ρ _ => Cert.PrjK.Gen.frame m ρ

/-- The idealized kernel of the input projection leaves its arguments as they were and its counters at zero. -/
theorem frame_PrjKIdeal [hPrjKIdeal : Cert.PrjKIdeal.Facts] : Cert.quiescent_PrjKIdeal :=
  fun m ρ _ => Cert.PrjKIdeal.Gen.frame m ρ

/-- The reference of the input projection leaves its arguments as they were and its counters at zero. -/
theorem frame_PrjRIdeal [hPrjRIdeal : Cert.PrjRIdeal.Facts] : Cert.quiescent_PrjRIdeal := fun m ρ _ =>
  (θ_run Cert.PrjRIdeal.defs _ _).mono
    (fun r h => ⟨fun c => (h c).2, Idealize.ShloMosaic.sem_eq_zero_of_no_sems (by decide) r.2⟩) (Cert.PrjRIdeal.Value.run m ρ)

/-- The input projection's results are its reference's. -/
theorem value_Prj [hPrjKIdeal : Cert.PrjKIdeal.Facts] [hPrjRIdeal : Cert.PrjRIdeal.Facts] : Cert.algebraic_PrjKIdeal_PrjRIdeal := by
  pair_intro
  · run_from Cert.PrjKIdeal.Value.run_blocks m g
  run_from Cert.PrjRIdeal.Value.run m' g'
  exact (Cert.PrjKIdeal.Value.final m c).symm

/-- The kernel of the pre-norm leaves its arguments as they were and its counters at zero. -/
theorem frame_PreK [hPreK : Cert.PreK.Facts] : Cert.quiescent_PreK :=
  fun m ρ _ => Cert.PreK.Gen.frame m ρ

/-- The idealized kernel of the pre-norm leaves its arguments as they were and its counters at zero. -/
theorem frame_PreKIdeal [hPreKIdeal : Cert.PreKIdeal.Facts] : Cert.quiescent_PreKIdeal :=
  fun m ρ _ => Cert.PreKIdeal.Gen.frame m ρ

/-- The reference of the pre-norm leaves its arguments as they were and its counters at zero. -/
theorem frame_PreRIdeal [hPreRIdeal : Cert.PreRIdeal.Facts] : Cert.quiescent_PreRIdeal := fun m ρ _ =>
  (θ_run Cert.PreRIdeal.defs _ _).mono
    (fun r h => ⟨fun c => (h c).2.2, Idealize.ShloMosaic.sem_eq_zero_of_no_sems (by decide) r.2⟩) (Cert.PreRIdeal.Value.run m ρ)

/-- The pre-norm's results are its reference's. -/
theorem value_Pre [hPreKIdeal : Cert.PreKIdeal.Facts] [hPreRIdeal : Cert.PreRIdeal.Facts] : Cert.algebraic_PreKIdeal_PreRIdeal := by
  pair_intro
  · run_from Cert.PreKIdeal.Value.run_blocks m g
  run_from Cert.PreRIdeal.Value.run m' g'
  · exact (Cert.PreKIdeal.Value.final m c).symm
  · exact (Cert.PreKIdeal.Value.finalI m c).symm

/-- The kernel of the merge leaves its arguments as they were and its counters at zero. -/
theorem frame_MrgK [hMrgK : Cert.MrgK.Facts] : Cert.quiescent_MrgK :=
  fun m ρ _ => Cert.MrgK.Gen.frame m ρ

/-- The idealized kernel of the merge leaves its arguments as they were and its counters at zero. -/
theorem frame_MrgKIdeal [hMrgKIdeal : Cert.MrgKIdeal.Facts] : Cert.quiescent_MrgKIdeal :=
  fun m ρ _ => Cert.MrgKIdeal.Gen.frame m ρ

/-- The reference of the merge leaves its arguments as they were and its counters at zero. -/
theorem frame_MrgRIdeal [hMrgRIdeal : Cert.MrgRIdeal.Facts] : Cert.quiescent_MrgRIdeal := fun m ρ _ =>
  (θ_run Cert.MrgRIdeal.defs _ _).mono
    (fun r h => ⟨fun c => (h c).2, Idealize.ShloMosaic.sem_eq_zero_of_no_sems (by decide) r.2⟩) (Cert.MrgRIdeal.Value.run m ρ)

/-- The merge's results are its reference's. -/
theorem value_Mrg [hMrgKIdeal : Cert.MrgKIdeal.Facts] [hMrgRIdeal : Cert.MrgRIdeal.Facts] : Cert.algebraic_MrgKIdeal_MrgRIdeal := by
  pair_intro
  · run_from Cert.MrgKIdeal.Value.run_blocks m g
  run_from Cert.MrgRIdeal.Value.run m' g'
  obtain ⟨-, -, -, h3, h4, h5, -⟩ := hagree c
  refine Eq.trans ?_ (Cert.MrgKIdeal.Value.final m c).symm
  rw [← h3, ← h4, ← h5]
  rfl

/-- The kernel of the output projection leaves its arguments as they were and its counters at zero. -/
theorem frame_OutK [hOutK : Cert.OutK.Facts] : Cert.quiescent_OutK :=
  fun m ρ _ => Cert.OutK.Gen.frame m ρ

/-- The idealized kernel of the output projection leaves its arguments as they were and its counters at zero. -/
theorem frame_OutKIdeal [hOutKIdeal : Cert.OutKIdeal.Facts] : Cert.quiescent_OutKIdeal :=
  fun m ρ _ => Cert.OutKIdeal.Gen.frame m ρ

/-- The reference of the output projection leaves its arguments as they were and its counters at zero. -/
theorem frame_OutRIdeal [hOutRIdeal : Cert.OutRIdeal.Facts] : Cert.quiescent_OutRIdeal := fun m ρ _ =>
  (θ_run Cert.OutRIdeal.defs _ _).mono
    (fun r h => ⟨fun c => (h c).2, Idealize.ShloMosaic.sem_eq_zero_of_no_sems (by decide) r.2⟩) (Cert.OutRIdeal.Value.run m ρ)

/-- The output projection's results are its reference's. -/
theorem value_Out [hOutKIdeal : Cert.OutKIdeal.Facts] [hOutRIdeal : Cert.OutRIdeal.Facts] : Cert.algebraic_OutKIdeal_OutRIdeal := by
  pair_intro
  · run_from Cert.OutKIdeal.Value.run_blocks m g
  run_from Cert.OutRIdeal.Value.run m' g'
  exact (Cert.OutKIdeal.Value.final m c).symm

/-- Everything claimed. -/
theorem claim : Cert.Claim :=
  ⟨Cert.RetK.Gen.facts, Cert.RetKIdeal.Gen.facts, Cert.RetRIdeal.Gen.facts, Cert.MemK.Gen.facts, Cert.MemKIdeal.Gen.facts, Cert.MemRIdeal.Gen.facts, Cert.PrjK.Gen.facts, Cert.PrjKIdeal.Gen.facts, Cert.PrjRIdeal.Gen.facts, Cert.PreK.Gen.facts, Cert.PreKIdeal.Gen.facts, Cert.PreRIdeal.Gen.facts, Cert.MrgK.Gen.facts, Cert.MrgKIdeal.Gen.facts, Cert.MrgRIdeal.Gen.facts, Cert.OutK.Gen.facts, Cert.OutKIdeal.Gen.facts, Cert.OutRIdeal.Gen.facts, Cert.Pre_finite_retention.Gen.facts, Cert.Pre_finite_attention.Gen.facts,
    frame_RetK, frame_RetKIdeal, frame_RetKIdeal_pre, frame_RetRIdeal, frame_RetRIdeal_pre, frame_MemK, frame_MemKIdeal, frame_MemKIdeal_pre, frame_MemRIdeal, frame_MemRIdeal_pre, frame_PrjK, frame_PrjKIdeal, frame_PrjRIdeal, frame_PreK, frame_PreKIdeal, frame_PreRIdeal, frame_MrgK, frame_MrgKIdeal, frame_MrgRIdeal, frame_OutK, frame_OutKIdeal, frame_OutRIdeal, trivial, value_Ret, trivial, value_Mem, trivial, value_Prj, trivial, value_Pre, trivial, value_Mrg, trivial, value_Out⟩

end Cert.Proof

end
